-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))).1 = (fun _ => 1#1)
    ∧ (Cert.Pre_separated.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))).1 = (fun _ => 1#1)
    ∧ (Cert.Pre_separated.fn (F := Ideal) (m ((c.tc : Thread Cert.ReferenceIdeal.nD Cert.ReferenceIdeal.τ).loc Cert.ReferenceIdeal.main_arg0))).2 = (fun _ => 1#1)

def Pre_Reference2Ideal (m : (ℓ : Loc Cert.Reference2Ideal.nD Cert.Reference2Ideal.τ Cert.Reference2Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel2_Kernel2Ideal : Prop :=
  True

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel2 : Cert.Kernel2.Facts) (hKernel2Ideal : Cert.Kernel2Ideal.Facts) (hKernel : Cert.Kernel.Facts) (hKernelIdeal : Cert.KernelIdeal.Facts) (hReferenceIdeal : Cert.ReferenceIdeal.Facts) (hReference2Ideal : Cert.Reference2Ideal.Facts) (hPre_separated : Cert.Pre_separated.Facts),
    quiescent_Kernel2 (hKernel2 := hKernel2)
    ∧ quiescent_Kernel2Ideal (hKernel2Ideal := hKernel2Ideal)
    ∧ quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Reference2Ideal (hReference2Ideal := hReference2Ideal)
    ∧ preserves_Kernel2_Kernel2Ideal
    ∧ preserves_Kernel_KernelIdeal
    ∧ algebraic_KernelIdeal_ReferenceIdeal_pre_separated (hKernelIdeal := hKernelIdeal) (hReferenceIdeal := hReferenceIdeal) (hPre_separated := hPre_separated)
    ∧ algebraic_Kernel2Ideal_Reference2Ideal (hKernel2Ideal := hKernel2Ideal) (hReference2Ideal := hReference2Ideal)
-- ==== Pre_separated.lean ====
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x64 : Shape := ⟨2, ![10000, 64]⟩

class Facts : Prop where
  reducesTo_S10000x3_S10000_d1 : S10000x3.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  sliceFits_S10000x10000_S10000x64 : S10000x10000.Slices (fun _ => 0) S10000x64
  slices_S10000x64_S10000x1_0_63 : S10000x64.Slices ![0, 63] S10000x1
  shapeCasts_S10000x1_S10000 : S10000x1.ShapeCasts S10000
  bcast_S_S10000x1 : S_.BroadcastsInDim S10000x1 (![] : Fin 0 → Fin S10000x1.rank)
  reducesTo_S10000x10000_S10000_d1 : S10000x10000.ReducesTo [1] S10000
  bcast_S_S10000x3 : S_.BroadcastsInDim S10000x3 (![] : Fin 0 → Fin S10000x3.rank)
  bcast_S_S10000 : S_.BroadcastsInDim S10000 (![] : Fin 0 → Fin S10000.rank)
  dot_S10000x3_S3x10000_S10000x10000_1_0_0_1_n_n_wf : DotDims.WF S10000x3 S3x10000 S10000x10000 [1] [0] [0] [1] [] []

variable [Facts]

def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf
def fn_where {F : FTy → Type} [FloatOps F] (arg0 : IVec S10000x10000 1) (arg1 : FVec F S10000x10000 .f32) (arg2 : FVec F S_ .f32) : FVec F S10000x10000 .f32 :=
  let v0 : FVec F S_ .f32 := id arg2
  let v1 : FVec F S10000x10000 .f32 := broadcastInDim S10000x10000 ![] bcast_S_S10000x10000 v0
  let v2 : FVec F S10000x10000 .f32 := select arg0 arg1 v1
  v2

def fn_part2 {F : FTy → Type} [FloatOps F] (main_v26 : FVec F S10000 .f32) (main_v31 : IVec S10000x3 1) (main_v33 : IVec S10000 1) (main_v34 : FVec F S10000 .f32) : IVec S10000x3 1 × IVec S10000 1 :=
  let main_v35 : IVec S10000 1 := cmpf .ole main_v26 main_v34
  let main_v36 : IVec S10000 1 := ori main_v33 main_v35
  (main_v31, main_v36)

def fn_part1 {F : FTy → Type} [FloatOps F] (main_arg0 : FVec F S10000x3 .f32) (main_v17 : FVec F S10000x10000 .f32) (main_values : FVec F S10000x64 .f32) : IVec S10000x3 1 × IVec S10000 1 :=
  let main_indices : IVec S10000x64 32 := (fun x => (Host.topK S10000x64 1 (FloatOps.cmpfTotal .gt) x sliceFits_S10000x10000_S10000x64).2) main_v17
  let main_v18 : FVec F S10000x1 .f32 := (extractStridedSlice S10000x1 ![0, 63] · slices_S10000x64_S10000x1_0_63) main_values
  let main_v19 : FVec F S10000 .f32 := shapeCast S10000 main_v18 shapeCasts_S10000x1_S10000
  let main_v20 : FVec F S10000x1 .f32 := broadcastInDim S10000x1 ![0] bcast_S10000_S10000x1_0 main_v19
  let main_cst_4 : FVec F S_ .f32 := constant S_ .f32 0x2B23D70A#32
  let main_v21 : FVec F S10000x1 .f32 := broadcastInDim S10000x1 ![] bcast_S_S10000x1 main_cst_4
  let main_v22 : FVec F S10000x1 .f32 := subf main_v20 main_v21
  let main_v23 : FVec F S10000x10000 .f32 := broadcastInDim S10000x10000 ![0, 1] bcast_S10000x1_S10000x10000_0_1 main_v22
  let main_v24 : IVec S10000x10000 1 := cmpf .oge main_v17 main_v23
  let main_v25 : FVec F S10000x10000 .f32 := uitofp .f32 main_v24
  let main_cst_5 : FVec F S_ .f32 := constant S_ .f32 0x00000000#32
  let main_v26 : FVec F S10000 .f32 := (fun x v => Host.reduceAdd x v reducesTo_S10000x10000_S10000_d1 h_S_) main_v25 main_cst_5
  let main_cst_6 : FVec F S_ .f32 := constant S_ .f32 0x00000000#32
  let main_v27 : FVec F S10000x3 .f32 := broadcastInDim S10000x3 ![] bcast_S_S10000x3 main_cst_6
  let main_v28 : IVec S10000x3 1 := cmpf .oge main_arg0 main_v27
  let main_cst_7 : FVec F S_ .f32 := constant S_ .f32 0x3F800000#32
  let main_v29 : FVec F S10000x3 .f32 := broadcastInDim S10000x3 ![] bcast_S_S10000x3 main_cst_7
  let main_v30 : IVec S10000x3 1 := cmpf .ole main_arg0 main_v29
  let main_v31 : IVec S10000x3 1 := andi main_v28 main_v30
  let main_cst_8 : FVec F S_ .f32 := constant S_ .f32 0xFF800000#32
  let main_v32 : FVec F S10000 .f32 := broadcastInDim S10000 ![] bcast_S_S10000 main_cst_8
  let main_v33 : IVec S10000 1 := cmpf .oeq main_v19 main_v32
  let main_cst_9 : FVec F S_ .f32 := constant S_ .f32 0x42800000#32
  let main_v34 : FVec F S10000 .f32 := broadcastInDim S10000 ![] bcast_S_S10000 main_cst_9
  fn_part2 (F := F) main_v26 main_v31 main_v33 main_v34

def fn {F : FTy → Type} [FloatOps F] (main_arg0 : FVec F S10000x3 .f32) : IVec S10000x3 1 × IVec S10000 1 :=
  let main_v0 : FVec F S10000x3 .f32 := mulf main_arg0 main_arg0
  let main_cst : FVec F S_ .f32 := constant S_ .f32 0x00000000#32
  let main_v1 : FVec F S10000 .f32 := (fun x v => Host.reduceAdd x v reducesTo_S10000x3_S10000_d1 h_S_) main_v0 main_cst
  let main_v2 : FVec F S10000x1 .f32 := broadcastInDim S10000x1 ![0] bcast_S10000_S10000x1_0 main_v1
  let main_v3 : FVec F S1x10000 .f32 := broadcastInDim S1x10000 ![1] bcast_S10000_S1x10000_1 main_v1
  let main_v4 : FVec F S10000x10000 .f32 := broadcastInDim S10000x10000 ![0, 1] bcast_S10000x1_S10000x10000_0_1 main_v2
  let main_v5 : FVec F S10000x10000 .f32 := broadcastInDim S10000x10000 ![0, 1] bcast_S1x10000_S10000x10000_0_1 main_v3
  let main_v6 : FVec F S10000x10000 .f32 := addf main_v4 main_v5
  let main_v7 : FVec F S3x10000 .f32 := (transpose S3x10000 [1, 0] · transposes_S10000x3_S3x10000_1_0) main_arg0
  let main_v8 : FVec F S10000x10000 .f32 := (fun l r => Host.dotGeneral dot_S10000x3_S3x10000_S10000x10000_1_0_0_1_n_n none l r) main_arg0 main_v7
  let main_cst_0 : FVec F S_ .f32 := constant S_ .f32 0x40000000#32
  let main_v9 : FVec F S10000x10000 .f32 := broadcastInDim S10000x10000 ![] bcast_S_S10000x10000 main_cst_0
  let main_v10 : FVec F S10000x10000 .f32 := mulf main_v9 main_v8
  let main_v11 : FVec F S10000x10000 .f32 := subf main_v6 main_v10
  let main_cst_1 : FVec F S_ .f32 := constant S_ .f32 0x00000000#32
  let main_v12 : FVec F S10000x10000 .f32 := broadcastInDim S10000x10000 ![] bcast_S_S10000x10000 main_cst_1
  let main_v13 : FVec F S10000x10000 .f32 := maximumf main_v11 main_v12
  let main_cst_2 : FVec F S_ .f32 := constant S_ .f32 0x3C23D70A#32
  let main_v14 : FVec F S10000x10000 .f32 := broadcastInDim S10000x10000 ![] bcast_S_S10000x10000 main_cst_2
  let main_v15 : IVec S10000x10000 1 := cmpf .ole main_v13 main_v14
  let main_v16 : FVec F S10000x10000 .f32 := Host.negf main_v13
  let main_cst_3 : FVec F S_ .f32 := constant S_ .f32 0xFF800000#32
  let main_v17 : FVec F S10000x10000 .f32 := fn_where (F := F) main_v15 main_v16 main_cst_3
  let main_values : FVec F S10000x64 .f32 := (fun x => (Host.topK S10000x64 1 (FloatOps.cmpfTotal .gt) x sliceFits_S10000x10000_S10000x64).1) main_v17
  fn_part1 (F := F) main_arg0 main_v17 main_values
-- ==== Kernel2.lean ====
abbrev S16x80x128 : Shape := ⟨3, ![16, 80, 128]⟩
abbrev S9x80x128 : Shape := ⟨3, ![9, 80, 128]⟩
abbrev S1x80x128 : Shape := ⟨3, ![1, 80, 128]⟩
abbrev S80x128 : Shape := ⟨2, ![80, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x80x128, .f32⟩
  | .hbm, ⟨1, _⟩ => ⟨S9x80x128, .f32⟩
  | .hbm, ⟨2, _⟩ => ⟨S1x80x128, .f32⟩
  | .hbm, ⟨3, _⟩ => ⟨S9x80x128, .f32⟩
  | .local _ .vmem, ⟨0, _⟩ => ⟨S16x80x128, .f32⟩
  | .local _ .vmem, ⟨1, _⟩ => ⟨S9x80x128, .f32⟩
  | .local _ .vmem, ⟨2, _⟩ => ⟨S1x80x128, .f32⟩
  | .local _ .vmem, ⟨3, _⟩ => ⟨S9x80x128, .f32⟩
  | _, _ => ⟨S16x80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v49 : BitVec 32 := Scalar.addi c0_i32 c12_i32
  let c1_i32 : BitVec 32 := 1#32
  ⟨c0_i32, v49, c1_i32⟩
abbrev stage0_0 : Fin 1 → Memref sig .tc .vmem S16x80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Kernel.lean ====
abbrev S10000x3 : Shape := ⟨2, ![10000, 3]⟩
abbrev S_ : Shape := ⟨0, ![]⟩
abbrev S240x3 : Shape := ⟨2, ![240, 3]⟩
abbrev S10240x3 : Shape := ⟨2, ![10240, 3]⟩
abbrev S3x10240 : Shape := ⟨2, ![3, 10240]⟩
abbrev S10240x16 : Shape := ⟨2, ![10240, 16]⟩
abbrev S256x3 : Shape := ⟨2, ![256, 3]⟩
abbrev S256x16 : Shape := ⟨2, ![256, 16]⟩
abbrev S256x10240 : Shape := ⟨2, ![256, 10240]⟩
abbrev S256x1 : Shape := ⟨2, ![256, 1]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S10000x10 : Shape := ⟨2, ![10000, 10]⟩

abbrev nBuf : Space → Nat
  | .hbm => 7
  | .vmem => 6
  | .smem => 0
  | _ => 0

abbrev bufTy : (tb : Table) → Fin (tcTables nBuf tb) → BufTy
  | .hbm, ⟨0, _⟩ => ⟨S10000x3, .f32⟩
  | .hbm, ⟨1, _⟩ => ⟨S_, .f32⟩
  | .hbm, ⟨2, _⟩ => ⟨S240x3, .f32⟩
  | .hbm, ⟨3, _⟩ => ⟨S10240x3, .f32⟩
  | .hbm, ⟨4, _⟩ => ⟨S3x10240, .f32⟩
  | .hbm, ⟨5, _⟩ => ⟨S10240x16, .f32⟩
  | .hbm, ⟨6, _⟩ => ⟨S10000x10, .f32⟩
  | .local _ .vmem, ⟨0, _⟩ => ⟨S256x3, .f32⟩
  | .local _ .vmem, ⟨1, _⟩ => ⟨S256x3, .f32⟩
  | .local _ .vmem, ⟨2, _⟩ => ⟨S3x10240, .f32⟩
  | .local _ .vmem, ⟨3, _⟩ => ⟨S256x16, .f32⟩
  | .local _ .vmem, ⟨4, _⟩ => ⟨S256x16, .f32⟩
  | .local _ .vmem, ⟨5, _⟩ => ⟨S256x10240, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c34_i32 : BitVec 32 := 34#32
  let v313 : BitVec 32 := Scalar.addi c0_i32 c34_i32
  let c1_i32 : BitVec 32 := 1#32
  ⟨c0_i32, v313, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x64 : Shape := ⟨2, ![10000, 64]⟩
abbrev S10000x64x1 : Shape := ⟨3, ![10000, 64, 1]⟩
abbrev S10000x64x3 : Shape := ⟨3, ![10000, 64, 3]⟩
abbrev S10000x1x3 : Shape := ⟨3, ![10000, 1, 3]⟩
abbrev S10000x3x3 : Shape := ⟨3, ![10000, 3, 3]⟩
abbrev S10000x9 : Shape := ⟨2, ![10000, 9]⟩
abbrev S10000x10 : Shape := ⟨2, ![10000, 10]⟩

abbrev nBuf : Space → Nat
  | .hbm => 57
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000x3, .f32⟩
  | .hbm, ⟨2, _⟩ => ⟨S_, .f32⟩
  | .hbm, ⟨3, _⟩ => ⟨S10000, .f32⟩
  | .hbm, ⟨4, _⟩ => ⟨S10000x1, .f32⟩
  | .hbm, ⟨5, _⟩ => ⟨S1x10000, .f32⟩
  | .hbm, ⟨6, _⟩ => ⟨S10000x10000, .f32⟩
  | .hbm, ⟨7, _⟩ => ⟨S10000x10000, .f32⟩
  | .hbm, ⟨8, _⟩ => ⟨S10000x10000, .f32⟩
  | .hbm, ⟨9, _⟩ => ⟨S3x10000, .f32⟩
  | .hbm, ⟨10, _⟩ => ⟨S10000x10000, .f32⟩
  | .hbm, ⟨11, _⟩ => ⟨S_, .f32⟩
  | .hbm, ⟨12, _⟩ => ⟨S10000x10000, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S10000x10000, .f32⟩
  | .hbm, ⟨20, _⟩ => ⟨S10000x10000, .i1⟩
  | .hbm, ⟨21, _⟩ => ⟨S10000x10000, .f32⟩
  | .hbm, ⟨22, _⟩ => ⟨S_, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S10000x64, .f32⟩
  | .hbm, ⟨27, _⟩ => ⟨S10000x64, .i32⟩
  | .hbm, ⟨28, _⟩ => ⟨S_, .f32⟩
  | .hbm, ⟨29, _⟩ => ⟨S10000x64, .f32⟩
  | .hbm, ⟨30, _⟩ => ⟨S10000x64, .i1⟩
  | .hbm, ⟨31, _⟩ => ⟨S10000x64, .f32⟩
  | .hbm, ⟨32, _⟩ => ⟨S10000x64x1, .f32⟩
  | .hbm, ⟨33, _⟩ => ⟨S_, .i32⟩
  | .hbm, ⟨34, _⟩ => ⟨S10000x64, .i32⟩
  | .hbm, ⟨35, _⟩ => ⟨S10000x64, .i1⟩
  | .hbm, ⟨36, _⟩ => ⟨S_, .i32⟩
  | .hbm, ⟨37, _⟩ => ⟨S10000x64, .i32⟩
  | .hbm, ⟨38, _⟩ => ⟨S10000x64, .i32⟩
  | .hbm, ⟨39, _⟩ => ⟨S10000x64, .i32⟩
  | .hbm, ⟨40, _⟩ => ⟨S10000x64x1, .i32⟩
  | .hbm, ⟨41, _⟩ => ⟨S10000x64x3, .f32⟩
  | .hbm, ⟨42, _⟩ => ⟨S10000x1x3, .f32⟩
  | .hbm, ⟨43, _⟩ => ⟨S10000x64x3, .f32⟩
  | .hbm, ⟨44, _⟩ => ⟨S10000x64x3, .f32⟩
  | .hbm, ⟨45, _⟩ => ⟨S10000x64x3, .f32⟩
  | .hbm, ⟨46, _⟩ => ⟨S10000x64x3, .f32⟩
  | .hbm, ⟨47, _⟩ => ⟨S10000x3x3, .f32⟩
  | .hbm, ⟨48, _⟩ => ⟨S_, .f32⟩
  | .hbm, ⟨49, _⟩ => ⟨S10000x10000, .f32⟩
  | .hbm, ⟨50, _⟩ => ⟨S10000x10000, .i1⟩
  | .hbm, ⟨51, _⟩ => ⟨S10000x10000, .f32⟩
  | .hbm, ⟨52, _⟩ => ⟨S_, .f32⟩
  | .hbm, ⟨53, _⟩ => ⟨S10000, .f32⟩
  | .hbm, ⟨54, _⟩ => ⟨S10000x9, .f32⟩
  | .hbm, ⟨55, _⟩ => ⟨S10000x1, .f32⟩
  | .hbm, ⟨56, _⟩ => ⟨S10000x10, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Reference2Ideal.lean ====
abbrev S16x80x128 : Shape := ⟨3, ![16, 80, 128]⟩
abbrev S9x80x128 : Shape := ⟨3, ![9, 80, 128]⟩
abbrev S1x80x128 : Shape := ⟨3, ![1, 80, 128]⟩
abbrev S3x3x80x128 : Shape := ⟨4, ![3, 3, 80, 128]⟩
abbrev S80x128 : Shape := ⟨2, ![80, 128]⟩
abbrev S_ : Shape := ⟨0, ![]⟩
abbrev S1x1x80x128 : Shape := ⟨4, ![1, 1, 80, 128]⟩
abbrev S3x80x128 : Shape := ⟨3, ![3, 80, 128]⟩
abbrev S1x3x80x128 : Shape := ⟨4, ![1, 3, 80, 128]⟩
abbrev S3x3x1x80x128 : Shape := ⟨5, ![3, 3, 1, 80, 128]⟩
abbrev S1x3x3x80x128 : Shape := ⟨5, ![1, 3, 3, 80, 128]⟩
abbrev S3x3x3x80x128 : Shape := ⟨5, ![3, 3, 3, 80, 128]⟩
abbrev S3x1x80x128 : Shape := ⟨4, ![3, 1, 80, 128]⟩

abbrev nBuf : Space → Nat
  | .hbm => 632
  | .vmem => 0
  | .smem => 0
  | _ => 0

abbrev hbmTy0_0 (i : Nat) : BufTy := match i % 128 with
  | 0 => ⟨S16x80x128, .f32⟩
  | 1 => ⟨S9x80x128, .f32⟩
  | 2 => ⟨S1x80x128, .f32⟩
  | 3 => ⟨S9x80x128, .f32⟩
  | 4 => ⟨S3x3x80x128, .f32⟩
  | 5 => ⟨S1x80x128, .f32⟩
  | 6 => ⟨S80x128, .f32⟩
  | 7 => ⟨S_, .f32⟩
  | 8 => ⟨S80x128, .f32⟩
  | 9 => ⟨S80x128, .i1⟩
  | 10 => ⟨S3x3x80x128, .f32⟩
  | 11 => ⟨S3x3x80x128, .f32⟩
  | 12 => ⟨S_, .f32⟩
  | 13 => ⟨S3x3x80x128, .f32⟩
  | 14 => ⟨S3x3x80x128, .f32⟩
  | 15 => ⟨S_, .f32⟩
  | 16 => ⟨S_, .f32⟩
  | 17 => ⟨S3x3x80x128, .i1⟩
  | 18 => ⟨S3x3x80x128, .f32⟩
  | 19 => ⟨S3x3x80x128, .f32⟩
  | 20 => ⟨S1x1x80x128, .f32⟩
  | 21 => ⟨S80x128, .f32⟩
  | 22 => ⟨S_, .f32⟩
  | 23 => ⟨S80x128, .f32⟩
  | 24 => ⟨S_, .f32⟩
  | 25 => ⟨S80x128, .f32⟩
  | 26 => ⟨S1x80x128, .f32⟩
  | 27 => ⟨S1x80x128, .f32⟩
  | 28 => ⟨S1x80x128, .f32⟩
  | 29 => ⟨S3x80x128, .f32⟩
  | 30 => ⟨S1x80x128, .f32⟩
  | 31 => ⟨S1x80x128, .f32⟩
  | 32 => ⟨S1x80x128, .f32⟩
  | 33 => ⟨S3x80x128, .f32⟩
  | 34 => ⟨S1x80x128, .f32⟩
  | 35 => ⟨S1x80x128, .f32⟩
  | 36 => ⟨S1x80x128, .f32⟩
  | 37 => ⟨S3x80x128, .f32⟩
  | 38 => ⟨S1x3x80x128, .f32⟩
  | 39 => ⟨S1x3x80x128, .f32⟩
  | 40 => ⟨S1x3x80x128, .f32⟩
  | 41 => ⟨S3x3x80x128, .f32⟩
  | 42 => ⟨S_, .i32⟩
  | 43 => ⟨S_, .i32⟩
  | 44 => ⟨S16x80x128, .f32⟩
  | 45 => ⟨S1x80x128, .f32⟩
  | 46 => ⟨S9x80x128, .f32⟩
  | 47 => ⟨S_, .i32⟩
  | 48 => ⟨S_, .i32⟩
  | 49 => ⟨S3x3x80x128, .f32⟩
  | 50 => ⟨S3x3x80x128, .f32⟩
  | 51 => ⟨S_, .i32⟩
  | 52 => ⟨S_, .i1⟩
  | 53 => ⟨S_, .i32⟩
  | 54 => ⟨S_, .i32⟩
  | 55 => ⟨S1x1x80x128, .f32⟩
  | 56 => ⟨S80x128, .f32⟩
  | 57 => ⟨S1x1x80x128, .f32⟩
  | 58 => ⟨S80x128, .f32⟩
  | 59 => ⟨S1x1x80x128, .f32⟩
  | 60 => ⟨S80x128, .f32⟩
  | 61 => ⟨S80x128, .f32⟩
  | 62 => ⟨S_, .f32⟩
  | 63 => ⟨S80x128, .f32⟩
  | 64 => ⟨S80x128, .f32⟩
  | 65 => ⟨S80x128, .f32⟩
  | 66 => ⟨S_, .f32⟩
  | 67 => ⟨S80x128, .f32⟩
  | 68 => ⟨S80x128, .i1⟩
  | 69 => ⟨S_, .f32⟩
  | 70 => ⟨S_, .f32⟩
  | 71 => ⟨S80x128, .f32⟩
  | 72 => ⟨S80x128, .f32⟩
  | 73 => ⟨S80x128, .f32⟩
  | 74 => ⟨S80x128, .f32⟩
  | 75 => ⟨S80x128, .f32⟩
  | 76 => ⟨S_, .f32⟩
  | 77 => ⟨S80x128, .f32⟩
  | 78 => ⟨S80x128, .f32⟩
  | 79 => ⟨S80x128, .f32⟩
  | 80 => ⟨S80x128, .f32⟩
  | 81 => ⟨S80x128, .f32⟩
  | 82 => ⟨S80x128, .f32⟩
  | 83 => ⟨S_, .f32⟩
  | 84 => ⟨S80x128, .f32⟩
  | 85 => ⟨S80x128, .i1⟩
  | 86 => ⟨S_, .f32⟩
  | 87 => ⟨S_, .f32⟩
  | 88 => ⟨S80x128, .f32⟩
  | 89 => ⟨S80x128, .f32⟩
  | 90 => ⟨S80x128, .f32⟩
  | 91 => ⟨S_, .f32⟩
  | 92 => ⟨S80x128, .f32⟩
  | 93 => ⟨S80x128, .f32⟩
  | 94 => ⟨S80x128, .f32⟩
  | 95 => ⟨S_, .f32⟩
  | 96 => ⟨S80x128, .f32⟩
  | 97 => ⟨S80x128, .f32⟩
  | 98 => ⟨S80x128, .f32⟩
  | 99 => ⟨S_, .f32⟩
  | 100 => ⟨S80x128, .f32⟩
  | 101 => ⟨S_, .f32⟩
  | 102 => ⟨S80x128, .f32⟩
  | 103 => ⟨S80x128, .f32⟩
  | 104 => ⟨S1x80x128, .f32⟩
  | 105 => ⟨S1x80x128, .f32⟩
  | 106 => ⟨S1x80x128, .f32⟩
  | 107 => ⟨S3x80x128, .f32⟩
  | 108 => ⟨S1x80x128, .f32⟩
  | 109 => ⟨S1x80x128, .f32⟩
  | 110 => ⟨S1x80x128, .f32⟩
  | 111 => ⟨S3x80x128, .f32⟩
  | 112 => ⟨S1x80x128, .f32⟩
  | 113 => ⟨S1x80x128, .f32⟩
  | 114 => ⟨S1x80x128, .f32⟩
  | 115 => ⟨S3x80x128, .f32⟩
  | 116 => ⟨S1x3x80x128, .f32⟩
  | 117 => ⟨S1x3x80x128, .f32⟩
  | 118 => ⟨S1x3x80x128, .f32⟩
  | 119 => ⟨S3x3x80x128, .f32⟩
  | 120 => ⟨S3x3x80x128, .f32⟩
  | 121 => ⟨S3x3x1x80x128, .f32⟩
  | 122 => ⟨S1x3x3x80x128, .f32⟩
  | 123 => ⟨S3x3x3x80x128, .f32⟩
  | 124 => ⟨S3x3x3x80x128, .f32⟩
  | 125 => ⟨S3x3x3x80x128, .f32⟩
  | 126 => ⟨S_, .f32⟩
  | 127 => ⟨S3x3x80x128, .f32⟩
  | _ => ⟨S16x80x128, .f32⟩

abbrev hbmTy0_1 (i : Nat) : BufTy := match i % 128 with
  | 0 => ⟨S3x3x1x80x128, .f32⟩
  | 1 => ⟨S1x3x3x80x128, .f32⟩
  | 2 => ⟨S3x3x3x80x128, .f32⟩
  | 3 => ⟨S3x3x3x80x128, .f32⟩
  | 4 => ⟨S3x3x3x80x128, .f32⟩
  | 5 => ⟨S_, .f32⟩
  | 6 => ⟨S3x3x80x128, .f32⟩
  | 7 => ⟨S3x3x1x80x128, .f32⟩
  | 8 => ⟨S1x3x3x80x128, .f32⟩
  | 9 => ⟨S3x3x3x80x128, .f32⟩
  | 10 => ⟨S3x3x3x80x128, .f32⟩
  | 11 => ⟨S3x3x3x80x128, .f32⟩
  | 12 => ⟨S_, .f32⟩
  | 13 => ⟨S3x3x80x128, .f32⟩
  | 14 => ⟨S1x1x80x128, .f32⟩
  | 15 => ⟨S80x128, .f32⟩
  | 16 => ⟨S1x1x80x128, .f32⟩
  | 17 => ⟨S80x128, .f32⟩
  | 18 => ⟨S1x1x80x128, .f32⟩
  | 19 => ⟨S80x128, .f32⟩
  | 20 => ⟨S80x128, .f32⟩
  | 21 => ⟨S_, .f32⟩
  | 22 => ⟨S80x128, .f32⟩
  | 23 => ⟨S80x128, .f32⟩
  | 24 => ⟨S80x128, .f32⟩
  | 25 => ⟨S_, .f32⟩
  | 26 => ⟨S80x128, .f32⟩
  | 27 => ⟨S80x128, .i1⟩
  | 28 => ⟨S_, .f32⟩
  | 29 => ⟨S_, .f32⟩
  | 30 => ⟨S80x128, .f32⟩
  | 31 => ⟨S80x128, .f32⟩
  | 32 => ⟨S80x128, .f32⟩
  | 33 => ⟨S80x128, .f32⟩
  | 34 => ⟨S80x128, .f32⟩
  | 35 => ⟨S_, .f32⟩
  | 36 => ⟨S80x128, .f32⟩
  | 37 => ⟨S80x128, .f32⟩
  | 38 => ⟨S80x128, .f32⟩
  | 39 => ⟨S80x128, .f32⟩
  | 40 => ⟨S80x128, .f32⟩
  | 41 => ⟨S80x128, .f32⟩
  | 42 => ⟨S_, .f32⟩
  | 43 => ⟨S80x128, .f32⟩
  | 44 => ⟨S80x128, .i1⟩
  | 45 => ⟨S_, .f32⟩
  | 46 => ⟨S_, .f32⟩
  | 47 => ⟨S80x128, .f32⟩
  | 48 => ⟨S80x128, .f32⟩
  | 49 => ⟨S80x128, .f32⟩
  | 50 => ⟨S_, .f32⟩
  | 51 => ⟨S80x128, .f32⟩
  | 52 => ⟨S80x128, .f32⟩
  | 53 => ⟨S80x128, .f32⟩
  | 54 => ⟨S_, .f32⟩
  | 55 => ⟨S80x128, .f32⟩
  | 56 => ⟨S80x128, .f32⟩
  | 57 => ⟨S80x128, .f32⟩
  | 58 => ⟨S_, .f32⟩
  | 59 => ⟨S80x128, .f32⟩
  | 60 => ⟨S_, .f32⟩
  | 61 => ⟨S80x128, .f32⟩
  | 62 => ⟨S80x128, .f32⟩
  | 63 => ⟨S1x80x128, .f32⟩
  | 64 => ⟨S1x80x128, .f32⟩
  | 65 => ⟨S1x80x128, .f32⟩
  | 66 => ⟨S3x80x128, .f32⟩
  | 67 => ⟨S1x80x128, .f32⟩
  | 68 => ⟨S1x80x128, .f32⟩
  | 69 => ⟨S1x80x128, .f32⟩
  | 70 => ⟨S3x80x128, .f32⟩
  | 71 => ⟨S1x80x128, .f32⟩
  | 72 => ⟨S1x80x128, .f32⟩
  | 73 => ⟨S1x80x128, .f32⟩
  | 74 => ⟨S3x80x128, .f32⟩
  | 75 => ⟨S1x3x80x128, .f32⟩
  | 76 => ⟨S1x3x80x128, .f32⟩
  | 77 => ⟨S1x3x80x128, .f32⟩
  | 78 => ⟨S3x3x80x128, .f32⟩
  | 79 => ⟨S3x3x80x128, .f32⟩
  | 80 => ⟨S3x3x1x80x128, .f32⟩
  | 81 => ⟨S1x3x3x80x128, .f32⟩
  | 82 => ⟨S3x3x3x80x128, .f32⟩
  | 83 => ⟨S3x3x3x80x128, .f32⟩
  | 84 => ⟨S3x3x3x80x128, .f32⟩
  | 85 => ⟨S_, .f32⟩
  | 86 => ⟨S3x3x80x128, .f32⟩
  | 87 => ⟨S3x3x1x80x128, .f32⟩
  | 88 => ⟨S1x3x3x80x128, .f32⟩
  | 89 => ⟨S3x3x3x80x128, .f32⟩
  | 90 => ⟨S3x3x3x80x128, .f32⟩
  | 91 => ⟨S3x3x3x80x128, .f32⟩
  | 92 => ⟨S_, .f32⟩
  | 93 => ⟨S3x3x80x128, .f32⟩
  | 94 => ⟨S3x3x1x80x128, .f32⟩
  | 95 => ⟨S1x3x3x80x128, .f32⟩
  | 96 => ⟨S3x3x3x80x128, .f32⟩
  | 97 => ⟨S3x3x3x80x128, .f32⟩
  | 98 => ⟨S3x3x3x80x128, .f32⟩
  | 99 => ⟨S_, .f32⟩
  | 100 => ⟨S3x3x80x128, .f32⟩
  | 101 => ⟨S1x1x80x128, .f32⟩
  | 102 => ⟨S80x128, .f32⟩
  | 103 => ⟨S1x1x80x128, .f32⟩
  | 104 => ⟨S80x128, .f32⟩
  | 105 => ⟨S1x1x80x128, .f32⟩
  | 106 => ⟨S80x128, .f32⟩
  | 107 => ⟨S80x128, .f32⟩
  | 108 => ⟨S_, .f32⟩
  | 109 => ⟨S80x128, .f32⟩
  | 110 => ⟨S80x128, .f32⟩
  | 111 => ⟨S80x128, .f32⟩
  | 112 => ⟨S_, .f32⟩
  | 113 => ⟨S80x128, .f32⟩
  | 114 => ⟨S80x128, .i1⟩
  | 115 => ⟨S_, .f32⟩
  | 116 => ⟨S_, .f32⟩
  | 117 => ⟨S80x128, .f32⟩
  | 118 => ⟨S80x128, .f32⟩
  | 119 => ⟨S80x128, .f32⟩
  | 120 => ⟨S80x128, .f32⟩
  | 121 => ⟨S80x128, .f32⟩
  | 122 => ⟨S_, .f32⟩
  | 123 => ⟨S80x128, .f32⟩
  | 124 => ⟨S80x128, .f32⟩
  | 125 => ⟨S80x128, .f32⟩
  | 126 => ⟨S80x128, .f32⟩
  | 127 => ⟨S80x128, .f32⟩
  | _ => ⟨S16x80x128, .f32⟩

abbrev hbmTy0_2 (i : Nat) : BufTy := match i % 128 with
  | 0 => ⟨S80x128, .f32⟩
  | 1 => ⟨S_, .f32⟩
  | 2 => ⟨S80x128, .f32⟩
  | 3 => ⟨S80x128, .i1⟩
  | 4 => ⟨S_, .f32⟩
  | 5 => ⟨S_, .f32⟩
  | 6 => ⟨S80x128, .f32⟩
  | 7 => ⟨S80x128, .f32⟩
  | 8 => ⟨S80x128, .f32⟩
  | 9 => ⟨S_, .f32⟩
  | 10 => ⟨S80x128, .f32⟩
  | 11 => ⟨S80x128, .f32⟩
  | 12 => ⟨S80x128, .f32⟩
  | 13 => ⟨S_, .f32⟩
  | 14 => ⟨S80x128, .f32⟩
  | 15 => ⟨S80x128, .f32⟩
  | 16 => ⟨S80x128, .f32⟩
  | 17 => ⟨S_, .f32⟩
  | 18 => ⟨S80x128, .f32⟩
  | 19 => ⟨S_, .f32⟩
  | 20 => ⟨S80x128, .f32⟩
  | 21 => ⟨S80x128, .f32⟩
  | 22 => ⟨S1x80x128, .f32⟩
  | 23 => ⟨S1x80x128, .f32⟩
  | 24 => ⟨S1x80x128, .f32⟩
  | 25 => ⟨S3x80x128, .f32⟩
  | 26 => ⟨S1x80x128, .f32⟩
  | 27 => ⟨S1x80x128, .f32⟩
  | 28 => ⟨S1x80x128, .f32⟩
  | 29 => ⟨S3x80x128, .f32⟩
  | 30 => ⟨S1x80x128, .f32⟩
  | 31 => ⟨S1x80x128, .f32⟩
  | 32 => ⟨S1x80x128, .f32⟩
  | 33 => ⟨S3x80x128, .f32⟩
  | 34 => ⟨S1x3x80x128, .f32⟩
  | 35 => ⟨S1x3x80x128, .f32⟩
  | 36 => ⟨S1x3x80x128, .f32⟩
  | 37 => ⟨S3x3x80x128, .f32⟩
  | 38 => ⟨S3x3x80x128, .f32⟩
  | 39 => ⟨S3x3x1x80x128, .f32⟩
  | 40 => ⟨S1x3x3x80x128, .f32⟩
  | 41 => ⟨S3x3x3x80x128, .f32⟩
  | 42 => ⟨S3x3x3x80x128, .f32⟩
  | 43 => ⟨S3x3x3x80x128, .f32⟩
  | 44 => ⟨S_, .f32⟩
  | 45 => ⟨S3x3x80x128, .f32⟩
  | 46 => ⟨S3x3x1x80x128, .f32⟩
  | 47 => ⟨S1x3x3x80x128, .f32⟩
  | 48 => ⟨S3x3x3x80x128, .f32⟩
  | 49 => ⟨S3x3x3x80x128, .f32⟩
  | 50 => ⟨S3x3x3x80x128, .f32⟩
  | 51 => ⟨S_, .f32⟩
  | 52 => ⟨S3x3x80x128, .f32⟩
  | 53 => ⟨S3x3x1x80x128, .f32⟩
  | 54 => ⟨S1x3x3x80x128, .f32⟩
  | 55 => ⟨S3x3x3x80x128, .f32⟩
  | 56 => ⟨S3x3x3x80x128, .f32⟩
  | 57 => ⟨S3x3x3x80x128, .f32⟩
  | 58 => ⟨S_, .f32⟩
  | 59 => ⟨S3x3x80x128, .f32⟩
  | 60 => ⟨S3x3x80x128, .f32⟩
  | 61 => ⟨S_, .f32⟩
  | 62 => ⟨S3x80x128, .f32⟩
  | 63 => ⟨S_, .f32⟩
  | 64 => ⟨S80x128, .f32⟩
  | 65 => ⟨S1x1x80x128, .f32⟩
  | 66 => ⟨S80x128, .f32⟩
  | 67 => ⟨S1x1x80x128, .f32⟩
  | 68 => ⟨S80x128, .f32⟩
  | 69 => ⟨S80x128, .f32⟩
  | 70 => ⟨S1x1x80x128, .f32⟩
  | 71 => ⟨S80x128, .f32⟩
  | 72 => ⟨S1x1x80x128, .f32⟩
  | 73 => ⟨S80x128, .f32⟩
  | 74 => ⟨S80x128, .f32⟩
  | 75 => ⟨S80x128, .f32⟩
  | 76 => ⟨S1x1x80x128, .f32⟩
  | 77 => ⟨S80x128, .f32⟩
  | 78 => ⟨S1x1x80x128, .f32⟩
  | 79 => ⟨S80x128, .f32⟩
  | 80 => ⟨S80x128, .f32⟩
  | 81 => ⟨S80x128, .f32⟩
  | 82 => ⟨S80x128, .f32⟩
  | 83 => ⟨S_, .f32⟩
  | 84 => ⟨S80x128, .f32⟩
  | 85 => ⟨S80x128, .f32⟩
  | 86 => ⟨S80x128, .i1⟩
  | 87 => ⟨S3x3x80x128, .i1⟩
  | 88 => ⟨S3x3x80x128, .f32⟩
  | 89 => ⟨S3x3x80x128, .i1⟩
  | 90 => ⟨S3x3x80x128, .f32⟩
  | 91 => ⟨S1x80x128, .f32⟩
  | 92 => ⟨S80x128, .f32⟩
  | 93 => ⟨S_, .f32⟩
  | 94 => ⟨S80x128, .f32⟩
  | 95 => ⟨S80x128, .i1⟩
  | 96 => ⟨S80x128, .f32⟩
  | 97 => ⟨S_, .f32⟩
  | 98 => ⟨S80x128, .f32⟩
  | 99 => ⟨S80x128, .i1⟩
  | 100 => ⟨S_, .f32⟩
  | 101 => ⟨S_, .f32⟩
  | 102 => ⟨S80x128, .f32⟩
  | 103 => ⟨S80x128, .f32⟩
  | 104 => ⟨S80x128, .f32⟩
  | 105 => ⟨S_, .f32⟩
  | 106 => ⟨S80x128, .f32⟩
  | 107 => ⟨S_, .f32⟩
  | 108 => ⟨S80x128, .f32⟩
  | 109 => ⟨S1x80x128, .f32⟩
  | 110 => ⟨S1x80x128, .f32⟩
  | 111 => ⟨S1x80x128, .f32⟩
  | 112 => ⟨S3x80x128, .f32⟩
  | 113 => ⟨S1x80x128, .f32⟩
  | 114 => ⟨S1x80x128, .f32⟩
  | 115 => ⟨S1x80x128, .f32⟩
  | 116 => ⟨S3x80x128, .f32⟩
  | 117 => ⟨S1x80x128, .f32⟩
  | 118 => ⟨S1x80x128, .f32⟩
  | 119 => ⟨S1x80x128, .f32⟩
  | 120 => ⟨S3x80x128, .f32⟩
  | 121 => ⟨S1x3x80x128, .f32⟩
  | 122 => ⟨S1x3x80x128, .f32⟩
  | 123 => ⟨S1x3x80x128, .f32⟩
  | 124 => ⟨S3x3x80x128, .f32⟩
  | 125 => ⟨S3x3x80x128, .f32⟩
  | 126 => ⟨S1x1x80x128, .f32⟩
  | 127 => ⟨S80x128, .f32⟩
  | _ => ⟨S16x80x128, .f32⟩

abbrev hbmTy0_3 (i : Nat) : BufTy := match i % 128 with
  | 0 => ⟨S_, .f32⟩
  | 1 => ⟨S80x128, .f32⟩
  | 2 => ⟨S1x1x80x128, .f32⟩
  | 3 => ⟨S80x128, .f32⟩
  | 4 => ⟨S_, .f32⟩
  | 5 => ⟨S80x128, .f32⟩
  | 6 => ⟨S1x1x80x128, .f32⟩
  | 7 => ⟨S80x128, .f32⟩
  | 8 => ⟨S1x1x80x128, .f32⟩
  | 9 => ⟨S80x128, .f32⟩
  | 10 => ⟨S1x1x80x128, .f32⟩
  | 11 => ⟨S80x128, .f32⟩
  | 12 => ⟨S80x128, .f32⟩
  | 13 => ⟨S80x128, .f32⟩
  | 14 => ⟨S80x128, .f32⟩
  | 15 => ⟨S_, .f32⟩
  | 16 => ⟨S80x128, .f32⟩
  | 17 => ⟨S80x128, .i1⟩
  | 18 => ⟨S_, .f32⟩
  | 19 => ⟨S_, .f32⟩
  | 20 => ⟨S80x128, .f32⟩
  | 21 => ⟨S80x128, .f32⟩
  | 22 => ⟨S80x128, .f32⟩
  | 23 => ⟨S80x128, .f32⟩
  | 24 => ⟨S80x128, .f32⟩
  | 25 => ⟨S80x128, .f32⟩
  | 26 => ⟨S80x128, .f32⟩
  | 27 => ⟨S80x128, .f32⟩
  | 28 => ⟨S_, .f32⟩
  | 29 => ⟨S80x128, .f32⟩
  | 30 => ⟨S80x128, .i1⟩
  | 31 => ⟨S80x128, .f32⟩
  | 32 => ⟨S80x128, .f32⟩
  | 33 => ⟨S_, .f32⟩
  | 34 => ⟨S_, .f32⟩
  | 35 => ⟨S80x128, .f32⟩
  | 36 => ⟨S80x128, .f32⟩
  | 37 => ⟨S_, .f32⟩
  | 38 => ⟨S80x128, .f32⟩
  | 39 => ⟨S80x128, .i1⟩
  | 40 => ⟨S80x128, .f32⟩
  | 41 => ⟨S80x128, .f32⟩
  | 42 => ⟨S_, .f32⟩
  | 43 => ⟨S_, .f32⟩
  | 44 => ⟨S80x128, .f32⟩
  | 45 => ⟨S80x128, .f32⟩
  | 46 => ⟨S_, .f32⟩
  | 47 => ⟨S80x128, .f32⟩
  | 48 => ⟨S80x128, .i1⟩
  | 49 => ⟨S80x128, .f32⟩
  | 50 => ⟨S80x128, .f32⟩
  | 51 => ⟨S_, .f32⟩
  | 52 => ⟨S_, .f32⟩
  | 53 => ⟨S80x128, .f32⟩
  | 54 => ⟨S80x128, .f32⟩
  | 55 => ⟨S1x80x128, .f32⟩
  | 56 => ⟨S1x80x128, .f32⟩
  | 57 => ⟨S1x80x128, .f32⟩
  | 58 => ⟨S3x80x128, .f32⟩
  | 59 => ⟨S3x1x80x128, .f32⟩
  | 60 => ⟨S3x1x80x128, .f32⟩
  | 61 => ⟨S3x3x80x128, .f32⟩
  | 62 => ⟨S3x3x80x128, .f32⟩
  | 63 => ⟨S_, .f32⟩
  | 64 => ⟨S3x80x128, .f32⟩
  | 65 => ⟨S1x80x128, .f32⟩
  | 66 => ⟨S3x80x128, .f32⟩
  | 67 => ⟨S3x80x128, .f32⟩
  | 68 => ⟨S1x3x80x128, .f32⟩
  | 69 => ⟨S3x3x80x128, .f32⟩
  | 70 => ⟨S3x3x80x128, .f32⟩
  | 71 => ⟨S3x3x80x128, .f32⟩
  | 72 => ⟨S3x3x80x128, .f32⟩
  | 73 => ⟨S1x1x80x128, .f32⟩
  | 74 => ⟨S80x128, .f32⟩
  | 75 => ⟨S1x1x80x128, .f32⟩
  | 76 => ⟨S80x128, .f32⟩
  | 77 => ⟨S80x128, .f32⟩
  | 78 => ⟨S80x128, .f32⟩
  | 79 => ⟨S80x128, .f32⟩
  | 80 => ⟨S_, .f32⟩
  | 81 => ⟨S80x128, .f32⟩
  | 82 => ⟨S80x128, .i1⟩
  | 83 => ⟨S_, .f32⟩
  | 84 => ⟨S_, .f32⟩
  | 85 => ⟨S80x128, .f32⟩
  | 86 => ⟨S80x128, .f32⟩
  | 87 => ⟨S80x128, .f32⟩
  | 88 => ⟨S80x128, .f32⟩
  | 89 => ⟨S80x128, .f32⟩
  | 90 => ⟨S80x128, .f32⟩
  | 91 => ⟨S80x128, .f32⟩
  | 92 => ⟨S80x128, .f32⟩
  | 93 => ⟨S_, .f32⟩
  | 94 => ⟨S80x128, .f32⟩
  | 95 => ⟨S80x128, .i1⟩
  | 96 => ⟨S80x128, .f32⟩
  | 97 => ⟨S80x128, .f32⟩
  | 98 => ⟨S_, .f32⟩
  | 99 => ⟨S_, .f32⟩
  | 100 => ⟨S80x128, .f32⟩
  | 101 => ⟨S80x128, .f32⟩
  | 102 => ⟨S_, .f32⟩
  | 103 => ⟨S80x128, .f32⟩
  | 104 => ⟨S80x128, .i1⟩
  | 105 => ⟨S80x128, .f32⟩
  | 106 => ⟨S80x128, .f32⟩
  | 107 => ⟨S_, .f32⟩
  | 108 => ⟨S_, .f32⟩
  | 109 => ⟨S80x128, .f32⟩
  | 110 => ⟨S80x128, .f32⟩
  | 111 => ⟨S_, .f32⟩
  | 112 => ⟨S80x128, .f32⟩
  | 113 => ⟨S80x128, .i1⟩
  | 114 => ⟨S80x128, .f32⟩
  | 115 => ⟨S80x128, .f32⟩
  | 116 => ⟨S_, .f32⟩
  | 117 => ⟨S_, .f32⟩
  | 118 => ⟨S80x128, .f32⟩
  | 119 => ⟨S80x128, .f32⟩
  | 120 => ⟨S1x80x128, .f32⟩
  | 121 => ⟨S1x80x128, .f32⟩
  | 122 => ⟨S1x80x128, .f32⟩
  | 123 => ⟨S3x80x128, .f32⟩
  | 124 => ⟨S_, .f32⟩
  | 125 => ⟨S80x128, .f32⟩
  | 126 => ⟨S_, .f32⟩
  | 127 => ⟨S80x128, .f32⟩
  | _ => ⟨S16x80x128, .f32⟩

abbrev hbmTy0_4 (i : Nat) : BufTy := match i % 128 with
  | 0 => ⟨S1x80x128, .f32⟩
  | 1 => ⟨S1x80x128, .f32⟩
  | 2 => ⟨S1x80x128, .f32⟩
  | 3 => ⟨S3x80x128, .f32⟩
  | 4 => ⟨S1x80x128, .f32⟩
  | 5 => ⟨S1x80x128, .f32⟩
  | 6 => ⟨S1x80x128, .f32⟩
  | 7 => ⟨S3x80x128, .f32⟩
  | 8 => ⟨S1x80x128, .f32⟩
  | 9 => ⟨S1x80x128, .f32⟩
  | 10 => ⟨S1x80x128, .f32⟩
  | 11 => ⟨S3x80x128, .f32⟩
  | 12 => ⟨S1x3x80x128, .f32⟩
  | 13 => ⟨S1x3x80x128, .f32⟩
  | 14 => ⟨S1x3x80x128, .f32⟩
  | 15 => ⟨S3x3x80x128, .f32⟩
  | 16 => ⟨S3x1x80x128, .f32⟩
  | 17 => ⟨S3x1x80x128, .f32⟩
  | 18 => ⟨S3x3x80x128, .f32⟩
  | 19 => ⟨S3x3x80x128, .f32⟩
  | 20 => ⟨S_, .f32⟩
  | 21 => ⟨S3x80x128, .f32⟩
  | 22 => ⟨S1x80x128, .f32⟩
  | 23 => ⟨S3x80x128, .f32⟩
  | 24 => ⟨S3x80x128, .f32⟩
  | 25 => ⟨S1x3x80x128, .f32⟩
  | 26 => ⟨S3x3x80x128, .f32⟩
  | 27 => ⟨S3x3x80x128, .f32⟩
  | 28 => ⟨S3x3x80x128, .f32⟩
  | 29 => ⟨S3x3x80x128, .f32⟩
  | 30 => ⟨S3x1x80x128, .f32⟩
  | 31 => ⟨S3x1x80x128, .f32⟩
  | 32 => ⟨S3x3x80x128, .f32⟩
  | 33 => ⟨S3x3x80x128, .f32⟩
  | 34 => ⟨S_, .f32⟩
  | 35 => ⟨S3x80x128, .f32⟩
  | 36 => ⟨S1x80x128, .f32⟩
  | 37 => ⟨S3x80x128, .f32⟩
  | 38 => ⟨S3x80x128, .f32⟩
  | 39 => ⟨S1x3x80x128, .f32⟩
  | 40 => ⟨S3x3x80x128, .f32⟩
  | 41 => ⟨S3x3x80x128, .f32⟩
  | 42 => ⟨S3x3x80x128, .f32⟩
  | 43 => ⟨S3x3x80x128, .f32⟩
  | 44 => ⟨S3x3x1x80x128, .f32⟩
  | 45 => ⟨S1x3x3x80x128, .f32⟩
  | 46 => ⟨S3x3x1x80x128, .f32⟩
  | 47 => ⟨S3x3x3x80x128, .f32⟩
  | 48 => ⟨S3x3x3x80x128, .f32⟩
  | 49 => ⟨S3x3x3x80x128, .f32⟩
  | 50 => ⟨S_, .f32⟩
  | 51 => ⟨S3x3x80x128, .f32⟩
  | 52 => ⟨S3x3x80x128, .i1⟩
  | 53 => ⟨S3x3x80x128, .f32⟩
  | 54 => ⟨S_, .i32⟩
  | 55 => ⟨S_, .i32⟩
  | 56 => ⟨S1x1x80x128, .f32⟩
  | 57 => ⟨S80x128, .f32⟩
  | 58 => ⟨S1x1x80x128, .f32⟩
  | 59 => ⟨S80x128, .f32⟩
  | 60 => ⟨S1x1x80x128, .f32⟩
  | 61 => ⟨S80x128, .f32⟩
  | 62 => ⟨S_, .f32⟩
  | 63 => ⟨S80x128, .f32⟩
  | 64 => ⟨S80x128, .i1⟩
  | 65 => ⟨S80x128, .i1⟩
  | 66 => ⟨S80x128, .i1⟩
  | 67 => ⟨S80x128, .i1⟩
  | 68 => ⟨S80x128, .i1⟩
  | 69 => ⟨S80x128, .i1⟩
  | 70 => ⟨S80x128, .f32⟩
  | 71 => ⟨S80x128, .f32⟩
  | 72 => ⟨S1x80x128, .f32⟩
  | 73 => ⟨S1x80x128, .f32⟩
  | 74 => ⟨S1x80x128, .f32⟩
  | 75 => ⟨S3x80x128, .f32⟩
  | 76 => ⟨S80x128, .f32⟩
  | 77 => ⟨S80x128, .f32⟩
  | 78 => ⟨S1x80x128, .f32⟩
  | 79 => ⟨S1x80x128, .f32⟩
  | 80 => ⟨S1x80x128, .f32⟩
  | 81 => ⟨S3x80x128, .f32⟩
  | 82 => ⟨S80x128, .f32⟩
  | 83 => ⟨S80x128, .f32⟩
  | 84 => ⟨S1x80x128, .f32⟩
  | 85 => ⟨S1x80x128, .f32⟩
  | 86 => ⟨S1x80x128, .f32⟩
  | 87 => ⟨S3x80x128, .f32⟩
  | 88 => ⟨S1x3x80x128, .f32⟩
  | 89 => ⟨S1x3x80x128, .f32⟩
  | 90 => ⟨S1x3x80x128, .f32⟩
  | 91 => ⟨S3x3x80x128, .f32⟩
  | 92 => ⟨S_, .f32⟩
  | 93 => ⟨S3x80x128, .f32⟩
  | 94 => ⟨S_, .f32⟩
  | 95 => ⟨S3x80x128, .f32⟩
  | 96 => ⟨S3x80x128, .i1⟩
  | 97 => ⟨S3x80x128, .f32⟩
  | 98 => ⟨S_, .f32⟩
  | 99 => ⟨S3x80x128, .f32⟩
  | 100 => ⟨S3x80x128, .i1⟩
  | 101 => ⟨S3x80x128, .f32⟩
  | 102 => ⟨S_, .f32⟩
  | 103 => ⟨S3x80x128, .f32⟩
  | 104 => ⟨S3x80x128, .i1⟩
  | 105 => ⟨S3x80x128, .f32⟩
  | 106 => ⟨S1x3x80x128, .f32⟩
  | 107 => ⟨S1x3x80x128, .f32⟩
  | 108 => ⟨S1x3x80x128, .f32⟩
  | 109 => ⟨S3x3x80x128, .f32⟩
  | 110 => ⟨S3x3x80x128, .f32⟩
  | 111 => ⟨S3x3x1x80x128, .f32⟩
  | 112 => ⟨S1x3x3x80x128, .f32⟩
  | 113 => ⟨S3x3x3x80x128, .f32⟩
  | 114 => ⟨S3x3x3x80x128, .f32⟩
  | 115 => ⟨S3x3x3x80x128, .f32⟩
  | 116 => ⟨S_, .f32⟩
  | 117 => ⟨S3x3x80x128, .f32⟩
  | 118 => ⟨S3x3x80x128, .f32⟩
  | 119 => ⟨S9x80x128, .f32⟩
  | _ => ⟨S16x80x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x80x128, .f32⟩

abbrev bufTy : (tb : Table) → Fin (tcTables nBuf tb) → BufTy
  | .hbm, ⟨i, _⟩ => hbmTy i
  | _, _ => ⟨S16x80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_c_4 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_while0c_c_17 : Ref sig .tc := ⟨.hbm, 51, rfl⟩
abbrev main_while0c_v90 : Ref sig .tc := ⟨.hbm, 52, rfl⟩
abbrev main_while0b_c_17 : Ref sig .tc := ⟨.hbm, 53, rfl⟩
abbrev main_while0b_v90 : Ref sig .tc := ⟨.hbm, 54, rfl⟩
abbrev main_while0b_v91 : Ref sig .tc := ⟨.hbm, 55, rfl⟩
abbrev main_while0b_v92 : Ref sig .tc := ⟨.hbm, 56, rfl⟩
abbrev main_while0b_v93 : Ref sig .tc := ⟨.hbm, 57, rfl⟩
abbrev main_while0b_v94 : Ref sig .tc := ⟨.hbm, 58, rfl⟩
abbrev main_while0b_v95 : Ref sig .tc := ⟨.hbm, 59, rfl⟩
abbrev main_while0b_v96 : Ref sig .tc := ⟨.hbm, 60, rfl⟩
abbrev main_while0b_v97 : Ref sig .tc := ⟨.hbm, 61, rfl⟩
abbrev main_while0b_cst_18 : Ref sig .tc := ⟨.hbm, 62, rfl⟩
abbrev main_while0b_v98 : Ref sig .tc := ⟨.hbm, 63, rfl⟩
abbrev main_while0b_v99 : Ref sig .tc := ⟨.hbm, 64, rfl⟩
abbrev main_while0b_v100 : Ref sig .tc := ⟨.hbm, 65, rfl⟩
abbrev main_while0b_cst_19 : Ref sig .tc := ⟨.hbm, 66, rfl⟩
abbrev main_while0b_v101 : Ref sig .tc := ⟨.hbm, 67, rfl⟩
abbrev main_while0b_v102 : Ref sig .tc := ⟨.hbm, 68, rfl⟩
abbrev main_while0b_cst_20 : Ref sig .tc := ⟨.hbm, 69, rfl⟩
abbrev main_while0b_cst_21 : Ref sig .tc := ⟨.hbm, 70, rfl⟩
abbrev main_while0b_call1_v0 : Ref sig .tc := ⟨.hbm, 71, rfl⟩
abbrev main_while0b_call1_v1 : Ref sig .tc := ⟨.hbm, 72, rfl⟩
abbrev main_while0b_v103 : Ref sig .tc := ⟨.hbm, 73, rfl⟩
abbrev main_while0b_v104 : Ref sig .tc := ⟨.hbm, 74, rfl⟩
abbrev main_while0b_v105 : Ref sig .tc := ⟨.hbm, 75, rfl⟩
abbrev main_while0b_cst_22 : Ref sig .tc := ⟨.hbm, 76, rfl⟩
abbrev main_while0b_v106 : Ref sig .tc := ⟨.hbm, 77, rfl⟩
abbrev main_while0b_v107 : Ref sig .tc := ⟨.hbm, 78, rfl⟩
abbrev main_while0b_v108 : Ref sig .tc := ⟨.hbm, 79, rfl⟩
abbrev main_while0b_v109 : Ref sig .tc := ⟨.hbm, 80, rfl⟩
abbrev main_while0b_v110 : Ref sig .tc := ⟨.hbm, 81, rfl⟩
abbrev main_while0b_v111 : Ref sig .tc := ⟨.hbm, 82, rfl⟩
abbrev main_while0b_cst_23 : Ref sig .tc := ⟨.hbm, 83, rfl⟩
abbrev main_while0b_v112 : Ref sig .tc := ⟨.hbm, 84, rfl⟩
abbrev main_while0b_v113 : Ref sig .tc := ⟨.hbm, 85, rfl⟩
abbrev main_while0b_cst_24 : Ref sig .tc := ⟨.hbm, 86, rfl⟩
abbrev main_while0b_call2_v0 : Ref sig .tc := ⟨.hbm, 87, rfl⟩
abbrev main_while0b_call2_v1 : Ref sig .tc := ⟨.hbm, 88, rfl⟩
abbrev main_while0b_v114 : Ref sig .tc := ⟨.hbm, 89, rfl⟩
abbrev main_while0b_v115 : Ref sig .tc := ⟨.hbm, 90, rfl⟩
abbrev main_while0b_cst_25 : Ref sig .tc := ⟨.hbm, 91, rfl⟩
abbrev main_while0b_v116 : Ref sig .tc := ⟨.hbm, 92, rfl⟩
abbrev main_while0b_v117 : Ref sig .tc := ⟨.hbm, 93, rfl⟩
abbrev main_while0b_v118 : Ref sig .tc := ⟨.hbm, 94, rfl⟩
abbrev main_while0b_cst_26 : Ref sig .tc := ⟨.hbm, 95, rfl⟩
abbrev main_while0b_v119 : Ref sig .tc := ⟨.hbm, 96, rfl⟩
abbrev main_while0b_v120 : Ref sig .tc := ⟨.hbm, 97, rfl⟩
abbrev main_while0b_v121 : Ref sig .tc := ⟨.hbm, 98, rfl⟩
abbrev main_while0b_cst_27 : Ref sig .tc := ⟨.hbm, 99, rfl⟩
abbrev main_while0b_v122 : Ref sig .tc := ⟨.hbm, 100, rfl⟩
abbrev main_while0b_cst_28 : Ref sig .tc := ⟨.hbm, 101, rfl⟩
abbrev main_while0b_v123 : Ref sig .tc := ⟨.hbm, 102, rfl⟩
abbrev main_while0b_v124 : Ref sig .tc := ⟨.hbm, 103, rfl⟩
abbrev main_while0b_v125 : Ref sig .tc := ⟨.hbm, 104, rfl⟩
abbrev main_while0b_v126 : Ref sig .tc := ⟨.hbm, 105, rfl⟩
abbrev main_while0b_v127 : Ref sig .tc := ⟨.hbm, 106, rfl⟩
abbrev main_while0b_v128 : Ref sig .tc := ⟨.hbm, 107, rfl⟩
abbrev main_while0b_v129 : Ref sig .tc := ⟨.hbm, 108, rfl⟩
abbrev main_while0b_v130 : Ref sig .tc := ⟨.hbm, 109, rfl⟩
abbrev main_while0b_v131 : Ref sig .tc := ⟨.hbm, 110, rfl⟩
abbrev main_while0b_v132 : Ref sig .tc := ⟨.hbm, 111, rfl⟩
abbrev main_while0b_v133 : Ref sig .tc := ⟨.hbm, 112, rfl⟩
abbrev main_while0b_v134 : Ref sig .tc := ⟨.hbm, 113, rfl⟩
abbrev main_while0b_v135 : Ref sig .tc := ⟨.hbm, 114, rfl⟩
abbrev main_while0b_v136 : Ref sig .tc := ⟨.hbm, 115, rfl⟩
abbrev main_while0b_v137 : Ref sig .tc := ⟨.hbm, 116, rfl⟩
abbrev main_while0b_v138 : Ref sig .tc := ⟨.hbm, 117, rfl⟩
abbrev main_while0b_v139 : Ref sig .tc := ⟨.hbm, 118, rfl⟩
abbrev main_while0b_v140 : Ref sig .tc := ⟨.hbm, 119, rfl⟩
abbrev main_while0b_v141 : Ref sig .tc := ⟨.hbm, 120, rfl⟩
abbrev main_while0b_v142 : Ref sig .tc := ⟨.hbm, 121, rfl⟩
abbrev main_while0b_v143 : Ref sig .tc := ⟨.hbm, 122, rfl⟩
abbrev main_while0b_v144 : Ref sig .tc := ⟨.hbm, 123, rfl⟩
abbrev main_while0b_v145 : Ref sig .tc := ⟨.hbm, 124, rfl⟩
abbrev main_while0b_v146 : Ref sig .tc := ⟨.hbm, 125, rfl⟩
abbrev main_while0b_cst_29 : Ref sig .tc := ⟨.hbm, 126, rfl⟩
abbrev main_while0b_v147 : Ref sig .tc := ⟨.hbm, 127, rfl⟩
abbrev main_while0b_v148 : Ref sig .tc := ⟨.hbm, 128, rfl⟩
abbrev main_while0b_v149 : Ref sig .tc := ⟨.hbm, 129, rfl⟩
abbrev main_while0b_v150 : Ref sig .tc := ⟨.hbm, 130, rfl⟩
abbrev main_while0b_v151 : Ref sig .tc := ⟨.hbm, 131, rfl⟩
abbrev main_while0b_v152 : Ref sig .tc := ⟨.hbm, 132, rfl⟩
abbrev main_while0b_cst_30 : Ref sig .tc := ⟨.hbm, 133, rfl⟩
abbrev main_while0b_v153 : Ref sig .tc := ⟨.hbm, 134, rfl⟩
abbrev main_while0b_v154 : Ref sig .tc := ⟨.hbm, 135, rfl⟩
abbrev main_while0b_v155 : Ref sig .tc := ⟨.hbm, 136, rfl⟩
abbrev main_while0b_v156 : Ref sig .tc := ⟨.hbm, 137, rfl⟩
abbrev main_while0b_v157 : Ref sig .tc := ⟨.hbm, 138, rfl⟩
abbrev main_while0b_v158 : Ref sig .tc := ⟨.hbm, 139, rfl⟩
abbrev main_while0b_cst_31 : Ref sig .tc := ⟨.hbm, 140, rfl⟩
abbrev main_while0b_v159 : Ref sig .tc := ⟨.hbm, 141, rfl⟩
abbrev main_while0b_v160 : Ref sig .tc := ⟨.hbm, 142, rfl⟩
abbrev main_while0b_v161 : Ref sig .tc := ⟨.hbm, 143, rfl⟩
abbrev main_while0b_v162 : Ref sig .tc := ⟨.hbm, 144, rfl⟩
abbrev main_while0b_v163 : Ref sig .tc := ⟨.hbm, 145, rfl⟩
abbrev main_while0b_v164 : Ref sig .tc := ⟨.hbm, 146, rfl⟩
abbrev main_while0b_v165 : Ref sig .tc := ⟨.hbm, 147, rfl⟩
abbrev main_while0b_v166 : Ref sig .tc := ⟨.hbm, 148, rfl⟩
abbrev main_while0b_cst_32 : Ref sig .tc := ⟨.hbm, 149, rfl⟩
abbrev main_while0b_v167 : Ref sig .tc := ⟨.hbm, 150, rfl⟩
abbrev main_while0b_v168 : Ref sig .tc := ⟨.hbm, 151, rfl⟩
abbrev main_while0b_v169 : Ref sig .tc := ⟨.hbm, 152, rfl⟩
abbrev main_while0b_cst_33 : Ref sig .tc := ⟨.hbm, 153, rfl⟩
abbrev main_while0b_v170 : Ref sig .tc := ⟨.hbm, 154, rfl⟩
abbrev main_while0b_v171 : Ref sig .tc := ⟨.hbm, 155, rfl⟩
abbrev main_while0b_cst_34 : Ref sig .tc := ⟨.hbm, 156, rfl⟩
abbrev main_while0b_cst_35 : Ref sig .tc := ⟨.hbm, 157, rfl⟩
abbrev main_while0b_call3_v0 : Ref sig .tc := ⟨.hbm, 158, rfl⟩
abbrev main_while0b_call3_v1 : Ref sig .tc := ⟨.hbm, 159, rfl⟩
abbrev main_while0b_v172 : Ref sig .tc := ⟨.hbm, 160, rfl⟩
abbrev main_while0b_v173 : Ref sig .tc := ⟨.hbm, 161, rfl⟩
abbrev main_while0b_v174 : Ref sig .tc := ⟨.hbm, 162, rfl⟩
abbrev main_while0b_cst_36 : Ref sig .tc := ⟨.hbm, 163, rfl⟩
abbrev main_while0b_v175 : Ref sig .tc := ⟨.hbm, 164, rfl⟩
abbrev main_while0b_v176 : Ref sig .tc := ⟨.hbm, 165, rfl⟩
abbrev main_while0b_v177 : Ref sig .tc := ⟨.hbm, 166, rfl⟩
abbrev main_while0b_v178 : Ref sig .tc := ⟨.hbm, 167, rfl⟩
abbrev main_while0b_v179 : Ref sig .tc := ⟨.hbm, 168, rfl⟩
abbrev main_while0b_v180 : Ref sig .tc := ⟨.hbm, 169, rfl⟩
abbrev main_while0b_cst_37 : Ref sig .tc := ⟨.hbm, 170, rfl⟩
abbrev main_while0b_v181 : Ref sig .tc := ⟨.hbm, 171, rfl⟩
abbrev main_while0b_v182 : Ref sig .tc := ⟨.hbm, 172, rfl⟩
abbrev main_while0b_cst_38 : Ref sig .tc := ⟨.hbm, 173, rfl⟩
abbrev main_while0b_call4_v0 : Ref sig .tc := ⟨.hbm, 174, rfl⟩
abbrev main_while0b_call4_v1 : Ref sig .tc := ⟨.hbm, 175, rfl⟩
abbrev main_while0b_v183 : Ref sig .tc := ⟨.hbm, 176, rfl⟩
abbrev main_while0b_v184 : Ref sig .tc := ⟨.hbm, 177, rfl⟩
abbrev main_while0b_cst_39 : Ref sig .tc := ⟨.hbm, 178, rfl⟩
abbrev main_while0b_v185 : Ref sig .tc := ⟨.hbm, 179, rfl⟩
abbrev main_while0b_v186 : Ref sig .tc := ⟨.hbm, 180, rfl⟩
abbrev main_while0b_v187 : Ref sig .tc := ⟨.hbm, 181, rfl⟩
abbrev main_while0b_cst_40 : Ref sig .tc := ⟨.hbm, 182, rfl⟩
abbrev main_while0b_v188 : Ref sig .tc := ⟨.hbm, 183, rfl⟩
abbrev main_while0b_v189 : Ref sig .tc := ⟨.hbm, 184, rfl⟩
abbrev main_while0b_v190 : Ref sig .tc := ⟨.hbm, 185, rfl⟩
abbrev main_while0b_cst_41 : Ref sig .tc := ⟨.hbm, 186, rfl⟩
abbrev main_while0b_v191 : Ref sig .tc := ⟨.hbm, 187, rfl⟩
abbrev main_while0b_cst_42 : Ref sig .tc := ⟨.hbm, 188, rfl⟩
abbrev main_while0b_v192 : Ref sig .tc := ⟨.hbm, 189, rfl⟩
abbrev main_while0b_v193 : Ref sig .tc := ⟨.hbm, 190, rfl⟩
abbrev main_while0b_v194 : Ref sig .tc := ⟨.hbm, 191, rfl⟩
abbrev main_while0b_v195 : Ref sig .tc := ⟨.hbm, 192, rfl⟩
abbrev main_while0b_v196 : Ref sig .tc := ⟨.hbm, 193, rfl⟩
abbrev main_while0b_v197 : Ref sig .tc := ⟨.hbm, 194, rfl⟩
abbrev main_while0b_v198 : Ref sig .tc := ⟨.hbm, 195, rfl⟩
abbrev main_while0b_v199 : Ref sig .tc := ⟨.hbm, 196, rfl⟩
abbrev main_while0b_v200 : Ref sig .tc := ⟨.hbm, 197, rfl⟩
abbrev main_while0b_v201 : Ref sig .tc := ⟨.hbm, 198, rfl⟩
abbrev main_while0b_v202 : Ref sig .tc := ⟨.hbm, 199, rfl⟩
abbrev main_while0b_v203 : Ref sig .tc := ⟨.hbm, 200, rfl⟩
abbrev main_while0b_v204 : Ref sig .tc := ⟨.hbm, 201, rfl⟩
abbrev main_while0b_v205 : Ref sig .tc := ⟨.hbm, 202, rfl⟩
abbrev main_while0b_v206 : Ref sig .tc := ⟨.hbm, 203, rfl⟩
abbrev main_while0b_v207 : Ref sig .tc := ⟨.hbm, 204, rfl⟩
abbrev main_while0b_v208 : Ref sig .tc := ⟨.hbm, 205, rfl⟩
abbrev main_while0b_v209 : Ref sig .tc := ⟨.hbm, 206, rfl⟩
abbrev main_while0b_v210 : Ref sig .tc := ⟨.hbm, 207, rfl⟩
abbrev main_while0b_v211 : Ref sig .tc := ⟨.hbm, 208, rfl⟩
abbrev main_while0b_v212 : Ref sig .tc := ⟨.hbm, 209, rfl⟩
abbrev main_while0b_v213 : Ref sig .tc := ⟨.hbm, 210, rfl⟩
abbrev main_while0b_v214 : Ref sig .tc := ⟨.hbm, 211, rfl⟩
abbrev main_while0b_v215 : Ref sig .tc := ⟨.hbm, 212, rfl⟩
abbrev main_while0b_cst_43 : Ref sig .tc := ⟨.hbm, 213, rfl⟩
abbrev main_while0b_v216 : Ref sig .tc := ⟨.hbm, 214, rfl⟩
abbrev main_while0b_v217 : Ref sig .tc := ⟨.hbm, 215, rfl⟩
abbrev main_while0b_v218 : Ref sig .tc := ⟨.hbm, 216, rfl⟩
abbrev main_while0b_v219 : Ref sig .tc := ⟨.hbm, 217, rfl⟩
abbrev main_while0b_v220 : Ref sig .tc := ⟨.hbm, 218, rfl⟩
abbrev main_while0b_v221 : Ref sig .tc := ⟨.hbm, 219, rfl⟩
abbrev main_while0b_cst_44 : Ref sig .tc := ⟨.hbm, 220, rfl⟩
abbrev main_while0b_v222 : Ref sig .tc := ⟨.hbm, 221, rfl⟩
abbrev main_while0b_v223 : Ref sig .tc := ⟨.hbm, 222, rfl⟩
abbrev main_while0b_v224 : Ref sig .tc := ⟨.hbm, 223, rfl⟩
abbrev main_while0b_v225 : Ref sig .tc := ⟨.hbm, 224, rfl⟩
abbrev main_while0b_v226 : Ref sig .tc := ⟨.hbm, 225, rfl⟩
abbrev main_while0b_v227 : Ref sig .tc := ⟨.hbm, 226, rfl⟩
abbrev main_while0b_cst_45 : Ref sig .tc := ⟨.hbm, 227, rfl⟩
abbrev main_while0b_v228 : Ref sig .tc := ⟨.hbm, 228, rfl⟩
abbrev main_while0b_v229 : Ref sig .tc := ⟨.hbm, 229, rfl⟩
abbrev main_while0b_v230 : Ref sig .tc := ⟨.hbm, 230, rfl⟩
abbrev main_while0b_v231 : Ref sig .tc := ⟨.hbm, 231, rfl⟩
abbrev main_while0b_v232 : Ref sig .tc := ⟨.hbm, 232, rfl⟩
abbrev main_while0b_v233 : Ref sig .tc := ⟨.hbm, 233, rfl⟩
abbrev main_while0b_v234 : Ref sig .tc := ⟨.hbm, 234, rfl⟩
abbrev main_while0b_v235 : Ref sig .tc := ⟨.hbm, 235, rfl⟩
abbrev main_while0b_cst_46 : Ref sig .tc := ⟨.hbm, 236, rfl⟩
abbrev main_while0b_v236 : Ref sig .tc := ⟨.hbm, 237, rfl⟩
abbrev main_while0b_v237 : Ref sig .tc := ⟨.hbm, 238, rfl⟩
abbrev main_while0b_v238 : Ref sig .tc := ⟨.hbm, 239, rfl⟩
abbrev main_while0b_cst_47 : Ref sig .tc := ⟨.hbm, 240, rfl⟩
abbrev main_while0b_v239 : Ref sig .tc := ⟨.hbm, 241, rfl⟩
abbrev main_while0b_v240 : Ref sig .tc := ⟨.hbm, 242, rfl⟩
abbrev main_while0b_cst_48 : Ref sig .tc := ⟨.hbm, 243, rfl⟩
abbrev main_while0b_cst_49 : Ref sig .tc := ⟨.hbm, 244, rfl⟩
abbrev main_while0b_call5_v0 : Ref sig .tc := ⟨.hbm, 245, rfl⟩
abbrev main_while0b_call5_v1 : Ref sig .tc := ⟨.hbm, 246, rfl⟩
abbrev main_while0b_v241 : Ref sig .tc := ⟨.hbm, 247, rfl⟩
abbrev main_while0b_v242 : Ref sig .tc := ⟨.hbm, 248, rfl⟩
abbrev main_while0b_v243 : Ref sig .tc := ⟨.hbm, 249, rfl⟩
abbrev main_while0b_cst_50 : Ref sig .tc := ⟨.hbm, 250, rfl⟩
abbrev main_while0b_v244 : Ref sig .tc := ⟨.hbm, 251, rfl⟩
abbrev main_while0b_v245 : Ref sig .tc := ⟨.hbm, 252, rfl⟩
abbrev main_while0b_v246 : Ref sig .tc := ⟨.hbm, 253, rfl⟩
abbrev main_while0b_v247 : Ref sig .tc := ⟨.hbm, 254, rfl⟩
abbrev main_while0b_v248 : Ref sig .tc := ⟨.hbm, 255, rfl⟩
abbrev main_while0b_v249 : Ref sig .tc := ⟨.hbm, 256, rfl⟩
abbrev main_while0b_cst_51 : Ref sig .tc := ⟨.hbm, 257, rfl⟩
abbrev main_while0b_v250 : Ref sig .tc := ⟨.hbm, 258, rfl⟩
abbrev main_while0b_v251 : Ref sig .tc := ⟨.hbm, 259, rfl⟩
abbrev main_while0b_cst_52 : Ref sig .tc := ⟨.hbm, 260, rfl⟩
abbrev main_while0b_call6_v0 : Ref sig .tc := ⟨.hbm, 261, rfl⟩
abbrev main_while0b_call6_v1 : Ref sig .tc := ⟨.hbm, 262, rfl⟩
abbrev main_while0b_v252 : Ref sig .tc := ⟨.hbm, 263, rfl⟩
abbrev main_while0b_v253 : Ref sig .tc := ⟨.hbm, 264, rfl⟩
abbrev main_while0b_cst_53 : Ref sig .tc := ⟨.hbm, 265, rfl⟩
abbrev main_while0b_v254 : Ref sig .tc := ⟨.hbm, 266, rfl⟩
abbrev main_while0b_v255 : Ref sig .tc := ⟨.hbm, 267, rfl⟩
abbrev main_while0b_v256 : Ref sig .tc := ⟨.hbm, 268, rfl⟩
abbrev main_while0b_cst_54 : Ref sig .tc := ⟨.hbm, 269, rfl⟩
abbrev main_while0b_v257 : Ref sig .tc := ⟨.hbm, 270, rfl⟩
abbrev main_while0b_v258 : Ref sig .tc := ⟨.hbm, 271, rfl⟩
abbrev main_while0b_v259 : Ref sig .tc := ⟨.hbm, 272, rfl⟩
abbrev main_while0b_cst_55 : Ref sig .tc := ⟨.hbm, 273, rfl⟩
abbrev main_while0b_v260 : Ref sig .tc := ⟨.hbm, 274, rfl⟩
abbrev main_while0b_cst_56 : Ref sig .tc := ⟨.hbm, 275, rfl⟩
abbrev main_while0b_v261 : Ref sig .tc := ⟨.hbm, 276, rfl⟩
abbrev main_while0b_v262 : Ref sig .tc := ⟨.hbm, 277, rfl⟩
abbrev main_while0b_v263 : Ref sig .tc := ⟨.hbm, 278, rfl⟩
abbrev main_while0b_v264 : Ref sig .tc := ⟨.hbm, 279, rfl⟩
abbrev main_while0b_v265 : Ref sig .tc := ⟨.hbm, 280, rfl⟩
abbrev main_while0b_v266 : Ref sig .tc := ⟨.hbm, 281, rfl⟩
abbrev main_while0b_v267 : Ref sig .tc := ⟨.hbm, 282, rfl⟩
abbrev main_while0b_v268 : Ref sig .tc := ⟨.hbm, 283, rfl⟩
abbrev main_while0b_v269 : Ref sig .tc := ⟨.hbm, 284, rfl⟩
abbrev main_while0b_v270 : Ref sig .tc := ⟨.hbm, 285, rfl⟩
abbrev main_while0b_v271 : Ref sig .tc := ⟨.hbm, 286, rfl⟩
abbrev main_while0b_v272 : Ref sig .tc := ⟨.hbm, 287, rfl⟩
abbrev main_while0b_v273 : Ref sig .tc := ⟨.hbm, 288, rfl⟩
abbrev main_while0b_v274 : Ref sig .tc := ⟨.hbm, 289, rfl⟩
abbrev main_while0b_v275 : Ref sig .tc := ⟨.hbm, 290, rfl⟩
abbrev main_while0b_v276 : Ref sig .tc := ⟨.hbm, 291, rfl⟩
abbrev main_while0b_v277 : Ref sig .tc := ⟨.hbm, 292, rfl⟩
abbrev main_while0b_v278 : Ref sig .tc := ⟨.hbm, 293, rfl⟩
abbrev main_while0b_v279 : Ref sig .tc := ⟨.hbm, 294, rfl⟩
abbrev main_while0b_v280 : Ref sig .tc := ⟨.hbm, 295, rfl⟩
abbrev main_while0b_v281 : Ref sig .tc := ⟨.hbm, 296, rfl⟩
abbrev main_while0b_v282 : Ref sig .tc := ⟨.hbm, 297, rfl⟩
abbrev main_while0b_v283 : Ref sig .tc := ⟨.hbm, 298, rfl⟩
abbrev main_while0b_v284 : Ref sig .tc := ⟨.hbm, 299, rfl⟩
abbrev main_while0b_cst_57 : Ref sig .tc := ⟨.hbm, 300, rfl⟩
abbrev main_while0b_v285 : Ref sig .tc := ⟨.hbm, 301, rfl⟩
abbrev main_while0b_v286 : Ref sig .tc := ⟨.hbm, 302, rfl⟩
abbrev main_while0b_v287 : Ref sig .tc := ⟨.hbm, 303, rfl⟩
abbrev main_while0b_v288 : Ref sig .tc := ⟨.hbm, 304, rfl⟩
abbrev main_while0b_v289 : Ref sig .tc := ⟨.hbm, 305, rfl⟩
abbrev main_while0b_v290 : Ref sig .tc := ⟨.hbm, 306, rfl⟩
abbrev main_while0b_cst_58 : Ref sig .tc := ⟨.hbm, 307, rfl⟩
abbrev main_while0b_v291 : Ref sig .tc := ⟨.hbm, 308, rfl⟩
abbrev main_while0b_v292 : Ref sig .tc := ⟨.hbm, 309, rfl⟩
abbrev main_while0b_v293 : Ref sig .tc := ⟨.hbm, 310, rfl⟩
abbrev main_while0b_v294 : Ref sig .tc := ⟨.hbm, 311, rfl⟩
abbrev main_while0b_v295 : Ref sig .tc := ⟨.hbm, 312, rfl⟩
abbrev main_while0b_v296 : Ref sig .tc := ⟨.hbm, 313, rfl⟩
abbrev main_while0b_cst_59 : Ref sig .tc := ⟨.hbm, 314, rfl⟩
abbrev main_while0b_v297 : Ref sig .tc := ⟨.hbm, 315, rfl⟩
abbrev main_while0b_v298 : Ref sig .tc := ⟨.hbm, 316, rfl⟩
abbrev main_while0b_cst_60 : Ref sig .tc := ⟨.hbm, 317, rfl⟩
abbrev main_while0b_v299 : Ref sig .tc := ⟨.hbm, 318, rfl⟩
abbrev main_while0b_cst_61 : Ref sig .tc := ⟨.hbm, 319, rfl⟩
abbrev main_while0b_v300 : Ref sig .tc := ⟨.hbm, 320, rfl⟩
abbrev main_while0b_v301 : Ref sig .tc := ⟨.hbm, 321, rfl⟩
abbrev main_while0b_v302 : Ref sig .tc := ⟨.hbm, 322, rfl⟩
abbrev main_while0b_v303 : Ref sig .tc := ⟨.hbm, 323, rfl⟩
abbrev main_while0b_v304 : Ref sig .tc := ⟨.hbm, 324, rfl⟩
abbrev main_while0b_v305 : Ref sig .tc := ⟨.hbm, 325, rfl⟩
abbrev main_while0b_v306 : Ref sig .tc := ⟨.hbm, 326, rfl⟩
abbrev main_while0b_v307 : Ref sig .tc := ⟨.hbm, 327, rfl⟩
abbrev main_while0b_v308 : Ref sig .tc := ⟨.hbm, 328, rfl⟩
abbrev main_while0b_v309 : Ref sig .tc := ⟨.hbm, 329, rfl⟩
abbrev main_while0b_v310 : Ref sig .tc := ⟨.hbm, 330, rfl⟩
abbrev main_while0b_v311 : Ref sig .tc := ⟨.hbm, 331, rfl⟩
abbrev main_while0b_v312 : Ref sig .tc := ⟨.hbm, 332, rfl⟩
abbrev main_while0b_v313 : Ref sig .tc := ⟨.hbm, 333, rfl⟩
abbrev main_while0b_v314 : Ref sig .tc := ⟨.hbm, 334, rfl⟩
abbrev main_while0b_v315 : Ref sig .tc := ⟨.hbm, 335, rfl⟩
abbrev main_while0b_v316 : Ref sig .tc := ⟨.hbm, 336, rfl⟩
abbrev main_while0b_v317 : Ref sig .tc := ⟨.hbm, 337, rfl⟩
abbrev main_while0b_v318 : Ref sig .tc := ⟨.hbm, 338, rfl⟩
abbrev main_while0b_cst_62 : Ref sig .tc := ⟨.hbm, 339, rfl⟩
abbrev main_while0b_v319 : Ref sig .tc := ⟨.hbm, 340, rfl⟩
abbrev main_while0b_v320 : Ref sig .tc := ⟨.hbm, 341, rfl⟩
abbrev main_while0b_v321 : Ref sig .tc := ⟨.hbm, 342, rfl⟩
abbrev main_while0b_call7_v0 : Ref sig .tc := ⟨.hbm, 343, rfl⟩
abbrev main_while0b_v322 : Ref sig .tc := ⟨.hbm, 344, rfl⟩
abbrev main_while0b_call8_v0 : Ref sig .tc := ⟨.hbm, 345, rfl⟩
abbrev main_while0b_v323 : Ref sig .tc := ⟨.hbm, 346, rfl⟩
abbrev main_while0b_v324 : Ref sig .tc := ⟨.hbm, 347, rfl⟩
abbrev main_while0b_v325 : Ref sig .tc := ⟨.hbm, 348, rfl⟩
abbrev main_while0b_cst_63 : Ref sig .tc := ⟨.hbm, 349, rfl⟩
abbrev main_while0b_v326 : Ref sig .tc := ⟨.hbm, 350, rfl⟩
abbrev main_while0b_v327 : Ref sig .tc := ⟨.hbm, 351, rfl⟩
abbrev main_while0b_v328 : Ref sig .tc := ⟨.hbm, 352, rfl⟩
abbrev main_while0b_cst_64 : Ref sig .tc := ⟨.hbm, 353, rfl⟩
abbrev main_while0b_v329 : Ref sig .tc := ⟨.hbm, 354, rfl⟩
abbrev main_while0b_v330 : Ref sig .tc := ⟨.hbm, 355, rfl⟩
abbrev main_while0b_cst_65 : Ref sig .tc := ⟨.hbm, 356, rfl⟩
abbrev main_while0b_cst_66 : Ref sig .tc := ⟨.hbm, 357, rfl⟩
abbrev main_while0b_call9_v0 : Ref sig .tc := ⟨.hbm, 358, rfl⟩
abbrev main_while0b_call9_v1 : Ref sig .tc := ⟨.hbm, 359, rfl⟩
abbrev main_while0b_v331 : Ref sig .tc := ⟨.hbm, 360, rfl⟩
abbrev main_while0b_cst_67 : Ref sig .tc := ⟨.hbm, 361, rfl⟩
abbrev main_while0b_v332 : Ref sig .tc := ⟨.hbm, 362, rfl⟩
abbrev main_while0b_cst_68 : Ref sig .tc := ⟨.hbm, 363, rfl⟩
abbrev main_while0b_v333 : Ref sig .tc := ⟨.hbm, 364, rfl⟩
abbrev main_while0b_v334 : Ref sig .tc := ⟨.hbm, 365, rfl⟩
abbrev main_while0b_v335 : Ref sig .tc := ⟨.hbm, 366, rfl⟩
abbrev main_while0b_v336 : Ref sig .tc := ⟨.hbm, 367, rfl⟩
abbrev main_while0b_v337 : Ref sig .tc := ⟨.hbm, 368, rfl⟩
abbrev main_while0b_v338 : Ref sig .tc := ⟨.hbm, 369, rfl⟩
abbrev main_while0b_v339 : Ref sig .tc := ⟨.hbm, 370, rfl⟩
abbrev main_while0b_v340 : Ref sig .tc := ⟨.hbm, 371, rfl⟩
abbrev main_while0b_v341 : Ref sig .tc := ⟨.hbm, 372, rfl⟩
abbrev main_while0b_v342 : Ref sig .tc := ⟨.hbm, 373, rfl⟩
abbrev main_while0b_v343 : Ref sig .tc := ⟨.hbm, 374, rfl⟩
abbrev main_while0b_v344 : Ref sig .tc := ⟨.hbm, 375, rfl⟩
abbrev main_while0b_v345 : Ref sig .tc := ⟨.hbm, 376, rfl⟩
abbrev main_while0b_v346 : Ref sig .tc := ⟨.hbm, 377, rfl⟩
abbrev main_while0b_v347 : Ref sig .tc := ⟨.hbm, 378, rfl⟩
abbrev main_while0b_v348 : Ref sig .tc := ⟨.hbm, 379, rfl⟩
abbrev main_while0b_v349 : Ref sig .tc := ⟨.hbm, 380, rfl⟩
abbrev main_while0b_v350 : Ref sig .tc := ⟨.hbm, 381, rfl⟩
abbrev main_while0b_v351 : Ref sig .tc := ⟨.hbm, 382, rfl⟩
abbrev main_while0b_v352 : Ref sig .tc := ⟨.hbm, 383, rfl⟩
abbrev main_while0b_cst_69 : Ref sig .tc := ⟨.hbm, 384, rfl⟩
abbrev main_while0b_v353 : Ref sig .tc := ⟨.hbm, 385, rfl⟩
abbrev main_while0b_v354 : Ref sig .tc := ⟨.hbm, 386, rfl⟩
abbrev main_while0b_v355 : Ref sig .tc := ⟨.hbm, 387, rfl⟩
abbrev main_while0b_cst_70 : Ref sig .tc := ⟨.hbm, 388, rfl⟩
abbrev main_while0b_v356 : Ref sig .tc := ⟨.hbm, 389, rfl⟩
abbrev main_while0b_v357 : Ref sig .tc := ⟨.hbm, 390, rfl⟩
abbrev main_while0b_v358 : Ref sig .tc := ⟨.hbm, 391, rfl⟩
abbrev main_while0b_v359 : Ref sig .tc := ⟨.hbm, 392, rfl⟩
abbrev main_while0b_v360 : Ref sig .tc := ⟨.hbm, 393, rfl⟩
abbrev main_while0b_v361 : Ref sig .tc := ⟨.hbm, 394, rfl⟩
abbrev main_while0b_v362 : Ref sig .tc := ⟨.hbm, 395, rfl⟩
abbrev main_while0b_v363 : Ref sig .tc := ⟨.hbm, 396, rfl⟩
abbrev main_while0b_v364 : Ref sig .tc := ⟨.hbm, 397, rfl⟩
abbrev main_while0b_v365 : Ref sig .tc := ⟨.hbm, 398, rfl⟩
abbrev main_while0b_cst_71 : Ref sig .tc := ⟨.hbm, 399, rfl⟩
abbrev main_while0b_v366 : Ref sig .tc := ⟨.hbm, 400, rfl⟩
abbrev main_while0b_v367 : Ref sig .tc := ⟨.hbm, 401, rfl⟩
abbrev main_while0b_cst_72 : Ref sig .tc := ⟨.hbm, 402, rfl⟩
abbrev main_while0b_cst_73 : Ref sig .tc := ⟨.hbm, 403, rfl⟩
abbrev main_while0b_call10_v0 : Ref sig .tc := ⟨.hbm, 404, rfl⟩
abbrev main_while0b_call10_v1 : Ref sig .tc := ⟨.hbm, 405, rfl⟩
abbrev main_while0b_v368 : Ref sig .tc := ⟨.hbm, 406, rfl⟩
abbrev main_while0b_v369 : Ref sig .tc := ⟨.hbm, 407, rfl⟩
abbrev main_while0b_v370 : Ref sig .tc := ⟨.hbm, 408, rfl⟩
abbrev main_while0b_v371 : Ref sig .tc := ⟨.hbm, 409, rfl⟩
abbrev main_while0b_v372 : Ref sig .tc := ⟨.hbm, 410, rfl⟩
abbrev main_while0b_v373 : Ref sig .tc := ⟨.hbm, 411, rfl⟩
abbrev main_while0b_cst_74 : Ref sig .tc := ⟨.hbm, 412, rfl⟩
abbrev main_while0b_v374 : Ref sig .tc := ⟨.hbm, 413, rfl⟩
abbrev main_while0b_v375 : Ref sig .tc := ⟨.hbm, 414, rfl⟩
abbrev main_while0b_v376 : Ref sig .tc := ⟨.hbm, 415, rfl⟩
abbrev main_while0b_v377 : Ref sig .tc := ⟨.hbm, 416, rfl⟩
abbrev main_while0b_cst_75 : Ref sig .tc := ⟨.hbm, 417, rfl⟩
abbrev main_while0b_call11_v0 : Ref sig .tc := ⟨.hbm, 418, rfl⟩
abbrev main_while0b_call11_v1 : Ref sig .tc := ⟨.hbm, 419, rfl⟩
abbrev main_while0b_v378 : Ref sig .tc := ⟨.hbm, 420, rfl⟩
abbrev main_while0b_cst_76 : Ref sig .tc := ⟨.hbm, 421, rfl⟩
abbrev main_while0b_v379 : Ref sig .tc := ⟨.hbm, 422, rfl⟩
abbrev main_while0b_v380 : Ref sig .tc := ⟨.hbm, 423, rfl⟩
abbrev main_while0b_v381 : Ref sig .tc := ⟨.hbm, 424, rfl⟩
abbrev main_while0b_v382 : Ref sig .tc := ⟨.hbm, 425, rfl⟩
abbrev main_while0b_cst_77 : Ref sig .tc := ⟨.hbm, 426, rfl⟩
abbrev main_while0b_call12_v0 : Ref sig .tc := ⟨.hbm, 427, rfl⟩
abbrev main_while0b_call12_v1 : Ref sig .tc := ⟨.hbm, 428, rfl⟩
abbrev main_while0b_v383 : Ref sig .tc := ⟨.hbm, 429, rfl⟩
abbrev main_while0b_cst_78 : Ref sig .tc := ⟨.hbm, 430, rfl⟩
abbrev main_while0b_v384 : Ref sig .tc := ⟨.hbm, 431, rfl⟩
abbrev main_while0b_v385 : Ref sig .tc := ⟨.hbm, 432, rfl⟩
abbrev main_while0b_v386 : Ref sig .tc := ⟨.hbm, 433, rfl⟩
abbrev main_while0b_v387 : Ref sig .tc := ⟨.hbm, 434, rfl⟩
abbrev main_while0b_cst_79 : Ref sig .tc := ⟨.hbm, 435, rfl⟩
abbrev main_while0b_call13_v0 : Ref sig .tc := ⟨.hbm, 436, rfl⟩
abbrev main_while0b_call13_v1 : Ref sig .tc := ⟨.hbm, 437, rfl⟩
abbrev main_while0b_v388 : Ref sig .tc := ⟨.hbm, 438, rfl⟩
abbrev main_while0b_v389 : Ref sig .tc := ⟨.hbm, 439, rfl⟩
abbrev main_while0b_v390 : Ref sig .tc := ⟨.hbm, 440, rfl⟩
abbrev main_while0b_v391 : Ref sig .tc := ⟨.hbm, 441, rfl⟩
abbrev main_while0b_v392 : Ref sig .tc := ⟨.hbm, 442, rfl⟩
abbrev main_while0b_v393 : Ref sig .tc := ⟨.hbm, 443, rfl⟩
abbrev main_while0b_v394 : Ref sig .tc := ⟨.hbm, 444, rfl⟩
abbrev main_while0b_v395 : Ref sig .tc := ⟨.hbm, 445, rfl⟩
abbrev main_while0b_v396 : Ref sig .tc := ⟨.hbm, 446, rfl⟩
abbrev main_while0b_cst_80 : Ref sig .tc := ⟨.hbm, 447, rfl⟩
abbrev main_while0b_v397 : Ref sig .tc := ⟨.hbm, 448, rfl⟩
abbrev main_while0b_v398 : Ref sig .tc := ⟨.hbm, 449, rfl⟩
abbrev main_while0b_v399 : Ref sig .tc := ⟨.hbm, 450, rfl⟩
abbrev main_while0b_v400 : Ref sig .tc := ⟨.hbm, 451, rfl⟩
abbrev main_while0b_v401 : Ref sig .tc := ⟨.hbm, 452, rfl⟩
abbrev main_while0b_v402 : Ref sig .tc := ⟨.hbm, 453, rfl⟩
abbrev main_while0b_v403 : Ref sig .tc := ⟨.hbm, 454, rfl⟩
abbrev main_while0b_v404 : Ref sig .tc := ⟨.hbm, 455, rfl⟩
abbrev main_while0b_v405 : Ref sig .tc := ⟨.hbm, 456, rfl⟩
abbrev main_while0b_v406 : Ref sig .tc := ⟨.hbm, 457, rfl⟩
abbrev main_while0b_v407 : Ref sig .tc := ⟨.hbm, 458, rfl⟩
abbrev main_while0b_v408 : Ref sig .tc := ⟨.hbm, 459, rfl⟩
abbrev main_while0b_v409 : Ref sig .tc := ⟨.hbm, 460, rfl⟩
abbrev main_while0b_v410 : Ref sig .tc := ⟨.hbm, 461, rfl⟩
abbrev main_while0b_v411 : Ref sig .tc := ⟨.hbm, 462, rfl⟩
abbrev main_while0b_v412 : Ref sig .tc := ⟨.hbm, 463, rfl⟩
abbrev main_while0b_cst_81 : Ref sig .tc := ⟨.hbm, 464, rfl⟩
abbrev main_while0b_v413 : Ref sig .tc := ⟨.hbm, 465, rfl⟩
abbrev main_while0b_v414 : Ref sig .tc := ⟨.hbm, 466, rfl⟩
abbrev main_while0b_cst_82 : Ref sig .tc := ⟨.hbm, 467, rfl⟩
abbrev main_while0b_cst_83 : Ref sig .tc := ⟨.hbm, 468, rfl⟩
abbrev main_while0b_call14_v0 : Ref sig .tc := ⟨.hbm, 469, rfl⟩
abbrev main_while0b_call14_v1 : Ref sig .tc := ⟨.hbm, 470, rfl⟩
abbrev main_while0b_v415 : Ref sig .tc := ⟨.hbm, 471, rfl⟩
abbrev main_while0b_v416 : Ref sig .tc := ⟨.hbm, 472, rfl⟩
abbrev main_while0b_v417 : Ref sig .tc := ⟨.hbm, 473, rfl⟩
abbrev main_while0b_v418 : Ref sig .tc := ⟨.hbm, 474, rfl⟩
abbrev main_while0b_v419 : Ref sig .tc := ⟨.hbm, 475, rfl⟩
abbrev main_while0b_v420 : Ref sig .tc := ⟨.hbm, 476, rfl⟩
abbrev main_while0b_cst_84 : Ref sig .tc := ⟨.hbm, 477, rfl⟩
abbrev main_while0b_v421 : Ref sig .tc := ⟨.hbm, 478, rfl⟩
abbrev main_while0b_v422 : Ref sig .tc := ⟨.hbm, 479, rfl⟩
abbrev main_while0b_v423 : Ref sig .tc := ⟨.hbm, 480, rfl⟩
abbrev main_while0b_v424 : Ref sig .tc := ⟨.hbm, 481, rfl⟩
abbrev main_while0b_cst_85 : Ref sig .tc := ⟨.hbm, 482, rfl⟩
abbrev main_while0b_call15_v0 : Ref sig .tc := ⟨.hbm, 483, rfl⟩
abbrev main_while0b_call15_v1 : Ref sig .tc := ⟨.hbm, 484, rfl⟩
abbrev main_while0b_v425 : Ref sig .tc := ⟨.hbm, 485, rfl⟩
abbrev main_while0b_cst_86 : Ref sig .tc := ⟨.hbm, 486, rfl⟩
abbrev main_while0b_v426 : Ref sig .tc := ⟨.hbm, 487, rfl⟩
abbrev main_while0b_v427 : Ref sig .tc := ⟨.hbm, 488, rfl⟩
abbrev main_while0b_v428 : Ref sig .tc := ⟨.hbm, 489, rfl⟩
abbrev main_while0b_v429 : Ref sig .tc := ⟨.hbm, 490, rfl⟩
abbrev main_while0b_cst_87 : Ref sig .tc := ⟨.hbm, 491, rfl⟩
abbrev main_while0b_call16_v0 : Ref sig .tc := ⟨.hbm, 492, rfl⟩
abbrev main_while0b_call16_v1 : Ref sig .tc := ⟨.hbm, 493, rfl⟩
abbrev main_while0b_v430 : Ref sig .tc := ⟨.hbm, 494, rfl⟩
abbrev main_while0b_cst_88 : Ref sig .tc := ⟨.hbm, 495, rfl⟩
abbrev main_while0b_v431 : Ref sig .tc := ⟨.hbm, 496, rfl⟩
abbrev main_while0b_v432 : Ref sig .tc := ⟨.hbm, 497, rfl⟩
abbrev main_while0b_v433 : Ref sig .tc := ⟨.hbm, 498, rfl⟩
abbrev main_while0b_v434 : Ref sig .tc := ⟨.hbm, 499, rfl⟩
abbrev main_while0b_cst_89 : Ref sig .tc := ⟨.hbm, 500, rfl⟩
abbrev main_while0b_call17_v0 : Ref sig .tc := ⟨.hbm, 501, rfl⟩
abbrev main_while0b_call17_v1 : Ref sig .tc := ⟨.hbm, 502, rfl⟩
abbrev main_while0b_v435 : Ref sig .tc := ⟨.hbm, 503, rfl⟩
abbrev main_while0b_v436 : Ref sig .tc := ⟨.hbm, 504, rfl⟩
abbrev main_while0b_v437 : Ref sig .tc := ⟨.hbm, 505, rfl⟩
abbrev main_while0b_v438 : Ref sig .tc := ⟨.hbm, 506, rfl⟩
abbrev main_while0b_v439 : Ref sig .tc := ⟨.hbm, 507, rfl⟩
abbrev main_while0b_cst_90 : Ref sig .tc := ⟨.hbm, 508, rfl⟩
abbrev main_while0b_v440 : Ref sig .tc := ⟨.hbm, 509, rfl⟩
abbrev main_while0b_cst_91 : Ref sig .tc := ⟨.hbm, 510, rfl⟩
abbrev main_while0b_v441 : Ref sig .tc := ⟨.hbm, 511, rfl⟩
abbrev main_while0b_v442 : Ref sig .tc := ⟨.hbm, 512, rfl⟩
abbrev main_while0b_v443 : Ref sig .tc := ⟨.hbm, 513, rfl⟩
abbrev main_while0b_v444 : Ref sig .tc := ⟨.hbm, 514, rfl⟩
abbrev main_while0b_v445 : Ref sig .tc := ⟨.hbm, 515, rfl⟩
abbrev main_while0b_v446 : Ref sig .tc := ⟨.hbm, 516, rfl⟩
abbrev main_while0b_v447 : Ref sig .tc := ⟨.hbm, 517, rfl⟩
abbrev main_while0b_v448 : Ref sig .tc := ⟨.hbm, 518, rfl⟩
abbrev main_while0b_v449 : Ref sig .tc := ⟨.hbm, 519, rfl⟩
abbrev main_while0b_v450 : Ref sig .tc := ⟨.hbm, 520, rfl⟩
abbrev main_while0b_v451 : Ref sig .tc := ⟨.hbm, 521, rfl⟩
abbrev main_while0b_v452 : Ref sig .tc := ⟨.hbm, 522, rfl⟩
abbrev main_while0b_v453 : Ref sig .tc := ⟨.hbm, 523, rfl⟩
abbrev main_while0b_v454 : Ref sig .tc := ⟨.hbm, 524, rfl⟩
abbrev main_while0b_v455 : Ref sig .tc := ⟨.hbm, 525, rfl⟩
abbrev main_while0b_v456 : Ref sig .tc := ⟨.hbm, 526, rfl⟩
abbrev main_while0b_v457 : Ref sig .tc := ⟨.hbm, 527, rfl⟩
abbrev main_while0b_v458 : Ref sig .tc := ⟨.hbm, 528, rfl⟩
abbrev main_while0b_v459 : Ref sig .tc := ⟨.hbm, 529, rfl⟩
abbrev main_while0b_v460 : Ref sig .tc := ⟨.hbm, 530, rfl⟩
abbrev main_while0b_v461 : Ref sig .tc := ⟨.hbm, 531, rfl⟩
abbrev main_while0b_cst_92 : Ref sig .tc := ⟨.hbm, 532, rfl⟩
abbrev main_while0b_v462 : Ref sig .tc := ⟨.hbm, 533, rfl⟩
abbrev main_while0b_v463 : Ref sig .tc := ⟨.hbm, 534, rfl⟩
abbrev main_while0b_v464 : Ref sig .tc := ⟨.hbm, 535, rfl⟩
abbrev main_while0b_v465 : Ref sig .tc := ⟨.hbm, 536, rfl⟩
abbrev main_while0b_v466 : Ref sig .tc := ⟨.hbm, 537, rfl⟩
abbrev main_while0b_v467 : Ref sig .tc := ⟨.hbm, 538, rfl⟩
abbrev main_while0b_v468 : Ref sig .tc := ⟨.hbm, 539, rfl⟩
abbrev main_while0b_v469 : Ref sig .tc := ⟨.hbm, 540, rfl⟩
abbrev main_while0b_v470 : Ref sig .tc := ⟨.hbm, 541, rfl⟩
abbrev main_while0b_v471 : Ref sig .tc := ⟨.hbm, 542, rfl⟩
abbrev main_while0b_v472 : Ref sig .tc := ⟨.hbm, 543, rfl⟩
abbrev main_while0b_v473 : Ref sig .tc := ⟨.hbm, 544, rfl⟩
abbrev main_while0b_v474 : Ref sig .tc := ⟨.hbm, 545, rfl⟩
abbrev main_while0b_cst_93 : Ref sig .tc := ⟨.hbm, 546, rfl⟩
abbrev main_while0b_v475 : Ref sig .tc := ⟨.hbm, 547, rfl⟩
abbrev main_while0b_v476 : Ref sig .tc := ⟨.hbm, 548, rfl⟩
abbrev main_while0b_v477 : Ref sig .tc := ⟨.hbm, 549, rfl⟩
abbrev main_while0b_v478 : Ref sig .tc := ⟨.hbm, 550, rfl⟩
abbrev main_while0b_v479 : Ref sig .tc := ⟨.hbm, 551, rfl⟩
abbrev main_while0b_v480 : Ref sig .tc := ⟨.hbm, 552, rfl⟩
abbrev main_while0b_v481 : Ref sig .tc := ⟨.hbm, 553, rfl⟩
abbrev main_while0b_v482 : Ref sig .tc := ⟨.hbm, 554, rfl⟩
abbrev main_while0b_v483 : Ref sig .tc := ⟨.hbm, 555, rfl⟩
abbrev main_while0b_v484 : Ref sig .tc := ⟨.hbm, 556, rfl⟩
abbrev main_while0b_v485 : Ref sig .tc := ⟨.hbm, 557, rfl⟩
abbrev main_while0b_v486 : Ref sig .tc := ⟨.hbm, 558, rfl⟩
abbrev main_while0b_v487 : Ref sig .tc := ⟨.hbm, 559, rfl⟩
abbrev main_while0b_v488 : Ref sig .tc := ⟨.hbm, 560, rfl⟩
abbrev main_while0b_v489 : Ref sig .tc := ⟨.hbm, 561, rfl⟩
abbrev main_while0b_cst_94 : Ref sig .tc := ⟨.hbm, 562, rfl⟩
abbrev main_while0b_v490 : Ref sig .tc := ⟨.hbm, 563, rfl⟩
abbrev main_while0b_call18_v0 : Ref sig .tc := ⟨.hbm, 564, rfl⟩
abbrev main_while0b_v491 : Ref sig .tc := ⟨.hbm, 565, rfl⟩
abbrev main_while0b_c_95 : Ref sig .tc := ⟨.hbm, 566, rfl⟩
abbrev main_while0b_v492 : Ref sig .tc := ⟨.hbm, 567, rfl⟩
abbrev main_v32 : Ref sig .tc := ⟨.hbm, 568, rfl⟩
abbrev main_v33 : Ref sig .tc := ⟨.hbm, 569, rfl⟩
abbrev main_v34 : Ref sig .tc := ⟨.hbm, 570, rfl⟩
abbrev main_v35 : Ref sig .tc := ⟨.hbm, 571, rfl⟩
abbrev main_v36 : Ref sig .tc := ⟨.hbm, 572, rfl⟩
abbrev main_v37 : Ref sig .tc := ⟨.hbm, 573, rfl⟩
abbrev main_cst_5 : Ref sig .tc := ⟨.hbm, 574, rfl⟩
abbrev main_v38 : Ref sig .tc := ⟨.hbm, 575, rfl⟩
abbrev main_v39 : Ref sig .tc := ⟨.hbm, 576, rfl⟩
abbrev main_v40 : Ref sig .tc := ⟨.hbm, 577, rfl⟩
abbrev main_v41 : Ref sig .tc := ⟨.hbm, 578, rfl⟩
abbrev main_v42 : Ref sig .tc := ⟨.hbm, 579, rfl⟩
abbrev main_v43 : Ref sig .tc := ⟨.hbm, 580, rfl⟩
abbrev main_v44 : Ref sig .tc := ⟨.hbm, 581, rfl⟩
abbrev main_v45 : Ref sig .tc := ⟨.hbm, 582, rfl⟩
abbrev main_v46 : Ref sig .tc := ⟨.hbm, 583, rfl⟩
abbrev main_v47 : Ref sig .tc := ⟨.hbm, 584, rfl⟩
abbrev main_v48 : Ref sig .tc := ⟨.hbm, 585, rfl⟩
abbrev main_v49 : Ref sig .tc := ⟨.hbm, 586, rfl⟩
abbrev main_v50 : Ref sig .tc := ⟨.hbm, 587, rfl⟩
abbrev main_v51 : Ref sig .tc := ⟨.hbm, 588, rfl⟩
abbrev main_v52 : Ref sig .tc := ⟨.hbm, 589, rfl⟩
abbrev main_v53 : Ref sig .tc := ⟨.hbm, 590, rfl⟩
abbrev main_v54 : Ref sig .tc := ⟨.hbm, 591, rfl⟩
abbrev main_v55 : Ref sig .tc := ⟨.hbm, 592, rfl⟩
abbrev main_v56 : Ref sig .tc := ⟨.hbm, 593, rfl⟩
abbrev main_v57 : Ref sig .tc := ⟨.hbm, 594, rfl⟩
abbrev main_v58 : Ref sig .tc := ⟨.hbm, 595, rfl⟩
abbrev main_v59 : Ref sig .tc := ⟨.hbm, 596, rfl⟩
abbrev main_v60 : Ref sig .tc := ⟨.hbm, 597, rfl⟩
abbrev main_v61 : Ref sig .tc := ⟨.hbm, 598, rfl⟩
abbrev main_v62 : Ref sig .tc := ⟨.hbm, 599, rfl⟩
abbrev main_v63 : Ref sig .tc := ⟨.hbm, 600, rfl⟩
abbrev main_v64 : Ref sig .tc := ⟨.hbm, 601, rfl⟩
abbrev main_v65 : Ref sig .tc := ⟨.hbm, 602, rfl⟩
abbrev main_v66 : Ref sig .tc := ⟨.hbm, 603, rfl⟩
abbrev main_cst_6 : Ref sig .tc := ⟨.hbm, 604, rfl⟩
abbrev main_v67 : Ref sig .tc := ⟨.hbm, 605, rfl⟩
abbrev main_cst_7 : Ref sig .tc := ⟨.hbm, 606, rfl⟩
abbrev main_v68 : Ref sig .tc := ⟨.hbm, 607, rfl⟩
abbrev main_v69 : Ref sig .tc := ⟨.hbm, 608, rfl⟩
abbrev main_v70 : Ref sig .tc := ⟨.hbm, 609, rfl⟩
abbrev main_cst_8 : Ref sig .tc := ⟨.hbm, 610, rfl⟩
abbrev main_v71 : Ref sig .tc := ⟨.hbm, 611, rfl⟩
abbrev main_v72 : Ref sig .tc := ⟨.hbm, 612, rfl⟩
abbrev main_v73 : Ref sig .tc := ⟨.hbm, 613, rfl⟩
abbrev main_cst_9 : Ref sig .tc := ⟨.hbm, 614, rfl⟩
abbrev main_v74 : Ref sig .tc := ⟨.hbm, 615, rfl⟩
abbrev main_v75 : Ref sig .tc := ⟨.hbm, 616, rfl⟩
abbrev main_v76 : Ref sig .tc := ⟨.hbm, 617, rfl⟩
abbrev main_v77 : Ref sig .tc := ⟨.hbm, 618, rfl⟩
abbrev main_v78 : Ref sig .tc := ⟨.hbm, 619, rfl⟩
abbrev main_v79 : Ref sig .tc := ⟨.hbm, 620, rfl⟩
abbrev main_v80 : Ref sig .tc := ⟨.hbm, 621, rfl⟩
abbrev main_v81 : Ref sig .tc := ⟨.hbm, 622, rfl⟩
abbrev main_v82 : Ref sig .tc := ⟨.hbm, 623, rfl⟩
abbrev main_v83 : Ref sig .tc := ⟨.hbm, 624, rfl⟩
abbrev main_v84 : Ref sig .tc := ⟨.hbm, 625, rfl⟩
abbrev main_v85 : Ref sig .tc := ⟨.hbm, 626, rfl⟩
abbrev main_v86 : Ref sig .tc := ⟨.hbm, 627, rfl⟩
abbrev main_cst_10 : Ref sig .tc := ⟨.hbm, 628, rfl⟩
abbrev main_v87 : Ref sig .tc := ⟨.hbm, 629, rfl⟩
abbrev main_v88 : Ref sig .tc := ⟨.hbm, 630, rfl⟩
abbrev main_v89 : Ref sig .tc := ⟨.hbm, 631, rfl⟩

abbrev nD : Nat := 1
abbrev τ : Topo := Topo.v7x

variable {F : FTy → Type} [FloatOps F]

abbrev main_while0_count : Scf.Loop 32 := ⟨0#32, 12#32, 1#32⟩
-- ==== Proof.Pure0.lean ====
/-
  The distance-and-covariance kernel's block, as a pure function of the two blocks it reads: every value the skeleton
  names, over the payloads (`b_v…`), the ten chunks of squared distances (`b_d…`), the bisection (`bisStep`, iterated
  34 times) and the block it stores (`covBlock`).
-/
module

public import proofs.«01_k».proof.Proof.Gen.KernelIdeal.Skeleton
public import Idealize.ShloMosaic.Lib.Exec
public import Idealize.ShloMosaic.Lib.Pipeline.FrameBody

@[expose] public section

set_option maxRecDepth 16384

noncomputable section

namespace Cert.Proof.KernelIdeal

open Cert.KernelIdeal Cert.KernelIdeal.Gen
open Idealize.ShloMosaic

variable {F : FTy → Type} [FloatOps F]

/-- Chunk of the transposed positions: columns `off … off + 1023`. -/
abbrev ldT (x1 : Vec F S3x10240 .f32) (off : ℕ) (inb : ∀ a, (![0, off] : Fin 2 → ℕ) a + S3x1024.size a ≤ S3x10240.size a) : Vec F S3x1024 .f32 :=
  View.ld x1 (Rect.unit (s := S3x10240) ![0, off] S3x1024.size inb)

/-- One bisection step on the ten chunks of squared distances. -/
def bisStep (D : Fin 10 → Vec F S256x1024 .f32) (acc : FVec F S256x1 .f32 × FVec F S256x1 .f32) : FVec F S256x1 .f32 × FVec F S256x1 .f32 :=
  let v895 := k0_pay2 acc.1 acc.2
  let v968 := k0_pay5 v895 (k0_pay3 acc.1 acc.2 (D 0) (D 1) (D 2)) (k0_pay4 acc.1 acc.2 (D 3)) (D 4) (D 5) (D 6) (D 7)
  (k0_pay51 acc.1 v895 v968 (D 8) (D 9), k0_pay50 acc.2 v895 v968 (D 8) (D 9))

def b_d0 (x0 : Vec F S256x3 .f32) (x1 : Vec F S3x10240 .f32) := k0_pay9 x0 (ldT x1 0 inb_S3x10240_S3x1024_0_0)
def b_v1 (x0 : Vec F S256x3 .f32) (x1 : Vec F S3x10240 .f32) := k0_pay6 x0
def b_v9 (x0 : Vec F S256x3 .f32) (x1 : Vec F S3x10240 .f32) := k0_pay7 x0
def b_v40 (x0 : Vec F S256x3 .f32) (x1 : Vec F S3x10240 .f32) := k0_pay10 x0 (ldT x1 0 inb_S3x10240_S3x1024_0_0)
def b_d1 (x0 : Vec F S256x3 .f32) (x1 : Vec F S3x10240 .f32) := k0_pay12 (b_v1 x0 x1) (b_v9 x0 x1) (ldT x1 1024 inb_S3x10240_S3x1024_0_1024)
def b_v70 (x0 : Vec F S256x3 .f32) (x1 : Vec F S3x10240 .f32) := k0_pay13 (b_v1 x0 x1) (b_v9 x0 x1) (b_v40 x0 x1) (ldT x1 1024 inb_S3x10240_S3x1024_0_1024)
def b_v87 (x0 : Vec F S256x3 .f32) (x1 : Vec F S3x10240 .f32) := k0_pay14 (b_v1 x0 x1) (b_v9 x0 x1) (ldT x1 2048 inb_S3x10240_S3x1024_0_2048)
def b_d2 (x0 : Vec F S256x3 .f32) (x1 : Vec F S3x10240 .f32) := k0_pay16 (b_v87 x0 x1)
def b_d3 (x0 : Vec F S256x3 .f32) (x1 : Vec F S3x10240 .f32) := k0_pay19 (b_v1 x0 x1) (b_v9 x0 x1) (ldT x1 3072 inb_S3x10240_S3x1024_0_3072)
def b_v100 (x0 : Vec F S256x3 .f32) (x1 : Vec F S3x10240 .f32) := k0_pay17 (b_v70 x0 x1) (b_v87 x0 x1)
def b_v127 (x0 : Vec F S256x3 .f32) (x1 : Vec F S3x10240 .f32) := k0_pay20 (b_v1 x0 x1) (b_v9 x0 x1) (ldT x1 3072 inb_S3x10240_S3x1024_0_3072)
def b_d4 (x0 : Vec F S256x3 .f32) (x1 : Vec F S3x10240 .f32) := k0_pay22 (b_v1 x0 x1) (b_v9 x0 x1) (ldT x1 4096 inb_S3x10240_S3x1024_0_4096)
def b_v160 (x0 : Vec F S256x3 .f32) (x1 : Vec F S3x10240 .f32) := k0_pay23 (b_v1 x0 x1) (b_v9 x0 x1) (b_v100 x0 x1) (b_v127 x0 x1) (ldT x1 4096 inb_S3x10240_S3x1024_0_4096)
def b_v170 (x0 : Vec F S256x3 .f32) (x1 : Vec F S3x10240 .f32) := k0_pay25 (ldT x1 5120 inb_S3x10240_S3x1024_0_5120)
def b_v171 (x0 : Vec F S256x3 .f32) (x1 : Vec F S3x10240 .f32) := k0_pay26 (b_v1 x0 x1) (ldT x1 5120 inb_S3x10240_S3x1024_0_5120)
def b_v172 (x0 : Vec F S256x3 .f32) (x1 : Vec F S3x10240 .f32) := k0_pay27 (b_v9 x0 x1)
def b_d5 (x0 : Vec F S256x3 .f32) (x1 : Vec F S3x10240 .f32) := k0_pay29 (b_v170 x0 x1) (b_v171 x0 x1) (b_v172 x0 x1)
def b_d6 (x0 : Vec F S256x3 .f32) (x1 : Vec F S3x10240 .f32) := k0_pay32 (b_v1 x0 x1) (b_v9 x0 x1) (ldT x1 6144 inb_S3x10240_S3x1024_0_6144)
def b_v190 (x0 : Vec F S256x3 .f32) (x1 : Vec F S3x10240 .f32) := k0_pay30 (b_v160 x0 x1) (b_v170 x0 x1) (b_v171 x0 x1) (b_v172 x0 x1)
def b_v214 (x0 : Vec F S256x3 .f32) (x1 : Vec F S3x10240 .f32) := k0_pay33 (b_v1 x0 x1) (b_v9 x0 x1) (ldT x1 6144 inb_S3x10240_S3x1024_0_6144)
def b_d7 (x0 : Vec F S256x3 .f32) (x1 : Vec F S3x10240 .f32) := k0_pay35 (b_v1 x0 x1) (b_v9 x0 x1) (ldT x1 7168 inb_S3x10240_S3x1024_0_7168)
def b_v250 (x0 : Vec F S256x3 .f32) (x1 : Vec F S3x10240 .f32) := k0_pay36 (b_v1 x0 x1) (b_v9 x0 x1) (b_v190 x0 x1) (b_v214 x0 x1) (ldT x1 7168 inb_S3x10240_S3x1024_0_7168)
def b_v252 (x0 : Vec F S256x3 .f32) (x1 : Vec F S3x10240 .f32) := k0_pay37 (ldT x1 8192 inb_S3x10240_S3x1024_0_8192)
def b_v254 (x0 : Vec F S256x3 .f32) (x1 : Vec F S3x10240 .f32) := k0_pay38 (ldT x1 8192 inb_S3x10240_S3x1024_0_8192)
def b_v256 (x0 : Vec F S256x3 .f32) (x1 : Vec F S3x10240 .f32) := k0_pay39 (ldT x1 8192 inb_S3x10240_S3x1024_0_8192)
def b_v257 (x0 : Vec F S256x3 .f32) (x1 : Vec F S3x10240 .f32) := k0_pay40 (ldT x1 8192 inb_S3x10240_S3x1024_0_8192)
def b_d8 (x0 : Vec F S256x3 .f32) (x1 : Vec F S3x10240 .f32) := k0_pay42 (b_v1 x0 x1) (b_v9 x0 x1) (b_v252 x0 x1) (b_v254 x0 x1) (b_v256 x0 x1) (b_v257 x0 x1)
def b_v280 (x0 : Vec F S256x3 .f32) (x1 : Vec F S3x10240 .f32) := k0_pay43 (b_v1 x0 x1) (b_v9 x0 x1) (b_v250 x0 x1) (b_v252 x0 x1) (b_v254 x0 x1) (b_v256 x0 x1) (b_v257 x0 x1)
def b_v299 (x0 : Vec F S256x3 .f32) (x1 : Vec F S3x10240 .f32) := k0_pay44 (b_v1 x0 x1) (b_v9 x0 x1) (ldT x1 9216 inb_S3x10240_S3x1024_0_9216)
def b_d9 (x0 : Vec F S256x3 .f32) (x1 : Vec F S3x10240 .f32) := k0_pay45 (b_v299 x0 x1)
/-- The ten chunks of squared distances. -/
def dch (x0 : Vec F S256x3 .f32) (x1 : Vec F S3x10240 .f32) : Fin 10 → Vec F S256x1024 .f32 := fun k =>
  match k with
  | 0 => b_d0 x0 x1
  | 1 => b_d1 x0 x1
  | 2 => b_d2 x0 x1
  | 3 => b_d3 x0 x1
  | 4 => b_d4 x0 x1
  | 5 => b_d5 x0 x1
  | 6 => b_d6 x0 x1
  | 7 => b_d7 x0 x1
  | 8 => b_d8 x0 x1
  | 9 => b_d9 x0 x1

def b_HI (x0 : Vec F S256x3 .f32) (x1 : Vec F S3x10240 .f32) := ((bisStep (dch x0 x1))^[34] (k0_pay47 (F := F), k0_pay48 (F := F))).2
def b_v310 (x0 : Vec F S256x3 .f32) (x1 : Vec F S3x10240 .f32) := k0_pay46 (b_v280 x0 x1) (b_v299 x0 x1)
def b_v318 (x0 : Vec F S256x3 .f32) (x1 : Vec F S3x10240 .f32) := k0_pay52 (b_v280 x0 x1) (b_v299 x0 x1) (b_HI x0 x1)
def b_v319 (x0 : Vec F S256x3 .f32) (x1 : Vec F S3x10240 .f32) := k0_pay53 (F := F)
def b_v320 (x0 : Vec F S256x3 .f32) (x1 : Vec F S3x10240 .f32) := k0_pay54 (F := F)
def b_v321 (x0 : Vec F S256x3 .f32) (x1 : Vec F S3x10240 .f32) := k0_pay55 (F := F)
def b_v322 (x0 : Vec F S256x3 .f32) (x1 : Vec F S3x10240 .f32) := k0_pay56 (F := F)
def b_v323 (x0 : Vec F S256x3 .f32) (x1 : Vec F S3x10240 .f32) := k0_pay57 (F := F)
def b_v324 (x0 : Vec F S256x3 .f32) (x1 : Vec F S3x10240 .f32) := k0_pay58 (F := F)
def b_v326 (x0 : Vec F S256x3 .f32) (x1 : Vec F S3x10240 .f32) := k0_pay59 (ldT x1 0 inb_S3x10240_S3x1024_0_0)
def b_v332 (x0 : Vec F S256x3 .f32) (x1 : Vec F S3x10240 .f32) := k0_pay60 (b_v280 x0 x1) (b_v299 x0 x1) (b_HI x0 x1) (b_d0 x0 x1)
def b_v335 (x0 : Vec F S256x3 .f32) (x1 : Vec F S3x10240 .f32) := k0_pay61 (ldT x1 0 inb_S3x10240_S3x1024_0_0)
def b_v336 (x0 : Vec F S256x3 .f32) (x1 : Vec F S3x10240 .f32) := k0_pay62 (b_v1 x0 x1)
def b_v360 (x0 : Vec F S256x3 .f32) (x1 : Vec F S3x10240 .f32) := k0_pay68 (b_v319 x0 x1) (b_v332 x0 x1) (b_v335 x0 x1) (b_v336 x0 x1)
def b_v364 (x0 : Vec F S256x3 .f32) (x1 : Vec F S3x10240 .f32) := k0_pay69 (b_v1 x0 x1) (b_v320 x0 x1) (b_v326 x0 x1) (b_v332 x0 x1) (b_v335 x0 x1) (b_v336 x0 x1)
def b_v368 (x0 : Vec F S256x3 .f32) (x1 : Vec F S3x10240 .f32) := k0_pay70 (b_v1 x0 x1) (b_v321 x0 x1) (b_v326 x0 x1) (b_v332 x0 x1) (b_v335 x0 x1) (b_v336 x0 x1)
def b_v372 (x0 : Vec F S256x3 .f32) (x1 : Vec F S3x10240 .f32) := k0_pay71 (b_v1 x0 x1) (b_v322 x0 x1) (b_v326 x0 x1) (b_v332 x0 x1)
def b_v376 (x0 : Vec F S256x3 .f32) (x1 : Vec F S3x10240 .f32) := k0_pay72 (b_v1 x0 x1) (b_v323 x0 x1) (b_v326 x0 x1) (b_v332 x0 x1)
def b_v380 (x0 : Vec F S256x3 .f32) (x1 : Vec F S3x10240 .f32) := k0_pay73 (b_v1 x0 x1) (b_v324 x0 x1) (b_v326 x0 x1) (b_v332 x0 x1)
def b_v382 (x0 : Vec F S256x3 .f32) (x1 : Vec F S3x10240 .f32) := k0_pay74 (ldT x1 1024 inb_S3x10240_S3x1024_0_1024)
def b_v385 (x0 : Vec F S256x3 .f32) (x1 : Vec F S3x10240 .f32) := k0_pay75 (b_v318 x0 x1) (b_d1 x0 x1)
def b_v416 (x0 : Vec F S256x3 .f32) (x1 : Vec F S3x10240 .f32) := k0_pay82 (b_v1 x0 x1) (b_v360 x0 x1) (b_v382 x0 x1) (b_v385 x0 x1) (Scalar.ofBits .f32 0x3f800000#32)
def b_v420 (x0 : Vec F S256x3 .f32) (x1 : Vec F S3x10240 .f32) := k0_pay83 (b_v1 x0 x1) (b_v364 x0 x1) (b_v382 x0 x1) (b_v385 x0 x1) (Scalar.ofBits .f32 0x3f800000#32)
def b_v424 (x0 : Vec F S256x3 .f32) (x1 : Vec F S3x10240 .f32) := k0_pay84 (b_v1 x0 x1) (b_v368 x0 x1) (b_v382 x0 x1) (b_v385 x0 x1) (Scalar.ofBits .f32 0x3f800000#32)
def b_v428 (x0 : Vec F S256x3 .f32) (x1 : Vec F S3x10240 .f32) := k0_pay85 (b_v1 x0 x1) (b_v372 x0 x1) (b_v382 x0 x1) (b_v385 x0 x1) (Scalar.ofBits .f32 0x3f800000#32)
def b_v432 (x0 : Vec F S256x3 .f32) (x1 : Vec F S3x10240 .f32) := k0_pay86 (b_v1 x0 x1) (b_v376 x0 x1) (b_v382 x0 x1) (b_v385 x0 x1) (Scalar.ofBits .f32 0x3f800000#32)
def b_v436 (x0 : Vec F S256x3 .f32) (x1 : Vec F S3x10240 .f32) := k0_pay87 (b_v1 x0 x1) (b_v380 x0 x1) (b_v382 x0 x1) (b_v385 x0 x1) (Scalar.ofBits .f32 0x3f800000#32)
def b_v465 (x0 : Vec F S256x3 .f32) (x1 : Vec F S3x10240 .f32) := k0_pay92 (b_v1 x0 x1) (ldT x1 2048 inb_S3x10240_S3x1024_0_2048)
def b_v468 (x0 : Vec F S256x3 .f32) (x1 : Vec F S3x10240 .f32) := k0_pay95 (b_v1 x0 x1) (b_v318 x0 x1) (ldT x1 2048 inb_S3x10240_S3x1024_0_2048) (b_d2 x0 x1)
def b_v472 (x0 : Vec F S256x3 .f32) (x1 : Vec F S3x10240 .f32) := k0_pay96 (b_v1 x0 x1) (b_v318 x0 x1) (b_v416 x0 x1) (ldT x1 2048 inb_S3x10240_S3x1024_0_2048) (b_d2 x0 x1)
def b_v476 (x0 : Vec F S256x3 .f32) (x1 : Vec F S3x10240 .f32) := k0_pay97 (b_v1 x0 x1) (b_v318 x0 x1) (b_v420 x0 x1) (ldT x1 2048 inb_S3x10240_S3x1024_0_2048) (b_d2 x0 x1)
def b_v480 (x0 : Vec F S256x3 .f32) (x1 : Vec F S3x10240 .f32) := k0_pay98 (b_v1 x0 x1) (b_v318 x0 x1) (b_v424 x0 x1) (ldT x1 2048 inb_S3x10240_S3x1024_0_2048) (b_d2 x0 x1)
def b_v484 (x0 : Vec F S256x3 .f32) (x1 : Vec F S3x10240 .f32) := k0_pay99 (b_v1 x0 x1) (b_v318 x0 x1) (b_v428 x0 x1) (ldT x1 2048 inb_S3x10240_S3x1024_0_2048) (b_d2 x0 x1)
def b_v487 (x0 : Vec F S256x3 .f32) (x1 : Vec F S3x10240 .f32) := k0_pay100 (b_v1 x0 x1) (b_v318 x0 x1) (ldT x1 2048 inb_S3x10240_S3x1024_0_2048) (b_d2 x0 x1)
def b_v488 (x0 : Vec F S256x3 .f32) (x1 : Vec F S3x10240 .f32) := k0_pay101 (b_v432 x0 x1) (b_v487 x0 x1)
def b_v492 (x0 : Vec F S256x3 .f32) (x1 : Vec F S3x10240 .f32) := k0_pay102 (b_v436 x0 x1) (b_v465 x0 x1) (b_v468 x0 x1)
def b_v521 (x0 : Vec F S256x3 .f32) (x1 : Vec F S3x10240 .f32) := k0_pay107 (b_v1 x0 x1) (ldT x1 3072 inb_S3x10240_S3x1024_0_3072)
def b_v523 (x0 : Vec F S256x3 .f32) (x1 : Vec F S3x10240 .f32) := k0_pay109 (b_v1 x0 x1) (b_v318 x0 x1) (ldT x1 3072 inb_S3x10240_S3x1024_0_3072) (b_d3 x0 x1)
def b_v524 (x0 : Vec F S256x3 .f32) (x1 : Vec F S3x10240 .f32) := k0_pay110 (b_v1 x0 x1) (b_v318 x0 x1) (ldT x1 3072 inb_S3x10240_S3x1024_0_3072) (b_d3 x0 x1)
def b_v528 (x0 : Vec F S256x3 .f32) (x1 : Vec F S3x10240 .f32) := k0_pay111 (b_v1 x0 x1) (b_v318 x0 x1) (b_v472 x0 x1) (ldT x1 3072 inb_S3x10240_S3x1024_0_3072) (b_d3 x0 x1)
def b_v532 (x0 : Vec F S256x3 .f32) (x1 : Vec F S3x10240 .f32) := k0_pay112 (b_v1 x0 x1) (b_v318 x0 x1) (b_v476 x0 x1) (ldT x1 3072 inb_S3x10240_S3x1024_0_3072) (b_d3 x0 x1)
def b_v536 (x0 : Vec F S256x3 .f32) (x1 : Vec F S3x10240 .f32) := k0_pay113 (b_v1 x0 x1) (b_v318 x0 x1) (b_v480 x0 x1) (ldT x1 3072 inb_S3x10240_S3x1024_0_3072) (b_d3 x0 x1)
def b_v537 (x0 : Vec F S256x3 .f32) (x1 : Vec F S3x10240 .f32) := k0_pay114 (b_v1 x0 x1) (b_v318 x0 x1) (ldT x1 3072 inb_S3x10240_S3x1024_0_3072) (b_d3 x0 x1)
def b_v540 (x0 : Vec F S256x3 .f32) (x1 : Vec F S3x10240 .f32) := k0_pay115 (b_v484 x0 x1) (b_v537 x0 x1)
def b_v544 (x0 : Vec F S256x3 .f32) (x1 : Vec F S3x10240 .f32) := k0_pay116 (b_v488 x0 x1) (b_v521 x0 x1) (b_v523 x0 x1)
def b_v548 (x0 : Vec F S256x3 .f32) (x1 : Vec F S3x10240 .f32) := k0_pay117 (b_v492 x0 x1) (b_v521 x0 x1) (b_v524 x0 x1)
def b_v570 (x0 : Vec F S256x3 .f32) (x1 : Vec F S3x10240 .f32) := k0_pay121 (b_v1 x0 x1) (ldT x1 4096 inb_S3x10240_S3x1024_0_4096)
def b_v577 (x0 : Vec F S256x3 .f32) (x1 : Vec F S3x10240 .f32) := k0_pay122 (b_v1 x0 x1) (ldT x1 4096 inb_S3x10240_S3x1024_0_4096)
def b_v578 (x0 : Vec F S256x3 .f32) (x1 : Vec F S3x10240 .f32) := k0_pay123 (b_v1 x0 x1) (b_v318 x0 x1) (ldT x1 4096 inb_S3x10240_S3x1024_0_4096) (b_d4 x0 x1)
def b_v579 (x0 : Vec F S256x3 .f32) (x1 : Vec F S3x10240 .f32) := k0_pay124 (b_v1 x0 x1) (b_v318 x0 x1) (ldT x1 4096 inb_S3x10240_S3x1024_0_4096) (b_d4 x0 x1)
def b_v580 (x0 : Vec F S256x3 .f32) (x1 : Vec F S3x10240 .f32) := k0_pay125 (b_v1 x0 x1) (b_v318 x0 x1) (ldT x1 4096 inb_S3x10240_S3x1024_0_4096) (b_d4 x0 x1)
def b_v584 (x0 : Vec F S256x3 .f32) (x1 : Vec F S3x10240 .f32) := k0_pay126 (b_v1 x0 x1) (b_v318 x0 x1) (b_v528 x0 x1) (ldT x1 4096 inb_S3x10240_S3x1024_0_4096) (b_d4 x0 x1)
def b_v586 (x0 : Vec F S256x3 .f32) (x1 : Vec F S3x10240 .f32) := k0_pay127 (b_v1 x0 x1) (b_v318 x0 x1) (ldT x1 4096 inb_S3x10240_S3x1024_0_4096) (b_d4 x0 x1)
def b_v588 (x0 : Vec F S256x3 .f32) (x1 : Vec F S3x10240 .f32) := k0_pay128 (b_v532 x0 x1) (b_v586 x0 x1)
def b_v592 (x0 : Vec F S256x3 .f32) (x1 : Vec F S3x10240 .f32) := k0_pay129 (b_v536 x0 x1) (b_v577 x0 x1) (b_v578 x0 x1)
def b_v596 (x0 : Vec F S256x3 .f32) (x1 : Vec F S3x10240 .f32) := k0_pay130 (b_v540 x0 x1) (b_v570 x0 x1) (b_v579 x0 x1)
def b_v600 (x0 : Vec F S256x3 .f32) (x1 : Vec F S3x10240 .f32) := k0_pay131 (b_v544 x0 x1) (b_v577 x0 x1) (b_v579 x0 x1)
def b_v604 (x0 : Vec F S256x3 .f32) (x1 : Vec F S3x10240 .f32) := k0_pay132 (b_v548 x0 x1) (b_v577 x0 x1) (b_v580 x0 x1)
def b_v619 (x0 : Vec F S256x3 .f32) (x1 : Vec F S3x10240 .f32) := k0_pay135 (b_v1 x0 x1) (ldT x1 5120 inb_S3x10240_S3x1024_0_5120)
def b_v626 (x0 : Vec F S256x3 .f32) (x1 : Vec F S3x10240 .f32) := k0_pay136 (b_v1 x0 x1) (ldT x1 5120 inb_S3x10240_S3x1024_0_5120)
def b_v633 (x0 : Vec F S256x3 .f32) (x1 : Vec F S3x10240 .f32) := k0_pay137 (b_v1 x0 x1) (ldT x1 5120 inb_S3x10240_S3x1024_0_5120)
def b_v634 (x0 : Vec F S256x3 .f32) (x1 : Vec F S3x10240 .f32) := k0_pay138 (b_v1 x0 x1) (b_v318 x0 x1) (ldT x1 5120 inb_S3x10240_S3x1024_0_5120) (b_d5 x0 x1)
def b_v635 (x0 : Vec F S256x3 .f32) (x1 : Vec F S3x10240 .f32) := k0_pay139 (b_v1 x0 x1) (b_v318 x0 x1) (ldT x1 5120 inb_S3x10240_S3x1024_0_5120) (b_d5 x0 x1)
def b_v636 (x0 : Vec F S256x3 .f32) (x1 : Vec F S3x10240 .f32) := k0_pay140 (b_v1 x0 x1) (b_v318 x0 x1) (ldT x1 5120 inb_S3x10240_S3x1024_0_5120) (b_d5 x0 x1)
def b_v640 (x0 : Vec F S256x3 .f32) (x1 : Vec F S3x10240 .f32) := k0_pay141 (b_v584 x0 x1) (b_v619 x0 x1) (b_v634 x0 x1)
def b_v644 (x0 : Vec F S256x3 .f32) (x1 : Vec F S3x10240 .f32) := k0_pay142 (b_v588 x0 x1) (b_v626 x0 x1) (b_v634 x0 x1)
def b_v648 (x0 : Vec F S256x3 .f32) (x1 : Vec F S3x10240 .f32) := k0_pay143 (b_v592 x0 x1) (b_v633 x0 x1) (b_v634 x0 x1)
def b_v652 (x0 : Vec F S256x3 .f32) (x1 : Vec F S3x10240 .f32) := k0_pay144 (b_v596 x0 x1) (b_v626 x0 x1) (b_v635 x0 x1)
def b_v656 (x0 : Vec F S256x3 .f32) (x1 : Vec F S3x10240 .f32) := k0_pay145 (b_v600 x0 x1) (b_v633 x0 x1) (b_v635 x0 x1)
def b_v660 (x0 : Vec F S256x3 .f32) (x1 : Vec F S3x10240 .f32) := k0_pay146 (b_v604 x0 x1) (b_v633 x0 x1) (b_v636 x0 x1)
def b_v668 (x0 : Vec F S256x3 .f32) (x1 : Vec F S3x10240 .f32) := k0_pay148 (b_v318 x0 x1) (b_d6 x0 x1)
def b_v675 (x0 : Vec F S256x3 .f32) (x1 : Vec F S3x10240 .f32) := k0_pay149 (b_v1 x0 x1) (ldT x1 6144 inb_S3x10240_S3x1024_0_6144)
def b_v682 (x0 : Vec F S256x3 .f32) (x1 : Vec F S3x10240 .f32) := k0_pay150 (b_v1 x0 x1) (ldT x1 6144 inb_S3x10240_S3x1024_0_6144)
def b_v683 (x0 : Vec F S256x3 .f32) (x1 : Vec F S3x10240 .f32) := k0_pay151 (ldT x1 6144 inb_S3x10240_S3x1024_0_6144)
def b_v684 (x0 : Vec F S256x3 .f32) (x1 : Vec F S3x10240 .f32) := k0_pay152 (b_v1 x0 x1)
def b_v696 (x0 : Vec F S256x3 .f32) (x1 : Vec F S3x10240 .f32) := k0_pay156 (b_v640 x0 x1) (b_v668 x0 x1) (b_v675 x0 x1)
def b_v700 (x0 : Vec F S256x3 .f32) (x1 : Vec F S3x10240 .f32) := k0_pay157 (b_v644 x0 x1) (b_v668 x0 x1) (b_v675 x0 x1) (b_v682 x0 x1)
def b_v704 (x0 : Vec F S256x3 .f32) (x1 : Vec F S3x10240 .f32) := k0_pay158 (b_v648 x0 x1) (b_v668 x0 x1) (b_v675 x0 x1) (b_v683 x0 x1) (b_v684 x0 x1)
def b_v708 (x0 : Vec F S256x3 .f32) (x1 : Vec F S3x10240 .f32) := k0_pay159 (b_v652 x0 x1) (b_v668 x0 x1) (b_v682 x0 x1)
def b_v712 (x0 : Vec F S256x3 .f32) (x1 : Vec F S3x10240 .f32) := k0_pay160 (b_v656 x0 x1) (b_v668 x0 x1) (b_v682 x0 x1) (b_v683 x0 x1) (b_v684 x0 x1)
def b_v716 (x0 : Vec F S256x3 .f32) (x1 : Vec F S3x10240 .f32) := k0_pay161 (b_v660 x0 x1) (b_v668 x0 x1) (b_v683 x0 x1) (b_v684 x0 x1)
def b_v718 (x0 : Vec F S256x3 .f32) (x1 : Vec F S3x10240 .f32) := k0_pay162 (ldT x1 7168 inb_S3x10240_S3x1024_0_7168)
def b_v724 (x0 : Vec F S256x3 .f32) (x1 : Vec F S3x10240 .f32) := k0_pay163 (b_v318 x0 x1) (b_d7 x0 x1)
def b_v731 (x0 : Vec F S256x3 .f32) (x1 : Vec F S3x10240 .f32) := k0_pay164 (b_v1 x0 x1) (ldT x1 7168 inb_S3x10240_S3x1024_0_7168)
def b_v732 (x0 : Vec F S256x3 .f32) (x1 : Vec F S3x10240 .f32) := k0_pay165 (ldT x1 7168 inb_S3x10240_S3x1024_0_7168)
def b_v752 (x0 : Vec F S256x3 .f32) (x1 : Vec F S3x10240 .f32) := k0_pay170 (b_v696 x0 x1) (b_v724 x0 x1) (b_v731 x0 x1)
def b_v756 (x0 : Vec F S256x3 .f32) (x1 : Vec F S3x10240 .f32) := k0_pay171 (b_v1 x0 x1) (b_v700 x0 x1) (b_v724 x0 x1) (b_v731 x0 x1) (b_v732 x0 x1)
def b_v760 (x0 : Vec F S256x3 .f32) (x1 : Vec F S3x10240 .f32) := k0_pay172 (b_v1 x0 x1) (b_v704 x0 x1) (b_v718 x0 x1) (b_v724 x0 x1) (b_v731 x0 x1)
def b_v764 (x0 : Vec F S256x3 .f32) (x1 : Vec F S3x10240 .f32) := k0_pay173 (b_v1 x0 x1) (b_v708 x0 x1) (b_v724 x0 x1) (b_v732 x0 x1)
def b_v768 (x0 : Vec F S256x3 .f32) (x1 : Vec F S3x10240 .f32) := k0_pay174 (b_v1 x0 x1) (b_v712 x0 x1) (b_v718 x0 x1) (b_v724 x0 x1) (b_v732 x0 x1)
def b_v772 (x0 : Vec F S256x3 .f32) (x1 : Vec F S3x10240 .f32) := k0_pay175 (b_v1 x0 x1) (b_v716 x0 x1) (b_v718 x0 x1) (b_v724 x0 x1)
def b_v774 (x0 : Vec F S256x3 .f32) (x1 : Vec F S3x10240 .f32) := k0_pay176 (ldT x1 8192 inb_S3x10240_S3x1024_0_8192)
def b_v780 (x0 : Vec F S256x3 .f32) (x1 : Vec F S3x10240 .f32) := k0_pay177 (b_v318 x0 x1) (b_d8 x0 x1)
def b_v808 (x0 : Vec F S256x3 .f32) (x1 : Vec F S3x10240 .f32) := k0_pay183 (b_v1 x0 x1) (b_v752 x0 x1) (b_v774 x0 x1) (b_v780 x0 x1)
def b_v812 (x0 : Vec F S256x3 .f32) (x1 : Vec F S3x10240 .f32) := k0_pay184 (b_v1 x0 x1) (b_v756 x0 x1) (b_v774 x0 x1) (b_v780 x0 x1)
def b_v816 (x0 : Vec F S256x3 .f32) (x1 : Vec F S3x10240 .f32) := k0_pay185 (b_v1 x0 x1) (b_v760 x0 x1) (b_v774 x0 x1) (b_v780 x0 x1)
def b_v820 (x0 : Vec F S256x3 .f32) (x1 : Vec F S3x10240 .f32) := k0_pay186 (b_v1 x0 x1) (b_v764 x0 x1) (b_v774 x0 x1) (b_v780 x0 x1)
def b_v824 (x0 : Vec F S256x3 .f32) (x1 : Vec F S3x10240 .f32) := k0_pay187 (b_v1 x0 x1) (b_v768 x0 x1) (b_v774 x0 x1) (b_v780 x0 x1)
def b_v828 (x0 : Vec F S256x3 .f32) (x1 : Vec F S3x10240 .f32) := k0_pay188 (b_v1 x0 x1) (b_v772 x0 x1) (b_v774 x0 x1) (b_v780 x0 x1)
def b_v830 (x0 : Vec F S256x3 .f32) (x1 : Vec F S3x10240 .f32) := k0_pay189 (ldT x1 9216 inb_S3x10240_S3x1024_0_9216)
def b_v864 (x0 : Vec F S256x3 .f32) (x1 : Vec F S3x10240 .f32) := k0_pay196 (b_v1 x0 x1) (b_v318 x0 x1) (b_v808 x0 x1) (b_v830 x0 x1) (b_d9 x0 x1)
def b_v868 (x0 : Vec F S256x3 .f32) (x1 : Vec F S3x10240 .f32) := k0_pay197 (b_v1 x0 x1) (b_v318 x0 x1) (b_v812 x0 x1) (b_v830 x0 x1) (b_d9 x0 x1)
def b_v872 (x0 : Vec F S256x3 .f32) (x1 : Vec F S3x10240 .f32) := k0_pay198 (b_v1 x0 x1) (b_v318 x0 x1) (b_v816 x0 x1) (b_v830 x0 x1) (b_d9 x0 x1)
def b_v876 (x0 : Vec F S256x3 .f32) (x1 : Vec F S3x10240 .f32) := k0_pay199 (b_v1 x0 x1) (b_v318 x0 x1) (b_v820 x0 x1) (b_v830 x0 x1) (b_d9 x0 x1)
def b_v880 (x0 : Vec F S256x3 .f32) (x1 : Vec F S3x10240 .f32) := k0_pay200 (b_v1 x0 x1) (b_v318 x0 x1) (b_v824 x0 x1) (b_v830 x0 x1) (b_d9 x0 x1)
def b_v882 (x0 : Vec F S256x3 .f32) (x1 : Vec F S3x10240 .f32) := k0_pay201 (b_v1 x0 x1) (b_v318 x0 x1) (b_v830 x0 x1) (b_d9 x0 x1)
/-- The block the kernel stores. -/
def covBlock (x0 : Vec F S256x3 .f32) (x1 : Vec F S3x10240 .f32) : FVec F S256x16 .f32 := k0_pay1 (b_v310 x0 x1) (b_v828 x0 x1) (b_v864 x0 x1) (b_v868 x0 x1) (b_v872 x0 x1) (b_v876 x0 x1) (b_v880 x0 x1) (b_v882 x0 x1)

end Cert.Proof.KernelIdeal

end
-- ==== Proof.Canon.lean ====
/-
  The block `covBlock`, in the form the mathematics reads: each chunk of squared distances is one function of the tile and
  of the chunk of transposed positions (`distC`), a bisection step counts over the ten chunks, and each stored sum is a sum
  of ten chunk sums.
-/
module

public import proofs.«01_k».proof.Proof.Pure0

@[expose] public section

set_option maxRecDepth 16384

noncomputable section

namespace Cert.Proof.KernelIdeal

open Cert.KernelIdeal Cert.KernelIdeal.Gen
open Idealize.ShloMosaic

variable {F : FTy → Type} [FloatOps F]

/-- The squared distances of a tile's points to a chunk of points. -/
abbrev distC (x0 : Vec F S256x3 .f32) (T : Vec F S3x1024 .f32) : FVec F S256x1024 .f32 := k0_pay8 x0 T

/-- Row sums, as a column. -/
def rowSum (X : FVec F S256x1024 .f32) : FVec F S256x1 .f32 :=
  shapeCast S256x1 (multiReduction .add [1] S256 X 0x00000000#32 reduces_S256x1024_S256 (.inl rfl) rfl) shapeCasts_S256_S256x1

/-- One where `D` is at most `B`, zero elsewhere. -/
def leMask (D B : FVec F S256x1024 .f32) : FVec F S256x1024 .f32 :=
  select (cmpf .ole D B) (broadcast S256x1024 (Scalar.ofBits .f32 0x3F800000#32 : F .f32)) (broadcast S256x1024 (Scalar.ofBits .f32 0x00000000#32 : F .f32))

/-- Against the radius. -/
def rMask (D : FVec F S256x1024 .f32) : FVec F S256x1024 .f32 :=
  leMask D (broadcast S256x1024 (Scalar.ofBits .f32 0x3C23D70A#32 : F .f32))

/-- Against a threshold per row. -/
def tMask (D : FVec F S256x1024 .f32) (t : FVec F S256x1 .f32) : FVec F S256x1024 .f32 :=
  leMask D (broadcastTo S256x1024 t broadcasts_S256x1_S256x1024)

def col0 : FVec F S256x1 .f32 := broadcast S256x1 (Scalar.ofBits .f32 0x00000000#32 : F .f32)

/-- Ten chunk sums, added from the left onto zero. -/
def sum10 (f : Fin 10 → FVec F S256x1 .f32) : FVec F S256x1 .f32 :=
  addf (addf (addf (addf (addf (addf (addf (addf (addf (addf col0 (f 0)) (f 1)) (f 2)) (f 3)) (f 4)) (f 5)) (f 6)) (f 7)) (f 8)) (f 9)

/-- The chunk's coordinate minus the tile's, through the format change and back. -/
def diff0 (x0 : Vec F S256x3 .f32) (T : Vec F S3x1024 .f32) : FVec F S256x1024 .f32 :=
  extf .f32 (truncf .bf16 (subf (broadcastTo S256x1024 (extractStridedSlice S1x1024 ![0, 0] (shapeCast S3x1024 T shapeCasts_S3x1024_S3x1024) slices_S3x1024_o0_0_S1x1024) broadcasts_S1x1024_S256x1024)
    (broadcastTo S256x1024 (extractStridedSlice S256x1 ![0, 0] (shapeCast S256x3 x0 shapeCasts_S256x3_S256x3) slices_S256x3_o0_0_S256x1) broadcasts_S256x1_S256x1024)) bitsLt_bf16_f32) bitsLt_bf16_f32
def diff1 (x0 : Vec F S256x3 .f32) (T : Vec F S3x1024 .f32) : FVec F S256x1024 .f32 :=
  extf .f32 (truncf .bf16 (subf (broadcastTo S256x1024 (extractStridedSlice S1x1024 ![1, 0] (shapeCast S3x1024 T shapeCasts_S3x1024_S3x1024) slices_S3x1024_o1_0_S1x1024) broadcasts_S1x1024_S256x1024)
    (broadcastTo S256x1024 (extractStridedSlice S256x1 ![0, 1] (shapeCast S256x3 x0 shapeCasts_S256x3_S256x3) slices_S256x3_o0_1_S256x1) broadcasts_S256x1_S256x1024)) bitsLt_bf16_f32) bitsLt_bf16_f32
def diff2 (x0 : Vec F S256x3 .f32) (T : Vec F S3x1024 .f32) : FVec F S256x1024 .f32 :=
  extf .f32 (truncf .bf16 (subf (broadcastTo S256x1024 (extractStridedSlice S1x1024 ![2, 0] (shapeCast S3x1024 T shapeCasts_S3x1024_S3x1024) slices_S3x1024_o2_0_S1x1024) broadcasts_S1x1024_S256x1024)
    (broadcastTo S256x1024 (extractStridedSlice S256x1 ![0, 2] (shapeCast S256x3 x0 shapeCasts_S256x3_S256x3) slices_S256x3_o0_2_S256x1) broadcasts_S256x1_S256x1024)) bitsLt_bf16_f32) bitsLt_bf16_f32
/-- The chunks of transposed positions. -/
def tch (x1 : Vec F S3x10240 .f32) : Fin 10 → Vec F S3x1024 .f32 := fun k =>
  match k with
  | 0 => ldT x1 0 inb_S3x10240_S3x1024_0_0
  | 1 => ldT x1 1024 inb_S3x10240_S3x1024_0_1024
  | 2 => ldT x1 2048 inb_S3x10240_S3x1024_0_2048
  | 3 => ldT x1 3072 inb_S3x10240_S3x1024_0_3072
  | 4 => ldT x1 4096 inb_S3x10240_S3x1024_0_4096
  | 5 => ldT x1 5120 inb_S3x10240_S3x1024_0_5120
  | 6 => ldT x1 6144 inb_S3x10240_S3x1024_0_6144
  | 7 => ldT x1 7168 inb_S3x10240_S3x1024_0_7168
  | 8 => ldT x1 8192 inb_S3x10240_S3x1024_0_8192
  | 9 => ldT x1 9216 inb_S3x10240_S3x1024_0_9216

/-- The threshold per row. -/
abbrev thr (x0 : Vec F S256x3 .f32) (x1 : Vec F S3x10240 .f32) : FVec F S256x1 .f32 := b_v318 x0 x1

/-- One masked product per point of the chunk. -/
def covC (m va vb : FVec F S256x1024 .f32) : FVec F S256x1024 .f32 := mulf (mulf va m) vb

def zero16 : FVec F S256x1 .f32 := broadcast S256x1 (Scalar.ofBits .f32 0x00000000#32 : F .f32)

def cnt (x0 : Vec F S256x3 .f32) (x1 : Vec F S3x10240 .f32) : FVec F S256x1 .f32 := sum10 fun k => rowSum (rMask (distC x0 (tch x1 k)))
def acc00 (x0 : Vec F S256x3 .f32) (x1 : Vec F S3x10240 .f32) : FVec F S256x1 .f32 := sum10 fun k => rowSum (covC (tMask (dch x0 x1 k) (thr x0 x1)) (diff0 x0 (tch x1 k)) (diff0 x0 (tch x1 k)))
def acc01 (x0 : Vec F S256x3 .f32) (x1 : Vec F S3x10240 .f32) : FVec F S256x1 .f32 := sum10 fun k => rowSum (covC (tMask (dch x0 x1 k) (thr x0 x1)) (diff0 x0 (tch x1 k)) (diff1 x0 (tch x1 k)))
def acc02 (x0 : Vec F S256x3 .f32) (x1 : Vec F S3x10240 .f32) : FVec F S256x1 .f32 := sum10 fun k => rowSum (covC (tMask (dch x0 x1 k) (thr x0 x1)) (diff0 x0 (tch x1 k)) (diff2 x0 (tch x1 k)))
def acc11 (x0 : Vec F S256x3 .f32) (x1 : Vec F S3x10240 .f32) : FVec F S256x1 .f32 := sum10 fun k => rowSum (covC (tMask (dch x0 x1 k) (thr x0 x1)) (diff1 x0 (tch x1 k)) (diff1 x0 (tch x1 k)))
def acc12 (x0 : Vec F S256x3 .f32) (x1 : Vec F S3x10240 .f32) : FVec F S256x1 .f32 := sum10 fun k => rowSum (covC (tMask (dch x0 x1 k) (thr x0 x1)) (diff1 x0 (tch x1 k)) (diff2 x0 (tch x1 k)))
def acc22 (x0 : Vec F S256x3 .f32) (x1 : Vec F S3x10240 .f32) : FVec F S256x1 .f32 := sum10 fun k => rowSum (covC (tMask (dch x0 x1 k) (thr x0 x1)) (diff2 x0 (tch x1 k)) (diff2 x0 (tch x1 k)))

theorem d0_eq (x0 : Vec F S256x3 .f32) (x1 : Vec F S3x10240 .f32) : b_d0 x0 x1 = shapeCast S256x1024 (distC x0 (tch x1 0)) shapeCasts_S256x1024_S256x1024 := rfl
theorem d1_eq (x0 : Vec F S256x3 .f32) (x1 : Vec F S3x10240 .f32) : b_d1 x0 x1 = shapeCast S256x1024 (distC x0 (tch x1 1)) shapeCasts_S256x1024_S256x1024 := rfl
theorem d2_eq (x0 : Vec F S256x3 .f32) (x1 : Vec F S3x10240 .f32) : b_d2 x0 x1 = shapeCast S256x1024 (distC x0 (tch x1 2)) shapeCasts_S256x1024_S256x1024 := rfl
theorem d3_eq (x0 : Vec F S256x3 .f32) (x1 : Vec F S3x10240 .f32) : b_d3 x0 x1 = shapeCast S256x1024 (distC x0 (tch x1 3)) shapeCasts_S256x1024_S256x1024 := rfl
theorem d4_eq (x0 : Vec F S256x3 .f32) (x1 : Vec F S3x10240 .f32) : b_d4 x0 x1 = shapeCast S256x1024 (distC x0 (tch x1 4)) shapeCasts_S256x1024_S256x1024 := rfl
theorem d5_eq (x0 : Vec F S256x3 .f32) (x1 : Vec F S3x10240 .f32) : b_d5 x0 x1 = shapeCast S256x1024 (distC x0 (tch x1 5)) shapeCasts_S256x1024_S256x1024 := rfl
theorem d6_eq (x0 : Vec F S256x3 .f32) (x1 : Vec F S3x10240 .f32) : b_d6 x0 x1 = shapeCast S256x1024 (distC x0 (tch x1 6)) shapeCasts_S256x1024_S256x1024 := rfl
theorem d7_eq (x0 : Vec F S256x3 .f32) (x1 : Vec F S3x10240 .f32) : b_d7 x0 x1 = shapeCast S256x1024 (distC x0 (tch x1 7)) shapeCasts_S256x1024_S256x1024 := rfl
theorem d8_eq (x0 : Vec F S256x3 .f32) (x1 : Vec F S3x10240 .f32) : b_d8 x0 x1 = shapeCast S256x1024 (distC x0 (tch x1 8)) shapeCasts_S256x1024_S256x1024 := rfl
theorem d9_eq (x0 : Vec F S256x3 .f32) (x1 : Vec F S3x10240 .f32) : b_d9 x0 x1 = shapeCast S256x1024 (distC x0 (tch x1 9)) shapeCasts_S256x1024_S256x1024 := rfl

theorem b_v310_eq (x0 : Vec F S256x3 .f32) (x1 : Vec F S3x10240 .f32) : b_v310 x0 x1 = cnt x0 x1 := rfl

theorem thr_eq (x0 : Vec F S256x3 .f32) (x1 : Vec F S3x10240 .f32) : thr x0 x1
    = select (cmpf .ogt (b_v310 x0 x1) (broadcast S256x1 (Scalar.ofBits .f32 0x42800000#32 : F .f32))) (b_HI x0 x1) (broadcast S256x1 (Scalar.ofBits .f32 0x3C23D70A#32 : F .f32)) := rfl

/-- The midpoint of a bisection step, and the count of the points it takes. -/
def mid (acc : FVec F S256x1 .f32 × FVec F S256x1 .f32) : FVec F S256x1 .f32 :=
  mulf (addf acc.1 acc.2) (broadcast S256x1 (Scalar.ofBits .f32 0x3F000000#32 : F .f32))

def midGe (D : Fin 10 → Vec F S256x1024 .f32) (acc : FVec F S256x1 .f32 × FVec F S256x1 .f32) : IVec S256x1 1 :=
  cmpf .oge (sum10 fun k => rowSum (tMask (D k) (mid acc))) (broadcast S256x1 (Scalar.ofBits .f32 0x42800000#32 : F .f32))

theorem bisStep_eq (D : Fin 10 → Vec F S256x1024 .f32) (acc : FVec F S256x1 .f32 × FVec F S256x1 .f32) :
    bisStep D acc = (select (midGe D acc) acc.1 (mid acc), select (midGe D acc) (mid acc) acc.2) := rfl

set_option maxHeartbeats 1600000 in
theorem acc00_eq (x0 : Vec F S256x3 .f32) (x1 : Vec F S3x10240 .f32) : b_v864 x0 x1 = acc00 x0 x1 := rfl

set_option maxHeartbeats 1600000 in
theorem acc01_eq (x0 : Vec F S256x3 .f32) (x1 : Vec F S3x10240 .f32) : b_v868 x0 x1 = acc01 x0 x1 := rfl

set_option maxHeartbeats 1600000 in
theorem acc02_eq (x0 : Vec F S256x3 .f32) (x1 : Vec F S3x10240 .f32) : b_v872 x0 x1 = acc02 x0 x1 := rfl

set_option maxHeartbeats 1600000 in
theorem acc11_eq (x0 : Vec F S256x3 .f32) (x1 : Vec F S3x10240 .f32) : b_v876 x0 x1 = acc11 x0 x1 := rfl

set_option maxHeartbeats 1600000 in
theorem acc12_eq (x0 : Vec F S256x3 .f32) (x1 : Vec F S3x10240 .f32) : b_v880 x0 x1 = acc12 x0 x1 := rfl

set_option maxHeartbeats 1600000 in
theorem acc22_eq (x0 : Vec F S256x3 .f32) (x1 : Vec F S3x10240 .f32) : addf (b_v828 x0 x1) (shapeCast S256x1 (b_v882 x0 x1) shapeCasts_S256_S256x1) = acc22 x0 x1 := rfl

/-- The stored block: the nine covariance entries, the count, six zeros. -/
theorem covBlock_eq (x0 : Vec F S256x3 .f32) (x1 : Vec F S3x10240 .f32) : covBlock x0 x1
    = concatenate S256x16 1 [⟨S256x1, acc00 x0 x1⟩, ⟨S256x1, acc01 x0 x1⟩, ⟨S256x1, acc02 x0 x1⟩, ⟨S256x1, acc01 x0 x1⟩, ⟨S256x1, acc11 x0 x1⟩, ⟨S256x1, acc12 x0 x1⟩, ⟨S256x1, acc02 x0 x1⟩, ⟨S256x1, acc12 x0 x1⟩, ⟨S256x1, acc22 x0 x1⟩, ⟨S256x1, cnt x0 x1⟩, ⟨S256x1, col0⟩, ⟨S256x1, col0⟩, ⟨S256x1, col0⟩, ⟨S256x1, col0⟩, ⟨S256x1, col0⟩, ⟨S256x1, col0⟩]
      concatenates_S256x1_S256x1_S256x1_S256x1_S256x1_S256x1_S256x1_S256x1_S256x1_S256x1_S256x1_S256x1_S256x1_S256x1_S256x1_S256x1_S256x16_d1 := by
  rw [← acc00_eq, ← acc01_eq, ← acc02_eq, ← acc11_eq, ← acc12_eq, ← acc22_eq, ← b_v310_eq]
  rfl

end Cert.Proof.KernelIdeal

end
-- ==== Proof.Bis.lean ====
/-
  The mathematics of the threshold: a bisection on the number of points within a squared distance, and the set of points
  it selects, which is the set of the first 64 of a list sorted by squared distance when no further point is within the
  bisection's last interval of the 64th.
-/
module

public import Idealize.ShloMosaic.Lib.Pointwise

@[expose] public section

noncomputable section

namespace Cert.Proof

/-- One bisection step towards the least bound with 64 points below it. -/
def bis (N : ℝ → ℕ) (a : ℝ × ℝ) : ℝ × ℝ :=
  if 64 ≤ N ((a.1 + a.2) * (1 / 2)) then (a.1, (a.1 + a.2) * (1 / 2)) else ((a.1 + a.2) * (1 / 2), a.2)

theorem bis_inv (N : ℝ → ℕ) (ρ : ℝ) (hρ : 0 < ρ) (n : ℕ) :
    ((bis N)^[n] (0, ρ)).2 - ((bis N)^[n] (0, ρ)).1 = ρ / 2 ^ n ∧ 0 ≤ ((bis N)^[n] (0, ρ)).1 ∧ ((bis N)^[n] (0, ρ)).2 ≤ ρ
      ∧ (((bis N)^[n] (0, ρ)).2 = ρ ∨ 64 ≤ N ((bis N)^[n] (0, ρ)).2) ∧ (((bis N)^[n] (0, ρ)).1 = 0 ∨ N ((bis N)^[n] (0, ρ)).1 < 64) := by
  induction n with
  | zero => simp
  | succ n ih =>
    rw [Function.iterate_succ_apply']
    obtain ⟨h1, h2, h3, h4, h5⟩ := ih
    generalize (bis N)^[n] (0, ρ) = a at *
    have hp : 0 < ρ / 2 ^ n := by positivity
    have hs : ρ / 2 ^ (n + 1) = ρ / 2 ^ n / 2 := by rw [pow_succ]; field_simp
    unfold bis
    split_ifs with h
    · exact ⟨by rw [hs]; dsimp only; linarith, h2, by dsimp only; linarith, .inr h, h5⟩
    · exact ⟨by rw [hs]; dsimp only; linarith, by dsimp only; linarith, h3, h4, .inr (by dsimp only; omega)⟩

/-- How many points lie within `t`. -/
def cntLe {n : ℕ} (d : Fin n → ℝ) (t : ℝ) : ℕ := (Finset.univ.filter fun j => d j ≤ t).card

/-- The threshold: the bisection's upper end when more than 64 points lie within `ρ`, else `ρ`. -/
def tau (N : ℝ → ℕ) (ρ : ℝ) : ℝ := if 64 < N ρ then ((bis N)^[34] (0, ρ)).2 else ρ

theorem tau_le (N : ℝ → ℕ) (ρ : ℝ) (hρ : 0 < ρ) : tau N ρ ≤ ρ := by
  unfold tau; split_ifs
  · exact (bis_inv N ρ hρ 34).2.2.1
  · exact le_rfl

theorem selected {n : ℕ} (d : Fin n → ℝ) (hd : ∀ j, 0 ≤ d j) (ρ : ℝ) (hρ : 0 < ρ) (idx : Fin 64 → Fin n)
    (hinj : Function.Injective idx)
    (hA : ∀ k j, j ∉ Set.range idx → d j ≤ ρ → d (idx k) ≤ d j)
    (hB : ∀ k, d (idx 63) ≤ ρ → d (idx k) ≤ d (idx 63))
    (hC : ρ < d (idx 63) ∨ (Finset.univ.filter fun j => d j ≤ ρ ∧ d j ≤ d (idx 63) + ρ / 2 ^ 34).card ≤ 64) :
    (Finset.univ.filter fun j => d j ≤ tau (cntLe d) ρ) = (Finset.univ.filter fun k => d (idx k) ≤ ρ).image idx := by
  have hcard : (Finset.univ.image idx).card = 64 := by rw [Finset.card_image_of_injective _ hinj]; simp
  by_cases h63 : d (idx 63) ≤ ρ
  · have hall : (Finset.univ.filter fun k => d (idx k) ≤ ρ) = Finset.univ :=
      Finset.filter_true_of_mem fun k _ => (hB k h63).trans h63
    rw [hall]
    unfold tau
    split_ifs with hN
    · obtain ⟨h1, h2, h3, h4, h5⟩ := bis_inv (cntLe d) ρ hρ 34
      generalize (bis (cntLe d))^[34] (0, ρ) = a at *
      have hC' := hC.resolve_left (not_lt.mpr h63)
      have hL : a.1 ≤ d (idx 63) := by
        rcases h5 with h5 | h5
        · rw [h5]; exact hd _
        · by_contra hlt
          have : (Finset.univ.image idx).card ≤ cntLe d a.1 := Finset.card_le_card fun j hj => by
            obtain ⟨k, -, rfl⟩ := Finset.mem_image.mp hj
            exact Finset.mem_filter.mpr ⟨Finset.mem_univ _, (hB k h63).trans (not_le.mp hlt).le⟩
          omega
      have hS : 64 ≤ (Finset.univ.filter fun j => d j ≤ a.2).card := by
        rcases h4 with h4 | h4
        · rw [h4]; exact hN.le
        · exact h4
      have e1 : (Finset.univ.filter fun j => d j ≤ a.2) = Finset.univ.filter fun j => d j ≤ ρ ∧ d j ≤ d (idx 63) + ρ / 2 ^ 34 :=
        Finset.eq_of_subset_of_card_le (fun j hj => by
          have hj' := (Finset.mem_filter.mp hj).2
          exact Finset.mem_filter.mpr ⟨Finset.mem_univ _, hj'.trans h3, by linarith⟩) (hC'.trans hS)
      have e2 : Finset.univ.image idx = Finset.univ.filter fun j => d j ≤ ρ ∧ d j ≤ d (idx 63) + ρ / 2 ^ 34 :=
        Finset.eq_of_subset_of_card_le (fun j hj => by
          obtain ⟨k, -, rfl⟩ := Finset.mem_image.mp hj
          exact Finset.mem_filter.mpr ⟨Finset.mem_univ _, (hB k h63).trans h63, (hB k h63).trans (by
            have : 0 < ρ / 2 ^ 34 := by positivity
            linarith)⟩) (hC'.trans hcard.ge)
      rw [e1, e2]
    · refine (Finset.eq_of_subset_of_card_le (fun j hj => ?_) ?_).symm
      · obtain ⟨k, -, rfl⟩ := Finset.mem_image.mp hj
        exact Finset.mem_filter.mpr ⟨Finset.mem_univ _, (hB k h63).trans h63⟩
      · rw [hcard]; exact not_lt.mp hN
  · have hsub : ∀ j, d j ≤ ρ → j ∈ Set.range idx := fun j hj => by
      by_contra hn; exact h63 ((hA 63 j hn hj).trans hj)
    have e : (Finset.univ.filter fun j => d j ≤ ρ) = (Finset.univ.filter fun k => d (idx k) ≤ ρ).image idx := by
      ext j
      simp only [Finset.mem_filter, Finset.mem_univ, true_and, Finset.mem_image]
      constructor
      · intro hj; obtain ⟨k, rfl⟩ := hsub j hj; exact ⟨k, hj, rfl⟩
      · rintro ⟨k, hk, rfl⟩; exact hk
    have hle : ¬ 64 < cntLe d ρ := by
      unfold cntLe; rw [e, not_lt]
      exact Finset.card_image_le.trans ((Finset.card_filter_le _ _).trans (by simp))
    unfold tau; rw [if_neg hle, e]

/-- A sum over the selected points is the sum over the first 64 of the list, masked by the radius. -/
theorem sum_selected {n : ℕ} (d : Fin n → ℝ) (hd : ∀ j, 0 ≤ d j) (ρ : ℝ) (hρ : 0 < ρ) (idx : Fin 64 → Fin n)
    (hinj : Function.Injective idx)
    (hA : ∀ k j, j ∉ Set.range idx → d j ≤ ρ → d (idx k) ≤ d j)
    (hB : ∀ k, d (idx 63) ≤ ρ → d (idx k) ≤ d (idx 63))
    (hC : ρ < d (idx 63) ∨ (Finset.univ.filter fun j => d j ≤ ρ ∧ d j ≤ d (idx 63) + ρ / 2 ^ 34).card ≤ 64)
    (g : Fin n → ℝ) :
    (∑ j, if d j ≤ tau (cntLe d) ρ then g j else 0) = ∑ k, if d (idx k) ≤ ρ then g (idx k) else 0 := by
  rw [← Finset.sum_filter, selected d hd ρ hρ idx hinj hA hB hC, Finset.sum_image (fun _ _ _ _ h => hinj h), Finset.sum_filter]

/-- A masked sum over padded points is that over the points proper, when the padding lies beyond every threshold used. -/
theorem sum_pad {n N : ℕ} (h : n ≤ N) (d : Fin N → ℝ) (ρ t : ℝ) (ht : t ≤ ρ) (hp : ∀ j : Fin N, n ≤ j.val → ρ < d j) (g : Fin N → ℝ) :
    (∑ j, if d j ≤ t then g j else 0) = ∑ j : Fin n, if d (Fin.castLE h j) ≤ t then g (Fin.castLE h j) else 0 := by
  obtain ⟨k, rfl⟩ := Nat.exists_eq_add_of_le h
  rw [Fin.sum_univ_add]
  have h0 : (∑ i : Fin k, if d (Fin.natAdd n i) ≤ t then g (Fin.natAdd n i) else 0) = 0 := Finset.sum_eq_zero fun i _ => by
    rw [if_neg]; have := hp (Fin.natAdd n i) (by simp); linarith
  rw [h0, add_zero]; rfl

theorem cnt_pad {n N : ℕ} (h : n ≤ N) (d : Fin N → ℝ) (ρ t : ℝ) (ht : t ≤ ρ) (hp : ∀ j : Fin N, n ≤ j.val → ρ < d j) :
    cntLe d t = cntLe (fun j : Fin n => d (Fin.castLE h j)) t := by
  have e := sum_pad h d ρ t ht hp (fun _ => (1 : ℝ))
  rw [← Finset.sum_filter, ← Finset.sum_filter] at e
  simp only [Finset.sum_const, nsmul_eq_mul, mul_one] at e
  exact_mod_cast e

/-- Bisection looks at `N` only between 0 and `ρ`. -/
theorem bis_congr (N N' : ℝ → ℕ) (ρ : ℝ) (hρ : 0 < ρ) (h : ∀ t, t ≤ ρ → N t = N' t) (n : ℕ) :
    (bis N)^[n] (0, ρ) = (bis N')^[n] (0, ρ) := by
  induction n with
  | zero => rfl
  | succ n ih =>
    rw [Function.iterate_succ_apply', Function.iterate_succ_apply', ← ih]
    obtain ⟨h1, h2, h3, -, -⟩ := bis_inv N ρ hρ n
    generalize (bis N)^[n] (0, ρ) = a at *
    have hp : 0 < ρ / 2 ^ n := by positivity
    unfold bis
    rw [h _ (by linarith)]

theorem tau_congr (N N' : ℝ → ℕ) (ρ : ℝ) (hρ : 0 < ρ) (h : ∀ t, t ≤ ρ → N t = N' t) : tau N ρ = tau N' ρ := by
  unfold tau; rw [h ρ le_rfl, bis_congr N N' ρ hρ h]

end Cert.Proof

end
-- ==== Proof.Read.lean ====
/-
  The kernel's block on real points: where the tile's row is a real point `u` and the transposed positions are the real
  points `p`, the block's row is the covariance sums over the points within the threshold and the count within the radius.
-/
module

public import proofs.«01_k».proof.Proof.Canon
public import proofs.«01_k».proof.Proof.Bis
public import Idealize.ShloMosaic.Lib.Pointwise

@[expose] public section

set_option maxRecDepth 16384

noncomputable section

namespace Cert.Proof

open Idealize.ShloMosaic

/-- The squared radius and the squared distance the programs compute, over the reals. -/
def rho : ℝ := 10737418 / 2 ^ 30

theorem rho_pos : 0 < rho := by unfold rho; norm_num

def dR (u v : Fin 3 → ℝ) : ℝ := max ((∑ a, u a * u a) + (∑ a, v a * v a) - 2 * ∑ a, u a * v a) 0

theorem ofBits_rho : Ideal.ofBits .f32 0x3C23D70A#32 = (rho : EReal) := by
  unfold rho; simp [Ideal.ofBits, Ideal.ieee, -EReal.coe_mul]; norm_num

theorem ofBits_margin : Ideal.ofBits .f32 0x2B23D70A#32 = ((rho / 2 ^ 34 : ℝ) : EReal) := by
  unfold rho; simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) := EReal.coe_strictMono.monotone.map_max

theorem coe_ite (P : Prop) [Decidable P] (a : ℝ) : (if P then (a : EReal) else 0) = ((if P then a else 0 : ℝ) : EReal) := by
  split_ifs <;> simp

theorem coe_ite1 (P : Prop) [Decidable P] : (if P then (1 : EReal) else 0) = ((if P then 1 else 0 : ℝ) : EReal) := by
  split_ifs <;> simp

/-- A count as a sum of ones. -/
theorem cntLe_eq {n : ℕ} (d : Fin n → ℝ) (t : ℝ) : (∑ j, if d j ≤ t then (1 : ℝ) else 0) = cntLe d t := by
  rw [← Finset.sum_filter]; simp [cntLe]

end Cert.Proof

namespace Cert.Proof.KernelIdeal

open Cert.KernelIdeal Cert.KernelIdeal.Gen
open Idealize.ShloMosaic

/-! ## The pieces at an index -/

theorem distC_at (x0 : FVec Ideal S256x3 .f32) (T : FVec Ideal S3x1024 .f32) (r : Fin 256) (j : Fin 1024) :
    distC (F := Ideal) x0 T (ix2 r j) = max (x0 (ix2 r 0) * x0 (ix2 r 0) + x0 (ix2 r 2) * x0 (ix2 r 2) + x0 (ix2 r 1) * x0 (ix2 r 1)
      + (T (ix2 0 j) * T (ix2 0 j) + T (ix2 2 j) * T (ix2 2 j) + T (ix2 1 j) * T (ix2 1 j))
      - Ideal.ofBits .f32 0x40000000#32 * ∑ x, x0 (ix2 r x) * T (ix2 x j)) 0 := by
  pointwise [distC, k0_pay8, k0_pay7, k0_pay6]

theorem rowSum_at (X : FVec Ideal S256x1024 .f32) (r : Fin 256) : rowSum X (ix2 r 0) = ∑ j : Fin 1024, X (ix2 r j) := by
  pointwise [rowSum]

theorem tMask_at (D : FVec Ideal S256x1024 .f32) (t : FVec Ideal S256x1 .f32) (r : Fin 256) (j : Fin 1024) :
    tMask D t (ix2 r j) = if D (ix2 r j) ≤ t (ix2 r 0) then 1 else 0 := by
  pointwise [tMask, leMask]

theorem rMask_at (D : FVec Ideal S256x1024 .f32) (r : Fin 256) (j : Fin 1024) :
    rMask D (ix2 r j) = if D (ix2 r j) ≤ Ideal.ofBits .f32 0x3C23D70A#32 then 1 else 0 := by
  pointwise [rMask, leMask]

theorem diff0_at (x0 : FVec Ideal S256x3 .f32) (T : FVec Ideal S3x1024 .f32) (r : Fin 256) (j : Fin 1024) :
    diff0 (F := Ideal) x0 T (ix2 r j) = T (ix2 0 j) - x0 (ix2 r 0) := by
  pointwise [diff0]

theorem diff1_at (x0 : FVec Ideal S256x3 .f32) (T : FVec Ideal S3x1024 .f32) (r : Fin 256) (j : Fin 1024) :
    diff1 (F := Ideal) x0 T (ix2 r j) = T (ix2 1 j) - x0 (ix2 r 1) := by
  pointwise [diff1]

theorem diff2_at (x0 : FVec Ideal S256x3 .f32) (T : FVec Ideal S3x1024 .f32) (r : Fin 256) (j : Fin 1024) :
    diff2 (F := Ideal) x0 T (ix2 r j) = T (ix2 2 j) - x0 (ix2 r 2) := by
  pointwise [diff2]

/-- Column `j` of chunk `k`. -/
def jx (k : Fin 10) (j : Fin 1024) : Fin 10240 := ⟨1024 * k + j, by omega⟩

theorem sum_jx {M : Type} [AddCommMonoid M] (g : Fin 10240 → M) : (∑ k, ∑ j, g (jx k j)) = ∑ j, g j := by
  refine ((Fin.sum_univ_tiles 10 1024 rfl g).trans ?_).symm
  exact Finset.sum_congr rfl fun k _ => Finset.sum_congr rfl fun j _ => congrArg g (Fin.ext (by
    show k.val * 1024 + j.val = 1024 * k.val + j.val
    omega))

theorem tch_at (x1 : FVec Ideal S3x10240 .f32) (a : Fin 3) (j : Fin 1024) (k : Fin 10) :
    tch (F := Ideal) x1 k (ix2 a j) = (show FVec Ideal S3x10240 .f32 from x1) (ix2 a (jx k j)) := by
  fin_cases k <;> pointwise [tch, ldT, jx]

theorem dch_at (x0 : FVec Ideal S256x3 .f32) (x1 : FVec Ideal S3x10240 .f32) (k : Fin 10) (r : Fin 256) (j : Fin 1024) :
    dch (F := Ideal) x0 x1 k (ix2 r j) = distC (F := Ideal) x0 (tch (F := Ideal) x1 k) (ix2 r j) := by
  fin_cases k
  · show b_d0 (F := Ideal) x0 x1 (ix2 r j) = _
    rw [d0_eq]; pointwise []
  · show b_d1 (F := Ideal) x0 x1 (ix2 r j) = _
    rw [d1_eq]; pointwise []
  · show b_d2 (F := Ideal) x0 x1 (ix2 r j) = _
    rw [d2_eq]; pointwise []
  · show b_d3 (F := Ideal) x0 x1 (ix2 r j) = _
    rw [d3_eq]; pointwise []
  · show b_d4 (F := Ideal) x0 x1 (ix2 r j) = _
    rw [d4_eq]; pointwise []
  · show b_d5 (F := Ideal) x0 x1 (ix2 r j) = _
    rw [d5_eq]; pointwise []
  · show b_d6 (F := Ideal) x0 x1 (ix2 r j) = _
    rw [d6_eq]; pointwise []
  · show b_d7 (F := Ideal) x0 x1 (ix2 r j) = _
    rw [d7_eq]; pointwise []
  · show b_d8 (F := Ideal) x0 x1 (ix2 r j) = _
    rw [d8_eq]; pointwise []
  · show b_d9 (F := Ideal) x0 x1 (ix2 r j) = _
    rw [d9_eq]; pointwise []

theorem sum10_at (f : Fin 10 → FVec Ideal S256x1 .f32) (r : Fin 256) : sum10 f (ix2 r 0) = ∑ k, f k (ix2 r 0) := by
  pointwise [sum10, col0]
  rw [Fin.sum_univ_castSucc, Fin.sum_univ_castSucc, Fin.sum_univ_eight]
  rfl

theorem concat_at (y : Fin 16 → FVec Ideal S256x1 .f32) (r : Fin 256) (q : Fin 10) :
   concatenate S256x16 1 [⟨S256x1, y 0⟩, ⟨S256x1, y 1⟩, ⟨S256x1, y 2⟩, ⟨S256x1, y 3⟩, ⟨S256x1, y 4⟩, ⟨S256x1, y 5⟩, ⟨S256x1, y 6⟩, ⟨S256x1, y 7⟩, ⟨S256x1, y 8⟩, ⟨S256x1, y 9⟩, ⟨S256x1, y 10⟩, ⟨S256x1, y 11⟩, ⟨S256x1, y 12⟩, ⟨S256x1, y 13⟩, ⟨S256x1, y 14⟩, ⟨S256x1, y 15⟩]
      concatenates_S256x1_S256x1_S256x1_S256x1_S256x1_S256x1_S256x1_S256x1_S256x1_S256x1_S256x1_S256x1_S256x1_S256x1_S256x1_S256x1_S256x16_d1 (ix2 r ⟨q, by omega⟩) = y ⟨q, by omega⟩ (ix2 r 0) := by
  fin_cases q <;> pointwise [] <;> rfl

/-! ## On real points -/

section real

variable (x0 : FVec Ideal S256x3 .f32) (x1 : FVec Ideal S3x10240 .f32) (r : Fin 256) (u : Fin 3 → ℝ) (p : Fin 10240 → Fin 3 → ℝ)

theorem dch_real (hu : ∀ a, x0 (ix2 r a) = (u a : EReal)) (hp : ∀ a j, x1 (ix2 a j) = (p j a : EReal)) (k : Fin 10) (j : Fin 1024) :
    distC (F := Ideal) x0 (tch (F := Ideal) x1 k) (ix2 r j) = (dR u (p (jx k j)) : EReal) := by
  rw [distC_at, ofBits_two]
  simp only [tch_at, hu, hp]
  unfold dR
  rw [coe_max', EReal.coe_zero]
  congr 1
  simp only [Fin.sum_univ_three]
  norm_cast
  ring

/-- The count of the points within a row's threshold. -/
theorem count_real (D : Fin 10 → FVec Ideal S256x1024 .f32) (t : FVec Ideal S256x1 .f32) (d : Fin 10240 → ℝ) (τ : ℝ)
    (hD : ∀ k j, D k (ix2 r j) = (d (jx k j) : EReal)) (ht : t (ix2 r 0) = (τ : EReal)) :
    sum10 (fun k => rowSum (tMask (D k) t)) (ix2 r 0) = ((cntLe d τ : ℝ) : EReal) := by
  rw [sum10_at]
  simp only [rowSum_at, tMask_at, hD, ht, EReal.coe_le_coe_iff, coe_ite1]
  simp only [← coe_fsum]
  rw [sum_jx (fun j => if d j ≤ τ then (1 : ℝ) else 0), cntLe_eq]

theorem cnt_real (hu : ∀ a, x0 (ix2 r a) = (u a : EReal)) (hp : ∀ a j, x1 (ix2 a j) = (p j a : EReal)) :
    cnt (F := Ideal) x0 x1 (ix2 r 0) = ((cntLe (fun j => dR u (p j)) rho : ℝ) : EReal) := by
  unfold cnt
  rw [sum10_at]
  simp only [rowSum_at, rMask_at, dch_real x0 x1 r u p hu hp, ofBits_rho, EReal.coe_le_coe_iff, coe_ite1]
  simp only [← coe_fsum]
  rw [sum_jx (fun j => if dR u (p j) ≤ rho then (1 : ℝ) else 0), cntLe_eq (fun j => dR u (p j))]

theorem mid_at (acc : FVec Ideal S256x1 .f32 × FVec Ideal S256x1 .f32) (l h : ℝ) (hl : acc.1 (ix2 r 0) = (l : EReal)) (hh : acc.2 (ix2 r 0) = (h : EReal)) :
    mid (F := Ideal) acc (ix2 r 0) = (((l + h) * (1 / 2) : ℝ) : EReal) := by
  pointwise [mid]
  rw [hl, hh, ofBits_half]
  norm_cast

theorem midGe_at (D : Fin 10 → FVec Ideal S256x1024 .f32) (acc : FVec Ideal S256x1 .f32 × FVec Ideal S256x1 .f32) :
    midGe (F := Ideal) D acc (ix2 r 0) = BitVec.ofBool (decide (Ideal.ofBits .f32 0x42800000#32 ≤ sum10 (fun k => rowSum (tMask (D k) (mid (F := Ideal) acc))) (ix2 r 0))) := by
  unfold midGe
  generalize sum10 (fun k => rowSum (tMask (D k) (mid (F := Ideal) acc))) = s
  pointwise []

theorem bisStep_real (D : Fin 10 → FVec Ideal S256x1024 .f32) (d : Fin 10240 → ℝ)
    (hD : ∀ k j, D k (ix2 r j) = (d (jx k j) : EReal)) (acc : FVec Ideal S256x1 .f32 × FVec Ideal S256x1 .f32) (a : ℝ × ℝ)
    (hl : acc.1 (ix2 r 0) = (a.1 : EReal)) (hh : acc.2 (ix2 r 0) = (a.2 : EReal)) :
    (bisStep (F := Ideal) D acc).1 (ix2 r 0) = ((bis (cntLe d) a).1 : EReal) ∧ (bisStep (F := Ideal) D acc).2 (ix2 r 0) = ((bis (cntLe d) a).2 : EReal) := by
  have hm := mid_at r acc a.1 a.2 hl hh
  have hg := midGe_at r D acc
  rw [count_real r D _ d _ hD hm, ofBits_64] at hg
  simp only [EReal.coe_le_coe_iff] at hg
  rw [bisStep_eq]
  have hN : ((64 : ℝ) ≤ (cntLe d ((a.1 + a.2) * (1 / 2)) : ℝ)) ↔ 64 ≤ cntLe d ((a.1 + a.2) * (1 / 2)) := by exact_mod_cast Iff.rfl
  unfold bis
  generalize (a.1 + a.2) * (1 / 2) = mm at *
  constructor
  · show Scalar.select (midGe (F := Ideal) D acc (ix2 r 0)) (acc.1 (ix2 r 0)) (mid (F := Ideal) acc (ix2 r 0)) = _
    rw [hg, hl, hm]
    split_ifs with h <;> simp [hN, h, Scalar.select]
  · show Scalar.select (midGe (F := Ideal) D acc (ix2 r 0)) (mid (F := Ideal) acc (ix2 r 0)) (acc.2 (ix2 r 0)) = _
    rw [hg, hh, hm]
    split_ifs with h <;> simp [hN, h, Scalar.select]

theorem iter_real (D : Fin 10 → FVec Ideal S256x1024 .f32) (d : Fin 10240 → ℝ)
    (hD : ∀ k j, D k (ix2 r j) = (d (jx k j) : EReal)) (n : ℕ) :
    ((bisStep (F := Ideal) D)^[n] (k0_pay47 (F := Ideal), k0_pay48 (F := Ideal))).1 (ix2 r 0) = (((bis (cntLe d))^[n] (0, rho)).1 : EReal)
      ∧ ((bisStep (F := Ideal) D)^[n] (k0_pay47 (F := Ideal), k0_pay48 (F := Ideal))).2 (ix2 r 0) = (((bis (cntLe d))^[n] (0, rho)).2 : EReal) := by
  induction n with
  | zero =>
    refine ⟨?_, ?_⟩
    · show k0_pay47 (F := Ideal) (ix2 r 0) = ((0 : ℝ) : EReal)
      pointwise [k0_pay47]
      rfl
    · show k0_pay48 (F := Ideal) (ix2 r 0) = ((rho : ℝ) : EReal)
      pointwise [k0_pay48]
      exact ofBits_rho
  | succ n ih =>
    rw [Function.iterate_succ_apply', Function.iterate_succ_apply']
    exact bisStep_real r D d hD _ _ ih.1 ih.2

theorem thr_real (hu : ∀ a, x0 (ix2 r a) = (u a : EReal)) (hp : ∀ a j, x1 (ix2 a j) = (p j a : EReal)) :
    thr (F := Ideal) x0 x1 (ix2 r 0) = (tau (cntLe fun j => dR u (p j)) rho : EReal) := by
  have hD : ∀ k j, dch (F := Ideal) x0 x1 k (ix2 r j) = ((fun j => dR u (p j)) (jx k j) : EReal) := fun k j =>
    (dch_at x0 x1 k r j).trans (dch_real x0 x1 r u p hu hp k j)
  have hi := (iter_real r (dch (F := Ideal) x0 x1) (fun j => dR u (p j)) hD 34).2
  have hc := cnt_real x0 x1 r u p hu hp
  rw [thr_eq, b_v310_eq]
  have hN : ((64 : ℝ) < (cntLe (fun j => dR u (p j)) rho : ℝ)) ↔ 64 < cntLe (fun j => dR u (p j)) rho := by exact_mod_cast Iff.rfl
  have hs : select (cmpf .ogt (cnt (F := Ideal) x0 x1) (broadcast S256x1 (Scalar.ofBits .f32 0x42800000#32 : Ideal .f32))) (b_HI (F := Ideal) x0 x1) (broadcast S256x1 (Scalar.ofBits .f32 0x3C23D70A#32 : Ideal .f32)) (ix2 r 0)
      = if Ideal.ofBits .f32 0x42800000#32 < cnt (F := Ideal) x0 x1 (ix2 r 0) then b_HI (F := Ideal) x0 x1 (ix2 r 0) else Ideal.ofBits .f32 0x3C23D70A#32 := by
    generalize cnt (F := Ideal) x0 x1 = A
    generalize b_HI (F := Ideal) x0 x1 = B
    pointwise []
  rw [hs, hc, ofBits_64, ofBits_rho]
  unfold tau
  simp only [EReal.coe_lt_coe_iff, hN]
  split_ifs
  · exact hi
  · rfl

/-- A sum of masked products over the points within a row's threshold. -/
theorem acc_real (D A B : Fin 10 → FVec Ideal S256x1024 .f32) (t : FVec Ideal S256x1 .f32) (d f g : Fin 10240 → ℝ) (τ : ℝ)
    (hD : ∀ k j, D k (ix2 r j) = (d (jx k j) : EReal)) (hA : ∀ k j, A k (ix2 r j) = (f (jx k j) : EReal))
    (hB : ∀ k j, B k (ix2 r j) = (g (jx k j) : EReal)) (ht : t (ix2 r 0) = (τ : EReal)) :
    sum10 (fun k => rowSum (covC (tMask (D k) t) (A k) (B k))) (ix2 r 0) = ((∑ j, if d j ≤ τ then f j * g j else 0 : ℝ) : EReal) := by
  have hc : ∀ k j, covC (tMask (D k) t) (A k) (B k) (ix2 r j) = ((if d (jx k j) ≤ τ then f (jx k j) * g (jx k j) else 0 : ℝ) : EReal) := fun k j => by
    show A k (ix2 r j) * tMask (D k) t (ix2 r j) * B k (ix2 r j) = _
    rw [tMask_at, hA, hB, hD, ht]
    simp only [EReal.coe_le_coe_iff]
    split_ifs
    · rw [mul_one, EReal.coe_mul]
    · simp
  rw [sum10_at]
  simp only [rowSum_at, hc]
  simp only [← coe_fsum]
  rw [sum_jx (fun j => if d j ≤ τ then f j * g j else 0)]

theorem block_col0 : covBlock (F := Ideal) x0 x1 (ix2 r 0) = acc00 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 0

theorem block_col1 : covBlock (F := Ideal) x0 x1 (ix2 r 1) = acc01 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 1

theorem block_col2 : covBlock (F := Ideal) x0 x1 (ix2 r 2) = acc02 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 2

theorem block_col3 : covBlock (F := Ideal) x0 x1 (ix2 r 3) = acc01 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 3

theorem block_col4 : covBlock (F := Ideal) x0 x1 (ix2 r 4) = acc11 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 4

theorem block_col5 : covBlock (F := Ideal) x0 x1 (ix2 r 5) = acc12 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 5

theorem block_col6 : covBlock (F := Ideal) x0 x1 (ix2 r 6) = acc02 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 6

theorem block_col7 : covBlock (F := Ideal) x0 x1 (ix2 r 7) = acc12 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 7

theorem block_col8 : covBlock (F := Ideal) x0 x1 (ix2 r 8) = acc22 (F := Ideal) x0 x1 (ix2 r 0) := by
  rw [covBlock_eq]
  exact concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 8

/-- The block's row: the nine covariance sums, row-major. -/
theorem block_cov (hu : ∀ a, x0 (ix2 r a) = (u a : EReal)) (hp : ∀ a j, x1 (ix2 a j) = (p j a : EReal)) (a b : Fin 3) :
    covBlock (F := Ideal) x0 x1 (ix2 r ⟨3 * a + b, by omega⟩)
      = ((∑ j, if dR u (p j) ≤ tau (cntLe fun j => dR u (p j)) rho then (p j a - u a) * (p j b - u b) else 0 : ℝ) : EReal) := by
  have hD : ∀ k j, dch (F := Ideal) x0 x1 k (ix2 r j) = ((fun j => dR u (p j)) (jx k j) : EReal) := fun k j =>
    (dch_at x0 x1 k r j).trans (dch_real x0 x1 r u p hu hp k j)
  have ht := thr_real x0 x1 r u p hu hp
  have h0 : ∀ k j, diff0 (F := Ideal) x0 (tch (F := Ideal) x1 k) (ix2 r j) = ((fun j => p j 0 - u 0) (jx k j) : EReal) := fun k j => by
    rw [diff0_at, tch_at, hu, hp]; norm_cast
  have h1 : ∀ k j, diff1 (F := Ideal) x0 (tch (F := Ideal) x1 k) (ix2 r j) = ((fun j => p j 1 - u 1) (jx k j) : EReal) := fun k j => by
    rw [diff1_at, tch_at, hu, hp]; norm_cast
  have h2 : ∀ k j, diff2 (F := Ideal) x0 (tch (F := Ideal) x1 k) (ix2 r j) = ((fun j => p j 2 - u 2) (jx k j) : EReal) := fun k j => by
    rw [diff2_at, tch_at, hu, hp]; norm_cast
  have e00 : acc00 (F := Ideal) x0 x1 (ix2 r 0) = ((∑ j, if dR u (p j) ≤ tau (cntLe fun j => dR u (p j)) rho then (p j 0 - u 0) * (p j 0 - u 0) else 0 : ℝ) : EReal) := by
    unfold acc00
    exact acc_real r (dch (F := Ideal) x0 x1) (fun k => diff0 (F := Ideal) x0 (tch (F := Ideal) x1 k)) (fun k => diff0 (F := Ideal) x0 (tch (F := Ideal) x1 k)) (thr (F := Ideal) x0 x1) _ _ _ _ hD h0 h0 ht
  have e01 : acc01 (F := Ideal) x0 x1 (ix2 r 0) = ((∑ j, if dR u (p j) ≤ tau (cntLe fun j => dR u (p j)) rho then (p j 0 - u 0) * (p j 1 - u 1) else 0 : ℝ) : EReal) := by
    unfold acc01
    exact acc_real r (dch (F := Ideal) x0 x1) (fun k => diff0 (F := Ideal) x0 (tch (F := Ideal) x1 k)) (fun k => diff1 (F := Ideal) x0 (tch (F := Ideal) x1 k)) (thr (F := Ideal) x0 x1) _ _ _ _ hD h0 h1 ht
  have e02 : acc02 (F := Ideal) x0 x1 (ix2 r 0) = ((∑ j, if dR u (p j) ≤ tau (cntLe fun j => dR u (p j)) rho then (p j 0 - u 0) * (p j 2 - u 2) else 0 : ℝ) : EReal) := by
    unfold acc02
    exact acc_real r (dch (F := Ideal) x0 x1) (fun k => diff0 (F := Ideal) x0 (tch (F := Ideal) x1 k)) (fun k => diff2 (F := Ideal) x0 (tch (F := Ideal) x1 k)) (thr (F := Ideal) x0 x1) _ _ _ _ hD h0 h2 ht
  have e11 : acc11 (F := Ideal) x0 x1 (ix2 r 0) = ((∑ j, if dR u (p j) ≤ tau (cntLe fun j => dR u (p j)) rho then (p j 1 - u 1) * (p j 1 - u 1) else 0 : ℝ) : EReal) := by
    unfold acc11
    exact acc_real r (dch (F := Ideal) x0 x1) (fun k => diff1 (F := Ideal) x0 (tch (F := Ideal) x1 k)) (fun k => diff1 (F := Ideal) x0 (tch (F := Ideal) x1 k)) (thr (F := Ideal) x0 x1) _ _ _ _ hD h1 h1 ht
  have e12 : acc12 (F := Ideal) x0 x1 (ix2 r 0) = ((∑ j, if dR u (p j) ≤ tau (cntLe fun j => dR u (p j)) rho then (p j 1 - u 1) * (p j 2 - u 2) else 0 : ℝ) : EReal) := by
    unfold acc12
    exact acc_real r (dch (F := Ideal) x0 x1) (fun k => diff1 (F := Ideal) x0 (tch (F := Ideal) x1 k)) (fun k => diff2 (F := Ideal) x0 (tch (F := Ideal) x1 k)) (thr (F := Ideal) x0 x1) _ _ _ _ hD h1 h2 ht
  have e22 : acc22 (F := Ideal) x0 x1 (ix2 r 0) = ((∑ j, if dR u (p j) ≤ tau (cntLe fun j => dR u (p j)) rho then (p j 2 - u 2) * (p j 2 - u 2) else 0 : ℝ) : EReal) := by
    unfold acc22
    exact acc_real r (dch (F := Ideal) x0 x1) (fun k => diff2 (F := Ideal) x0 (tch (F := Ideal) x1 k)) (fun k => diff2 (F := Ideal) x0 (tch (F := Ideal) x1 k)) (thr (F := Ideal) x0 x1) _ _ _ _ hD h2 h2 ht
  fin_cases a <;> fin_cases b
  · exact (block_col0 x0 x1 r).trans e00
  · exact (block_col1 x0 x1 r).trans e01
  · exact (block_col2 x0 x1 r).trans e02
  · refine (block_col3 x0 x1 r).trans (e01.trans (congrArg _ (Finset.sum_congr rfl fun j _ => ?_)))
    rw [mul_comm (p j 0 - u 0)]; rfl
  · exact (block_col4 x0 x1 r).trans e11
  · exact (block_col5 x0 x1 r).trans e12
  · refine (block_col6 x0 x1 r).trans (e02.trans (congrArg _ (Finset.sum_congr rfl fun j _ => ?_)))
    rw [mul_comm (p j 0 - u 0)]; rfl
  · refine (block_col7 x0 x1 r).trans (e12.trans (congrArg _ (Finset.sum_congr rfl fun j _ => ?_)))
    rw [mul_comm (p j 1 - u 1)]; rfl
  · exact (block_col8 x0 x1 r).trans e22

/-- The block's row: the count. -/
theorem block_cnt (hu : ∀ a, x0 (ix2 r a) = (u a : EReal)) (hp : ∀ a j, x1 (ix2 a j) = (p j a : EReal)) :
    covBlock (F := Ideal) x0 x1 (ix2 r 9) = ((cntLe (fun j => dR u (p j)) rho : ℝ) : EReal) := by
  rw [covBlock_eq]
  refine (concat_at ![acc00 (F := Ideal) x0 x1, acc01 (F := Ideal) x0 x1, acc02 (F := Ideal) x0 x1, acc01 (F := Ideal) x0 x1, acc11 (F := Ideal) x0 x1, acc12 (F := Ideal) x0 x1, acc02 (F := Ideal) x0 x1, acc12 (F := Ideal) x0 x1, acc22 (F := Ideal) x0 x1,
    cnt (F := Ideal) x0 x1, zero16, zero16, zero16, zero16, zero16, zero16] r 9).trans ?_
  exact cnt_real x0 x1 r u p hu hp

end real

end Cert.Proof.KernelIdeal

end
-- ==== Proof.Ref.lean ====
/-
  The reference's result, read stage by stage: squared distances, their negatives within the radius, the first 64 in
  sorted order, the gathered differences, the masked sums and the counts.
-/
module

public import proofs.«01_k».proof.Proof.Gen.ReferenceIdeal.Run
public import proofs.«01_k».proof.Proof.Gen.Pre_separated
public import Idealize.ShloMosaic.Lib.Pointwise
public import Idealize.ShloMosaic.Lib.SortFacts
public import Idealize.ShloMosaic.Lib.StableHlo.Predicate
public import Idealize.ShloMosaic.Lib.Routing.OpsPair

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable {F : FTy → Type} [FloatOps F]

/-- Squared distances. -/
def refD2 (p : FVec F S10000x3 .f32) : FVec F S10000x10000 .f32 :=
  maximumf (subf (addf (broadcastInDim S10000x10000 ![0, 1] bcast_S10000x1_S10000x10000_0_1 (broadcastInDim S10000x1 ![0] bcast_S10000_S10000x1_0 (Host.reduceAdd (mulf p p) (constant S_ .f32 0x00000000#32) reducesTo_S10000x3_S10000_d1 h_S_))) (broadcastInDim S10000x10000 ![0, 1] bcast_S1x10000_S10000x10000_0_1 (broadcastInDim S1x10000 ![1] bcast_S10000_S1x10000_1 (Host.reduceAdd (mulf p p) (constant S_ .f32 0x00000000#32) reducesTo_S10000x3_S10000_d1 h_S_)))) (mulf (broadcastInDim S10000x10000 ![] bcast_S_S10000x10000 (constant S_ .f32 0x40000000#32)) (Host.dotGeneral dot_S10000x3_S3x10000_S10000x10000_1_0_0_1_n_n none p (transpose S3x10000 [1, 0] p transposes_S10000x3_S3x10000_1_0)))) (broadcastInDim S10000x10000 ![] bcast_S_S10000x10000 (constant S_ .f32 0x00000000#32))

/-- The negated squared distances, minus infinity beyond the radius. -/
def refNeg (p : FVec F S10000x3 .f32) : FVec F S10000x10000 .f32 :=
  select (cmpf .ole (refD2 p) (broadcastInDim S10000x10000 ![] bcast_S_S10000x10000 (constant S_ .f32 0x3C23D70A#32))) (Host.negf (refD2 p)) (broadcastInDim S10000x10000 ![] bcast_S_S10000x10000 (id (constant S_ .f32 0xFF800000#32)))

/-- The first 64 of each row in sorted order, and where they stand. -/
def refTop (p : FVec F S10000x3 .f32) : FVec F S10000x64 .f32 × IVec S10000x64 32 :=
  Host.topK S10000x64 1 (FloatOps.cmpfTotal .gt) (refNeg p) sliceFits_S10000x10000_S10000x64

/-- The positions, a negative one counted from the end. -/
def refIdx (p : FVec F S10000x3 .f32) : IVec S10000x64 32 :=
  select (cmpi .slt ((refTop p).2) (broadcastInDim S10000x64 ![] bcast_S_S10000x64 (constantI S_ 32 0#32))) (addi ((refTop p).2) (broadcastInDim S10000x64 ![] bcast_S_S10000x64 (constantI S_ 32 10000#32))) ((refTop p).2)

/-- The gathered points minus the row's point. -/
def refDiff (p : FVec F S10000x3 .f32) (I : IVec S10000x64 32) : FVec F S10000x64x3 .f32 :=
  subf (Host.gather gather_S10000x3_S10000x64x1_S10000x64x3_2_0_n_n_0_2_13 p (broadcastInDim S10000x64x1 ![0, 1] bcast_S10000x64_S10000x64x1_0_1 I)) (broadcastInDim S10000x64x3 ![0, 1, 2] bcast_S10000x1x3_S10000x64x3_0_1_2 (broadcastInDim S10000x1x3 ![0, 2] bcast_S10000x3_S10000x1x3_0_2 p))

/-- One where the listed value is above minus infinity. -/
def refMask (v : FVec F S10000x64 .f32) : FVec F S10000x64x3 .f32 :=
  broadcastInDim S10000x64x3 ![0, 1, 2] bcast_S10000x64x1_S10000x64x3_0_1_2 (broadcastInDim S10000x64x1 ![0, 1] bcast_S10000x64_S10000x64x1_0_1 (uitofp .f32 (cmpf .ogt v (broadcastInDim S10000x64 ![] bcast_S_S10000x64 (constant S_ .f32 0xFF800000#32)))))

/-- The covariance sums, nine to a row. -/
def refCov (D M : FVec F S10000x64x3 .f32) : FVec F S10000x9 .f32 :=
  shapeCast S10000x9 (Host.dotGeneral dot_S10000x64x3_S10000x64x3_S10000x3x3_1_1_2_2_0_0 none (mulf D M) D) shapeCasts_S10000x3x3_S10000x9

/-- The counts within the radius. -/
def refCnt (d : FVec F S10000x10000 .f32) : FVec F S10000x1 .f32 :=
  broadcastInDim S10000x1 ![0] bcast_S10000_S10000x1_0 (Host.reduceAdd (uitofp .f32 (cmpf .ole d (broadcastInDim S10000x10000 ![] bcast_S_S10000x10000 (constant S_ .f32 0x3C23D70A#32)))) (constant S_ .f32 0x00000000#32) reducesTo_S10000x10000_S10000_d1 h_S_)

/-- The result. -/
def refOut (p : FVec F S10000x3 .f32) : FVec F S10000x10 .f32 :=
  concatenate S10000x10 1 [⟨S10000x9, (refCov (refDiff p (refIdx p)) (refMask (refTop p).1))⟩, ⟨S10000x1, (refCnt (refD2 p))⟩] concatenates_S10000x9_S10000x1_S10000x10_d1

theorem res_eq (m : (ℓ : Loc nD τ sig) → Buf (Elt F) ℓ) (c : Dev nD) :
    Cert.ReferenceIdeal.Value.res_main_v41 m c = refOut (m ((c.tc : Thread nD τ).loc main_arg0)) := rfl

/-! ## At the extended reals, at an index -/

theorem u1 (P : Prop) [Decidable P] : (FloatOps.uitofp (F := Ideal) FTy.f32 (BitVec.ofBool (decide P)) : Ideal .f32) = if P then 1 else 0 := by
  show (((BitVec.ofBool (decide P)).toNat : ℝ) : EReal) = _
  split_ifs with h <;> simp [h]

theorem negInf : Ideal.ofBits .f32 0xFF800000#32 = ⊥ := by
  simp [Ideal.ofBits, Ideal.ieee]

theorem refD2_at (p : FVec Ideal S10000x3 .f32) (i j : Fin 10000) : refD2 (F := Ideal) p (ix2 i j)
    = max (∑ x, p (ix2 i x) * p (ix2 i x) + ∑ x, p (ix2 j x) * p (ix2 j x)
        - Ideal.ofBits FTy.f32 0x40000000#32 * ∑ x, p (ix2 i x) * p (ix2 j x)) 0 := by
  pointwise [refD2]

theorem refNeg_at (p : FVec Ideal S10000x3 .f32) (i j : Fin 10000) : refNeg (F := Ideal) p (ix2 i j)
    = if refD2 (F := Ideal) p (ix2 i j) ≤ Ideal.ofBits .f32 0x3C23D70A#32 then - refD2 (F := Ideal) p (ix2 i j) else ⊥ := by
  pointwise [refNeg]
  rw [← negInf]; rfl

theorem refMask_at (v : FVec Ideal S10000x64 .f32) (i : Fin 10000) (k : Fin 64) (a : Fin 3) : refMask (F := Ideal) v (ix3 i k a)
    = if ⊥ < v (ix2 i k) then 1 else 0 := by
  pointwise [refMask]
  rw [u1, negInf]

theorem refCnt_at (d : FVec Ideal S10000x10000 .f32) (i : Fin 10000) : refCnt (F := Ideal) d (ix2 i 0)
    = ∑ j : Fin 10000, if d (ix2 i j) ≤ Ideal.ofBits .f32 0x3C23D70A#32 then 1 else 0 := by
  pointwise [refCnt]
  exact Finset.sum_congr rfl fun j _ => u1 _

theorem refCov_at (D M : FVec Ideal S10000x64x3 .f32) (i : Fin 10000) (a b : Fin 3) : refCov (F := Ideal) D M (ix2 i ⟨3 * a + b, by omega⟩)
    = ∑ k : Fin 64, D (ix3 i k a) * M (ix3 i k a) * D (ix3 i k b) := by
  fin_cases a <;> fin_cases b <;> pointwise [refCov]

theorem refOut_at (p : FVec Ideal S10000x3 .f32) (i : Fin 10000) (q : Fin 9) : refOut (F := Ideal) p (ix2 i q.castSucc)
    = refCov (F := Ideal) (refDiff (F := Ideal) p (refIdx (F := Ideal) p)) (refMask (F := Ideal) (refTop (F := Ideal) p).1) (ix2 i q) := by
  fin_cases q <;> pointwise [refOut] <;> rfl

theorem refOut_cnt (p : FVec Ideal S10000x3 .f32) (i : Fin 10000) : refOut (F := Ideal) p (ix2 i 9)
    = refCnt (F := Ideal) (refD2 (F := Ideal) p) (ix2 i 0) := by
  pointwise [refOut]

theorem gather_at (p : FVec Ideal S10000x3 .f32) (J : IVec S10000x64x1 32) (i : Fin 10000) (k : Fin 64) (a : Fin 3) (j : Fin 10000)
    (h : J (ix3 i k 0) = BitVec.ofNat 32 j.val) :
    Host.gather gather_S10000x3_S10000x64x1_S10000x64x3_2_0_n_n_0_2_13 p J (ix3 i k a) = p (ix2 j a) := by
  unfold Host.gather
  refine congrArg p (funext fun b => Fin.ext ?_)
  have hsi : ∀ c, GatherDims.siIdx gather_S10000x3_S10000x64x1_S10000x64x3_2_0_n_n_0_2_13 (ix3 i k a) c = ix3 i k 0 := fun c => by
    funext b; fin_cases b
    · rfl
    · rfl
    · exact Fin.ext (by
        have : c.val < 1 := c.isLt
        show c.val = 0
        omega)
  match b with
  | ⟨0, _⟩ =>
    show GatherDims.start _ (ix3 i k a) J 0 + 0 + 0 = j.val
    unfold GatherDims.start
    rw [dif_pos (by decide), hsi, h, StableHlo.Predicate.toInt_ofNat_small _ (by have := j.isLt; omega)]
    show min ((j.val : Int)).toNat (10000 - 1) + 0 + 0 = j.val
    have := j.isLt; omega
  | ⟨1, _⟩ =>
    show GatherDims.start _ (ix3 i k a) J 1 + 0 + a.val = a.val
    unfold GatherDims.start
    rw [dif_neg (by decide)]; omega

theorem refDiff_at (p : FVec Ideal S10000x3 .f32) (I : IVec S10000x64 32) (i : Fin 10000) (k : Fin 64) (a : Fin 3) (j : Fin 10000)
    (h : I (ix2 i k) = BitVec.ofNat 32 j.val) : refDiff (F := Ideal) p I (ix3 i k a) = p (ix2 j a) - p (ix2 i a) := by
  pointwise [refDiff]
  rw [gather_at p _ i k a j (by pointwise []; exact h)]

/-- The order the sort puts a row's columns in: greater first, equal ones by column. -/
def ord (x : FVec Ideal S10000x10000 .f32) (i : Fin 10000) : Fin 10000 → Fin 10000 :=
  sortedFrom fun k k' => FloatOps.cmpfTotal (F := Ideal) (φ := .f32) .gt (x (ix2 i k)) (x (ix2 i k')) == 1#1

theorem ord_inj (x : FVec Ideal S10000x10000 .f32) (i : Fin 10000) : Function.Injective (ord x i) := sortedFrom_injective _
theorem ord_surj (x : FVec Ideal S10000x10000 .f32) (i : Fin 10000) : Function.Surjective (ord x i) := sortedFrom_surjective _

theorem ord_anti (x : FVec Ideal S10000x10000 .f32) (i k l : Fin 10000) (h : k ≤ l) : x (ix2 i (ord x i l)) ≤ x (ix2 i (ord x i k)) := by
  rcases h.eq_or_lt with rfl | h
  · exact le_rfl
  have e : ∀ a b : EReal, (FloatOps.cmpfTotal (F := Ideal) (φ := .f32) .gt a b == 1#1) = decide (b < a) := fun a b => by
    show (BitVec.ofBool (decide (b < a)) == 1#1) = _
    by_cases hb : b < a <;> simp [hb]
  have := sortedFrom_noInversion (fun k k' => FloatOps.cmpfTotal (F := Ideal) (φ := .f32) .gt (x (ix2 i k)) (x (ix2 i k')) == 1#1)
    (fun k k' => FloatOps.cmpfTotal (F := Ideal) (φ := .f32) .gt (x (ix2 i k)) (x (ix2 i k')) == 1#1)
    (fun a b hab => by rw [e, decide_eq_true_eq] at hab; rw [e, decide_eq_false_iff_not]; exact not_lt.mpr hab.le)
    (fun a b hab => hab)
    (fun a b c hab hbc => by
      rw [e, decide_eq_false_iff_not, not_lt] at hab hbc ⊢; exact hab.trans hbc) k l h
  rw [e, decide_eq_false_iff_not, not_lt] at this
  exact this

theorem along2 (i j : Fin 10000) (h : 1 < S10000x10000.rank) (k : Fin (S10000x10000.size ⟨1, h⟩)) :
    Shape.Idx.along (s := S10000x10000) (ix2 i j) ⟨1, h⟩ k = ix2 i k := by
  funext b; fin_cases b <;> rfl

theorem top_val (p : FVec Ideal S10000x3 .f32) (i : Fin 10000) (k : Fin 64) : (refTop (F := Ideal) p).1 (ix2 i k)
    = refNeg (F := Ideal) p (ix2 i (ord (refNeg (F := Ideal) p) i ⟨k.val, by omega⟩)) := by
  unfold refTop Host.topK
  generalize refNeg (F := Ideal) p = x
  have e : extractStridedSlice (s := S10000x10000) S10000x64 (fun _ => 0) (Host.sort2 S10000x10000 1 (fun (l r : EReal × BitVec 32) => FloatOps.cmpfTotal (F := Ideal) (φ := .f32) .gt l.1 r.1) x
      (fun i => if hd : 1 < S10000x10000.rank then iotaInDim S10000x10000 32 ⟨1, hd⟩ i else 0#32)).1 sliceFits_S10000x10000_S10000x64 (ix2 i k)
      = (Host.sort2 S10000x10000 1 (fun (l r : EReal × BitVec 32) => FloatOps.cmpfTotal (F := Ideal) (φ := .f32) .gt l.1 r.1) x
      (fun i => if hd : 1 < S10000x10000.rank then iotaInDim S10000x10000 32 ⟨1, hd⟩ i else 0#32)).1 (ix2 i ⟨k.val, by omega⟩) := by
    pointwise []
  refine e.trans ?_
  unfold Host.sort2
  rw [dif_pos (by decide)]
  dsimp only
  simp only [along2]
  rfl

theorem top_idx (p : FVec Ideal S10000x3 .f32) (i : Fin 10000) (k : Fin 64) : (refTop (F := Ideal) p).2 (ix2 i k)
    = BitVec.ofNat 32 (ord (refNeg (F := Ideal) p) i ⟨k.val, by omega⟩).val := by
  unfold refTop Host.topK
  generalize refNeg (F := Ideal) p = x
  have e : extractStridedSlice (s := S10000x10000) S10000x64 (fun _ => 0) (Host.sort2 S10000x10000 1 (fun (l r : EReal × BitVec 32) => FloatOps.cmpfTotal (F := Ideal) (φ := .f32) .gt l.1 r.1) x
      (fun i => if hd : 1 < S10000x10000.rank then iotaInDim S10000x10000 32 ⟨1, hd⟩ i else 0#32)).2 sliceFits_S10000x10000_S10000x64 (ix2 i k)
      = (Host.sort2 S10000x10000 1 (fun (l r : EReal × BitVec 32) => FloatOps.cmpfTotal (F := Ideal) (φ := .f32) .gt l.1 r.1) x
      (fun i => if hd : 1 < S10000x10000.rank then iotaInDim S10000x10000 32 ⟨1, hd⟩ i else 0#32)).2 (ix2 i ⟨k.val, by omega⟩) := by
    pointwise []
  refine e.trans ?_
  unfold Host.sort2
  rw [dif_pos (by decide)]
  dsimp only
  simp only [along2]
  rfl

theorem refIdx_at (p : FVec Ideal S10000x3 .f32) (i : Fin 10000) (k : Fin 64) : refIdx (F := Ideal) p (ix2 i k)
    = BitVec.ofNat 32 (ord (refNeg (F := Ideal) p) i ⟨k.val, by omega⟩).val := by
  rw [← top_idx]
  pointwise [refIdx]
  rw [top_idx]
  exact Routing.wrap_of_lt _ _ (by rw [BitVec.toNat_ofNat]; omega)

/-! ## The precondition -/

theorem and_of {P Q : Prop} [Decidable P] [Decidable Q] (h : IntOp.andi (BitVec.ofBool (decide P)) (BitVec.ofBool (decide Q)) = 1#1) : P ∧ Q := by
  by_cases hP : P <;> by_cases hQ : Q <;> simp_all [IntOp.andi]

theorem or_of {P Q : Prop} [Decidable P] [Decidable Q] (h : IntOp.ori (BitVec.ofBool (decide P)) (BitVec.ofBool (decide Q)) = 1#1) : P ∨ Q := by
  by_cases hP : P <;> by_cases hQ : Q <;> simp_all [IntOp.ori]

theorem pre_box (p : FVec Ideal S10000x3 .f32) (h : (Cert.Pre_separated.fn (F := Ideal) p).1 = fun _ => 1#1) (i : Fin 10000) (a : Fin 3) :
    0 ≤ p (ix2 i a) ∧ p (ix2 i a) ≤ 1 := by
  have h' := congrFun h (ix2 i a)
  have e : (Cert.Pre_separated.fn (F := Ideal) p).1 = andi (cmpf .oge p (broadcastInDim S10000x3 ![] Cert.Pre_separated.Gen.bcast_S_S10000x3 (constant S_ .f32 0x00000000#32)))
      (cmpf .ole p (broadcastInDim S10000x3 ![] Cert.Pre_separated.Gen.bcast_S_S10000x3 (constant S_ .f32 0x3F800000#32))) := rfl
  rw [e] at h'
  pointwise [] at h'
  exact and_of h'

/-- The last listed value of a row. -/
def preLast (v : FVec Ideal S10000x64 .f32) : FVec Ideal S10000 .f32 :=
  shapeCast S10000 (extractStridedSlice S10000x1 ![0, 63] v Cert.Pre_separated.Gen.slices_S10000x64_S10000x1_0_63) Cert.Pre_separated.Gen.shapeCasts_S10000x1_S10000

/-- How many of a row are within the margin of the last listed value. -/
def preNear (x : FVec Ideal S10000x10000 .f32) (l : FVec Ideal S10000 .f32) : FVec Ideal S10000 .f32 :=
  Host.reduceAdd (uitofp .f32 (cmpf .oge x (broadcastInDim S10000x10000 ![0, 1] bcast_S10000x1_S10000x10000_0_1
    (subf (broadcastInDim S10000x1 ![0] bcast_S10000_S10000x1_0 l) (broadcastInDim S10000x1 ![] Cert.Pre_separated.Gen.bcast_S_S10000x1 (constant S_ .f32 0x2B23D70A#32))))))
    (constant S_ .f32 0x00000000#32) reducesTo_S10000x10000_S10000_d1 h_S_

theorem pre_sep (p : FVec Ideal S10000x3 .f32) (h : (Cert.Pre_separated.fn (F := Ideal) p).2 = fun _ => 1#1) (i : Fin 10000) :
    (refTop (F := Ideal) p).1 (ix2 i 63) = ⊥
      ∨ (∑ j, if (refTop (F := Ideal) p).1 (ix2 i 63) - Ideal.ofBits .f32 0x2B23D70A#32 ≤ refNeg (F := Ideal) p (ix2 i j) then (1 : EReal) else 0) ≤ Ideal.ofBits .f32 0x42800000#32 := by
  have h' := congrFun h (ix1 i)
  have e : (Cert.Pre_separated.fn (F := Ideal) p).2 = ori (cmpf .oeq (preLast (refTop (F := Ideal) p).1) (broadcastInDim S10000 ![] Cert.Pre_separated.Gen.bcast_S_S10000 (constant S_ .f32 0xFF800000#32)))
      (cmpf .ole (preNear (refNeg (F := Ideal) p) (preLast (refTop (F := Ideal) p).1)) (broadcastInDim S10000 ![] Cert.Pre_separated.Gen.bcast_S_S10000 (constant S_ .f32 0x42800000#32))) := rfl
  rw [e] at h'
  pointwise [preLast, preNear] at h'
  simp only [u1, negInf] at h'
  exact or_of h'

end Cert.Proof.ReferenceIdeal

end
-- ==== Proof.Row.lean ====
/-
  A row of the reference over real points, and the sums of the kernel over the padded points brought to the same form.
-/
module

public import proofs.«01_k».proof.Proof.Read
public import proofs.«01_k».proof.Proof.Ref

@[expose] public section

set_option maxRecDepth 16384

noncomputable section

namespace Cert.Proof.ReferenceIdeal

open Cert.ReferenceIdeal Cert.ReferenceIdeal.Gen Cert.Proof
open Idealize.ShloMosaic Idealize.ShloMosaic.TcCoe Idealize.SL.Sem

/-- A candidate's listed value: its distance negated within the radius, minus infinity beyond. -/
def nv (x : ℝ) : EReal := if x ≤ rho then ((-x : ℝ) : EReal) else ⊥

theorem nv_le {x y : ℝ} (h : nv x ≤ nv y) (hx : x ≤ rho) : y ≤ x := by
  unfold nv at h
  rw [if_pos hx] at h
  split_ifs at h with hy
  · have := EReal.coe_le_coe_iff.mp h; linarith
  · exact absurd (le_bot_iff.mp h) (EReal.coe_ne_bot _)

theorem nv_bot {x : ℝ} : nv x = ⊥ ↔ rho < x := by
  unfold nv
  split_ifs with h
  · exact ⟨fun e => absurd e (EReal.coe_ne_bot _), fun e => absurd h (not_le.mpr e)⟩
  · exact ⟨fun _ => not_le.mp h, fun _ => rfl⟩

theorem nv_near {x y e : ℝ} (hx : x ≤ rho) : nv x - (e : EReal) ≤ nv y ↔ y ≤ rho ∧ y ≤ x + e := by
  unfold nv
  rw [if_pos hx, ← EReal.coe_sub]
  split_ifs with hy
  · rw [EReal.coe_le_coe_iff]; constructor
    · intro h; exact ⟨hy, by linarith⟩
    · rintro ⟨_, h⟩; linarith
  · constructor
    · intro h; exact absurd (le_bot_iff.mp h) (EReal.coe_ne_bot _)
    · rintro ⟨h, _⟩; exact absurd h hy

variable (A : FVec Ideal S10000x3 .f32) (q : Fin 10000 → Fin 3 → ℝ)

theorem d2_real (hA : ∀ i a, A (ix2 i a) = (q i a : EReal)) (i j : Fin 10000) :
    refD2 (F := Ideal) A (ix2 i j) = ((dR (q i) (q j) : ℝ) : EReal) := by
  rw [refD2_at]
  simp only [hA, ofBits_two]
  unfold dR
  rw [coe_max', EReal.coe_sub, EReal.coe_add, EReal.coe_mul, coe_fsum, coe_fsum, coe_fsum]
  simp only [EReal.coe_mul, EReal.coe_zero]

theorem neg_real (hA : ∀ i a, A (ix2 i a) = (q i a : EReal)) (i j : Fin 10000) :
    refNeg (F := Ideal) A (ix2 i j) = nv (dR (q i) (q j)) := by
  rw [refNeg_at, d2_real A q hA, ofBits_rho]
  unfold nv
  simp only [EReal.coe_le_coe_iff, EReal.coe_neg]

theorem cnt_real (hA : ∀ i a, A (ix2 i a) = (q i a : EReal)) (i : Fin 10000) :
    refOut (F := Ideal) A (ix2 i 9) = ((cntLe (fun j => dR (q i) (q j)) rho : ℝ) : EReal) := by
  rw [refOut_cnt, refCnt_at, ← cntLe_eq, coe_fsum]
  refine Finset.sum_congr rfl fun j _ => ?_
  rw [d2_real A q hA, ofBits_rho, ← coe_ite1]
  simp only [EReal.coe_le_coe_iff]

/-- The listed columns of a row. -/
def lst (i : Fin 10000) (k : Fin 64) : Fin 10000 := ord (refNeg (F := Ideal) A) i ⟨k.val, by omega⟩

theorem cov_list (hA : ∀ i a, A (ix2 i a) = (q i a : EReal)) (i : Fin 10000) (a b : Fin 3) :
    refOut (F := Ideal) A (ix2 i ⟨3 * a + b, by omega⟩)
      = ((∑ k, if dR (q i) (q (lst A i k)) ≤ rho then (q (lst A i k) a - q i a) * (q (lst A i k) b - q i b) else 0 : ℝ) : EReal) := by
  have e := refOut_at A i ⟨3 * a + b, by omega⟩
  refine Eq.trans e ?_
  rw [refCov_at, coe_fsum]
  refine Finset.sum_congr rfl fun k _ => ?_
  rw [refDiff_at A _ i k a (lst A i k) (refIdx_at A i k), refDiff_at A _ i k b (lst A i k) (refIdx_at A i k), refMask_at, top_val, neg_real A q hA,
    hA, hA, hA, hA, ← EReal.coe_sub, ← EReal.coe_sub]
  show _ * (if ⊥ < nv (dR (q i) (q (lst A i k))) then (1 : EReal) else 0) * _ = _
  by_cases h : dR (q i) (q (lst A i k)) ≤ rho
  · rw [if_pos h, if_pos (bot_lt_iff_ne_bot.mpr fun e => absurd h (not_le.mpr (nv_bot.mp e))), mul_one, EReal.coe_mul]
  · rw [if_neg h, nv_bot.mpr (not_le.mp h), if_neg (lt_irrefl _), mul_zero, zero_mul, EReal.coe_zero]

/-- A row's covariance sums, as the sums over the points within the bisection's threshold. -/
theorem cov_real (hA : ∀ i a, A (ix2 i a) = (q i a : EReal)) (hs : (Cert.Pre_separated.fn (F := Ideal) A).2 = fun _ => 1#1)
    (i : Fin 10000) (a b : Fin 3) :
    refOut (F := Ideal) A (ix2 i ⟨3 * a + b, by omega⟩)
      = ((∑ j, if dR (q i) (q j) ≤ tau (cntLe fun j => dR (q i) (q j)) rho then (q j a - q i a) * (q j b - q i b) else 0 : ℝ) : EReal) := by
  rw [cov_list A q hA]
  have hx : ∀ j, refNeg (F := Ideal) A (ix2 i j) = nv (dR (q i) (q j)) := neg_real A q hA i
  have han : ∀ k l : Fin 10000, k ≤ l → nv (dR (q i) (q (ord (refNeg (F := Ideal) A) i l))) ≤ nv (dR (q i) (q (ord (refNeg (F := Ideal) A) i k))) :=
    fun k l h => by rw [← hx, ← hx]; exact ord_anti _ i k l h
  refine congrArg (fun x : ℝ => (x : EReal)) ?_
  refine (sum_selected (fun j => dR (q i) (q j)) (fun j => le_max_right _ _) rho rho_pos (lst A i) ?_ ?_ ?_ ?_
    (fun j => (q j a - q i a) * (q j b - q i b))).symm
  · intro k l h
    have := ord_inj _ i h
    exact Fin.ext (by simpa using congrArg Fin.val this)
  · intro k j hj hr
    obtain ⟨l, rfl⟩ := ord_surj (refNeg (F := Ideal) A) i j
    have hl : 64 ≤ l.val := by
      by_contra hlt
      exact hj ⟨⟨l.val, by omega⟩, rfl⟩
    exact nv_le (han ⟨k.val, by omega⟩ l (by show k.val ≤ l.val; omega)) hr
  · intro k h
    exact nv_le (han ⟨k.val, by omega⟩ ⟨63, by omega⟩ (by show k.val ≤ 63; omega)) h
  · have hsep := pre_sep A hs i
    rw [top_val, ofBits_margin, ofBits_64] at hsep
    simp only [hx] at hsep
    by_cases h63 : dR (q i) (q (lst A i 63)) ≤ rho
    · right
      rcases hsep with hb | hc
      · exact absurd h63 (not_le.mpr (nv_bot.mp hb))
      · have hc' : (∑ j, if nv (dR (q i) (q (lst A i 63))) - ((rho / 2 ^ 34 : ℝ) : EReal) ≤ nv (dR (q i) (q j)) then (1 : EReal) else 0) ≤ ((64 : ℝ) : EReal) := hc
        simp only [nv_near h63] at hc'
        simp only [coe_ite1] at hc'
        rw [← coe_fsum, EReal.coe_le_coe_iff, ← Finset.sum_filter, Finset.sum_const, nsmul_eq_mul, mul_one] at hc'
        exact_mod_cast hc'
    · exact Or.inl (not_le.mp h63)

end Cert.Proof.ReferenceIdeal

namespace Cert.Proof

/-- The points with the padding point appended. -/
def padR (q : Fin 10000 → Fin 3 → ℝ) (j : Fin 10240) : Fin 3 → ℝ := if h : j.val < 10000 then q ⟨j.val, h⟩ else fun _ => 100

theorem padR_cast (q : Fin 10000 → Fin 3 → ℝ) (j : Fin 10000) : padR q (Fin.castLE (by norm_num) j) = q j := by
  unfold padR; rw [dif_pos (show (Fin.castLE (by norm_num) j : Fin 10240).val < 10000 from j.isLt)]; rfl

theorem pad_far (q : Fin 10000 → Fin 3 → ℝ) (u : Fin 3 → ℝ) (hu : ∀ a, u a ≤ 1) (j : Fin 10240) (hj : 10000 ≤ j.val) : rho < dR u (padR q j) := by
  unfold padR; rw [dif_neg (not_lt.mpr hj)]
  unfold dR
  refine lt_of_lt_of_le ?_ (le_max_left _ _)
  rw [Fin.sum_univ_three, Fin.sum_univ_three, Fin.sum_univ_three]
  have h0 := hu 0; have h1 := hu 1; have h2 := hu 2
  have s0 := mul_self_nonneg (u 0); have s1 := mul_self_nonneg (u 1); have s2 := mul_self_nonneg (u 2)
  have hr : rho < 1 := by unfold rho; norm_num
  linarith

theorem pad_cnt (q : Fin 10000 → Fin 3 → ℝ) (u : Fin 3 → ℝ) (hu : ∀ a, u a ≤ 1) (t : ℝ) (ht : t ≤ rho) :
    cntLe (fun j => dR u (padR q j)) t = cntLe (fun j => dR u (q j)) t := by
  rw [cnt_pad (n := 10000) (by norm_num) (fun j => dR u (padR q j)) rho t ht (pad_far q u hu)]
  simp only [padR_cast]

theorem pad_cov (q : Fin 10000 → Fin 3 → ℝ) (u : Fin 3 → ℝ) (hu : ∀ a, u a ≤ 1) (a b : Fin 3) :
    (∑ j, if dR u (padR q j) ≤ tau (cntLe fun j => dR u (padR q j)) rho then (padR q j a - u a) * (padR q j b - u b) else 0)
      = ∑ j, if dR u (q j) ≤ tau (cntLe fun j => dR u (q j)) rho then (q j a - u a) * (q j b - u b) else 0 := by
  rw [tau_congr (cntLe fun j => dR u (padR q j)) (cntLe fun j => dR u (q j)) rho rho_pos (pad_cnt q u hu)]
  rw [sum_pad (n := 10000) (by norm_num) (fun j => dR u (padR q j)) rho _ (tau_le _ _ rho_pos) (pad_far q u hu)
    (fun j => (padR q j a - u a) * (padR q j b - u b))]
  simp only [padR_cast]

end Cert.Proof

end
-- ==== Proof.R0.lean ====
/-
  The distance-and-covariance kernel's body, run by the executor: from its two blocks it leaves `covBlock` of them in
  the output's staging buffer (`kernelRun0`), whatever the scratch held.
-/
module

public import proofs.«01_k».proof.Proof.Pure0
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.WholeRead
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple, what it leaves in the output's staging buffer found by the run. -/
def run0 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole)
    (x0 : Vec F S256x3 .f32) (x1 : Vec F S3x10240 .f32) (s0 : Vec F S256x10240 .f32) :
    { L : List (View.Piece (Elt F) S256x16 .f32) // ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare s0
            ∗ (iprop(owns (c : Thread nD τ) arg1 fullShare x0 ∗ owns (c : Thread nD τ) arg2 fullShare x1 ∗ (∃ f, (arg3.view.loc (c : Thread nD τ) ↦[arg3.view.set]{fullShare} (arg3.view.writes (Elt F) f L))) ∗ (∃ d, owns (c : Thread nD τ) arg4 fullShare d)) -∗ K ⟨⟩))
          ⊢ wp frame (wpE (defs₀ (F := F)) Variants.none c none) E (cc0__dist_cov_kernel i arg1 harg1 arg2 harg2 arg3 harg3 arg4 harg4) K } := by
  refine ⟨?_, fun E K => ?run⟩
  case run =>
    simp only [cc0__dist_cov_kernel_eq_skeleton]; unfold cc0__dist_cov_kernel_skel
    simp only [k0_part21_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

/-- One trip of the bisection loop is `bisStep` of the ten chunks of the scratch. -/
theorem tripR_eq (𝒱 : Variants) (c : Dev nD) (bd : Option 𝒱.V) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (v1 : FVec F S256x3 .f32) (v280 : FVec F S256x1 .f32) (v299 : FVec F S256x1024 .f32) (v300 : Vec F S256x1024 .f32) (X : BufTy.Contents (Elt F) arg4.view.ty) (k : Fin k0_t1_loop.trips) (acc : FVec F S256x1 .f32 × FVec F S256x1 .f32)
    (D : Fin 10 → Vec F S256x1024 .f32)
    (h0 : View.readAt (Elt F) arg4.view (Rect.unit (s := S256x10240) ![0, 0] S256x1024.size inb_S256x10240_S256x1024_0_0).toLoadRect X = D 0)
    (h1 : View.readAt (Elt F) arg4.view (Rect.unit (s := S256x10240) ![0, 1024] S256x1024.size inb_S256x10240_S256x1024_0_1024).toLoadRect X = D 1)
    (h2 : View.readAt (Elt F) arg4.view (Rect.unit (s := S256x10240) ![0, 2048] S256x1024.size inb_S256x10240_S256x1024_0_2048).toLoadRect X = D 2)
    (h3 : View.readAt (Elt F) arg4.view (Rect.unit (s := S256x10240) ![0, 3072] S256x1024.size inb_S256x10240_S256x1024_0_3072).toLoadRect X = D 3)
    (h4 : View.readAt (Elt F) arg4.view (Rect.unit (s := S256x10240) ![0, 4096] S256x1024.size inb_S256x10240_S256x1024_0_4096).toLoadRect X = D 4)
    (h5 : View.readAt (Elt F) arg4.view (Rect.unit (s := S256x10240) ![0, 5120] S256x1024.size inb_S256x10240_S256x1024_0_5120).toLoadRect X = D 5)
    (h6 : View.readAt (Elt F) arg4.view (Rect.unit (s := S256x10240) ![0, 6144] S256x1024.size inb_S256x10240_S256x1024_0_6144).toLoadRect X = D 6)
    (h7 : View.readAt (Elt F) arg4.view (Rect.unit (s := S256x10240) ![0, 7168] S256x1024.size inb_S256x10240_S256x1024_0_7168).toLoadRect X = D 7)
    (h8 : View.readAt (Elt F) arg4.view (Rect.unit (s := S256x10240) ![0, 8192] S256x1024.size inb_S256x10240_S256x1024_0_8192).toLoadRect X = D 8)
    (h9 : View.readAt (Elt F) arg4.view (Rect.unit (s := S256x10240) ![0, 9216] S256x1024.size inb_S256x10240_S256x1024_0_9216).toLoadRect X = D 9) :
    tripR_k0_t1 (F := F) 𝒱 c bd i arg1 harg1 arg2 harg2 arg3 harg3 arg4 harg4 v1 v280 v299 v300 X k acc = bisStep D acc := by
  unfold bisStep
  rw [← h0, ← h1, ← h2, ← h3, ← h4, ← h5, ← h6, ← h7, ← h8, ← h9]
  unfold tripR_k0_t1 trip_k0_t1
  rfl

theorem bis_eq (𝒱 : Variants) (c : Dev nD) (bd : Option 𝒱.V) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (v1 : FVec F S256x3 .f32) (v280 : FVec F S256x1 .f32) (v299 : FVec F S256x1024 .f32) (v300 : Vec F S256x1024 .f32) (X : BufTy.Contents (Elt F) arg4.view.ty) (init : FVec F S256x1 .f32 × FVec F S256x1 .f32) (f : FVec F S256x1 .f32 × FVec F S256x1 .f32 → FVec F S256x1 .f32 × FVec F S256x1 .f32)
    (hf : ∀ (k : Fin k0_t1_loop.trips) acc, tripR_k0_t1 (F := F) 𝒱 c bd i arg1 harg1 arg2 harg2 arg3 harg3 arg4 harg4 v1 v280 v299 v300 X k acc = f acc) :
    ∀ n, n ≤ k0_t1_loop.trips → st_k0_t1 (F := F) 𝒱 c bd i arg1 harg1 arg2 harg2 arg3 harg3 arg4 harg4 v1 v280 v299 v300 X init n = f^[n] init
  | 0, _ => rfl
  | n + 1, h => by
    rw [st_k0_t1_succ _ _ _ _ _ _ _ _ _ _ _ _ _ _ _ _ _ _ (⟨n, h⟩ : Fin k0_t1_loop.trips), hf, bis_eq 𝒱 c bd i arg1 harg1 arg2 harg2 arg3 harg3 arg4 harg4 v1 v280 v299 v300 X init f hf n (Nat.le_of_succ_le h),
      Function.iterate_succ_apply']

theorem trips0 : Scf.trips k0_t1_loop.lb k0_t1_loop.ub k0_t1_loop.st = 34 := by decide +kernel

end Cert.Proof.KernelIdeal

end
-- ==== Proof.R0v.lean ====
/-
  What the run of the distance-and-covariance kernel's body leaves is `covBlock` of its blocks (`run0_val`): every value
  of the run is the one `Pure0` names (`wr_…`).
-/
module

public import proofs.«01_k».proof.Proof.R0
public import Idealize.ShloMosaic.Lib.Pipeline.Value
public import Idealize.ShloMosaic.Lib.Pipeline.ValueKit.Acc
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readX (arg1 : Memref sig .tc .vmem S256x3 .f32) (harg1 : arg1.IsWhole) (x0 : Vec F S256x3 .f32) :
    View.readAt (Elt F) arg1.view (Rect.unit (s := S256x3) ![0, 0] S256x3.size inb_S256x3_S256x3_0_0).toLoadRect (harg1.unread x0) = x0 := by
  rw [View.readAt_eq_ld, harg1.read_unread]; exact View.ld_unit_zero (by funext a; fin_cases a <;> rfl) _ _

theorem readT (arg2 : Memref sig .tc .vmem S3x10240 .f32) (harg2 : arg2.IsWhole) (x1 : Vec F S3x10240 .f32) (off : ℕ) (inb : ∀ a, (![0, off] : Fin 2 → ℕ) a + S3x1024.size a ≤ S3x10240.size a) :
    View.readAt (Elt F) arg2.view (Rect.unit (s := S3x10240) ![0, off] S3x1024.size inb).toLoadRect (harg2.unread x1) = ldT x1 off inb := by
  rw [View.readAt_eq_ld, harg2.read_unread]

theorem wr_r (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r c arg1 harg1 x0 = b_v1 x0 x1 := by
  unfold run0.sl.r b_v1
  rw [readX]

theorem wr_r_1 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_1 c arg1 harg1 x0 = b_v9 x0 x1 := by
  unfold run0.sl.r_1 b_v9
  rw [readX]

theorem wr_r_2 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_2 c arg1 harg1 arg2 harg2 x0 x1 = b_v40 x0 x1 := by
  unfold run0.sl.r_2 b_v40
  rw [readX, readT]

theorem wr_r_3 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_3 c arg2 harg2 x1 = ldT x1 1024 inb_S3x10240_S3x1024_0_1024 := readT _ _ _ _ _

theorem wr_r_4 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_4 c arg1 harg1 arg2 harg2 x0 x1 = b_v70 x0 x1 := by
  unfold run0.sl.r_4 b_v70
  rw [wr_r c i arg1 harg1 arg2 harg2 arg3 harg3 arg4 harg4 x0 x1 s0, wr_r_1 c i arg1 harg1 arg2 harg2 arg3 harg3 arg4 harg4 x0 x1 s0, wr_r_2 c i arg1 harg1 arg2 harg2 arg3 harg3 arg4 harg4 x0 x1 s0, wr_r_3 c i arg1 harg1 arg2 harg2 arg3 harg3 arg4 harg4 x0 x1 s0]

theorem wr_r_5 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_5 c arg1 harg1 arg2 harg2 x0 x1 = b_v87 x0 x1 := by
  unfold run0.sl.r_5 b_v87
  rw [wr_r c i arg1 harg1 arg2 harg2 arg3 harg3 arg4 harg4 x0 x1 s0, wr_r_1 c i arg1 harg1 arg2 harg2 arg3 harg3 arg4 harg4 x0 x1 s0, readT]

theorem wr_r_6 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_6 c arg1 harg1 arg2 harg2 x0 x1 = b_v100 x0 x1 := by
  unfold run0.sl.r_6 b_v100
  rw [wr_r_4 c i arg1 harg1 arg2 harg2 arg3 harg3 arg4 harg4 x0 x1 s0, wr_r_5 c i arg1 harg1 arg2 harg2 arg3 harg3 arg4 harg4 x0 x1 s0]

theorem wr_r_7 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_7 c arg1 harg1 arg2 harg2 x0 x1 = b_v127 x0 x1 := by
  unfold run0.sl.r_7 b_v127
  rw [wr_r c i arg1 harg1 arg2 harg2 arg3 harg3 arg4 harg4 x0 x1 s0, wr_r_1 c i arg1 harg1 arg2 harg2 arg3 harg3 arg4 harg4 x0 x1 s0, readT]

theorem wr_r_8 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_8 c arg1 harg1 arg2 harg2 x0 x1 = b_v160 x0 x1 := by
  unfold run0.sl.r_8 b_v160
  rw [wr_r c i arg1 harg1 arg2 harg2 arg3 harg3 arg4 harg4 x0 x1 s0, wr_r_1 c i arg1 harg1 arg2 harg2 arg3 harg3 arg4 harg4 x0 x1 s0, wr_r_6 c i arg1 harg1 arg2 harg2 arg3 harg3 arg4 harg4 x0 x1 s0, wr_r_7 c i arg1 harg1 arg2 harg2 arg3 harg3 arg4 harg4 x0 x1 s0, readT]

theorem wr_r_9 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_9 c arg2 harg2 x1 = b_v170 x0 x1 := by
  unfold run0.sl.r_9 b_v170
  rw [readT]

theorem wr_r_10 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_10 c arg1 harg1 arg2 harg2 x0 x1 = b_v171 x0 x1 := by
  unfold run0.sl.r_10 b_v171
  rw [wr_r c i arg1 harg1 arg2 harg2 arg3 harg3 arg4 harg4 x0 x1 s0, readT]

theorem wr_r_11 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_11 c arg1 harg1 x0 = b_v172 x0 x1 := by
  unfold run0.sl.r_11 b_v172
  rw [wr_r_1 c i arg1 harg1 arg2 harg2 arg3 harg3 arg4 harg4 x0 x1 s0]

theorem wr_r_12 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_12 c arg1 harg1 arg2 harg2 x0 x1 = b_v190 x0 x1 := by
  unfold run0.sl.r_12 b_v190
  rw [wr_r_8 c i arg1 harg1 arg2 harg2 arg3 harg3 arg4 harg4 x0 x1 s0, wr_r_9 c i arg1 harg1 arg2 harg2 arg3 harg3 arg4 harg4 x0 x1 s0, wr_r_10 c i arg1 harg1 arg2 harg2 arg3 harg3 arg4 harg4 x0 x1 s0, wr_r_11 c i arg1 harg1 arg2 harg2 arg3 harg3 arg4 harg4 x0 x1 s0]

theorem wr_r_13 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_13 c arg1 harg1 arg2 harg2 x0 x1 = b_v214 x0 x1 := by
  unfold run0.sl.r_13 b_v214
  rw [wr_r c i arg1 harg1 arg2 harg2 arg3 harg3 arg4 harg4 x0 x1 s0, wr_r_1 c i arg1 harg1 arg2 harg2 arg3 harg3 arg4 harg4 x0 x1 s0, readT]

theorem wr_r_14 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_14 c arg1 harg1 arg2 harg2 x0 x1 = b_v250 x0 x1 := by
  unfold run0.sl.r_14 b_v250
  rw [wr_r c i arg1 harg1 arg2 harg2 arg3 harg3 arg4 harg4 x0 x1 s0, wr_r_1 c i arg1 harg1 arg2 harg2 arg3 harg3 arg4 harg4 x0 x1 s0, wr_r_12 c i arg1 harg1 arg2 harg2 arg3 harg3 arg4 harg4 x0 x1 s0, wr_r_13 c i arg1 harg1 arg2 harg2 arg3 harg3 arg4 harg4 x0 x1 s0, readT]

theorem wr_r_15 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_15 c arg2 harg2 x1 = b_v252 x0 x1 := by
  unfold run0.sl.r_15 b_v252
  rw [readT]

theorem wr_r_16 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_16 c arg2 harg2 x1 = b_v254 x0 x1 := by
  unfold run0.sl.r_16 b_v254
  rw [readT]

theorem wr_r_17 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_17 c arg2 harg2 x1 = b_v256 x0 x1 := by
  unfold run0.sl.r_17 b_v256
  rw [readT]

theorem wr_r_18 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_18 c arg2 harg2 x1 = b_v257 x0 x1 := by
  unfold run0.sl.r_18 b_v257
  rw [readT]

theorem wr_r_19 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_19 c arg1 harg1 arg2 harg2 x0 x1 = b_v280 x0 x1 := by
  unfold run0.sl.r_19 b_v280
  rw [wr_r c i arg1 harg1 arg2 harg2 arg3 harg3 arg4 harg4 x0 x1 s0, wr_r_1 c i arg1 harg1 arg2 harg2 arg3 harg3 arg4 harg4 x0 x1 s0, wr_r_14 c i arg1 harg1 arg2 harg2 arg3 harg3 arg4 harg4 x0 x1 s0, wr_r_15 c i arg1 harg1 arg2 harg2 arg3 harg3 arg4 harg4 x0 x1 s0, wr_r_16 c i arg1 harg1 arg2 harg2 arg3 harg3 arg4 harg4 x0 x1 s0, wr_r_17 c i arg1 harg1 arg2 harg2 arg3 harg3 arg4 harg4 x0 x1 s0, wr_r_18 c i arg1 harg1 arg2 harg2 arg3 harg3 arg4 harg4 x0 x1 s0]

theorem wr_r_20 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_20 c arg1 harg1 arg2 harg2 x0 x1 = b_v299 x0 x1 := by
  unfold run0.sl.r_20 b_v299
  rw [wr_r c i arg1 harg1 arg2 harg2 arg3 harg3 arg4 harg4 x0 x1 s0, wr_r_1 c i arg1 harg1 arg2 harg2 arg3 harg3 arg4 harg4 x0 x1 s0, readT]

/-- What a load of chunk 0 of the scratch reads back: the chunk of squared distances stored there. -/
theorem cov_0 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 0] S256x1024.size inb_S256x10240_S256x1024_0_0).toLoadRect = b_d0 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d0
  rw [readX, readT]

/-- What a load of chunk 1 of the scratch reads back: the chunk of squared distances stored there. -/
theorem cov_1 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 1024] S256x1024.size inb_S256x10240_S256x1024_0_1024).toLoadRect = b_d1 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d1
  rw [wr_r c i arg1 harg1 arg2 harg2 arg3 harg3 arg4 harg4 x0 x1 s0, wr_r_1 c i arg1 harg1 arg2 harg2 arg3 harg3 arg4 harg4 x0 x1 s0, wr_r_3 c i arg1 harg1 arg2 harg2 arg3 harg3 arg4 harg4 x0 x1 s0]

/-- What a load of chunk 2 of the scratch reads back: the chunk of squared distances stored there. -/
theorem cov_2 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 2048] S256x1024.size inb_S256x10240_S256x1024_0_2048).toLoadRect = b_d2 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d2
  rw [wr_r_5 c i arg1 harg1 arg2 harg2 arg3 harg3 arg4 harg4 x0 x1 s0]

/-- What a load of chunk 3 of the scratch reads back: the chunk of squared distances stored there. -/
theorem cov_3 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 3072] S256x1024.size inb_S256x10240_S256x1024_0_3072).toLoadRect = b_d3 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d3
  rw [wr_r c i arg1 harg1 arg2 harg2 arg3 harg3 arg4 harg4 x0 x1 s0, wr_r_1 c i arg1 harg1 arg2 harg2 arg3 harg3 arg4 harg4 x0 x1 s0, readT]

/-- What a load of chunk 4 of the scratch reads back: the chunk of squared distances stored there. -/
theorem cov_4 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 4096] S256x1024.size inb_S256x10240_S256x1024_0_4096).toLoadRect = b_d4 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d4
  rw [wr_r c i arg1 harg1 arg2 harg2 arg3 harg3 arg4 harg4 x0 x1 s0, wr_r_1 c i arg1 harg1 arg2 harg2 arg3 harg3 arg4 harg4 x0 x1 s0, readT]

/-- What a load of chunk 5 of the scratch reads back: the chunk of squared distances stored there. -/
theorem cov_5 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 5120] S256x1024.size inb_S256x10240_S256x1024_0_5120).toLoadRect = b_d5 x0 x1 := by
  unfold run0.sl.HS0_10
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold b_d5
  rw [wr_r_9 c i arg1 harg1 arg2 harg2 arg3 harg3 arg4 harg4 x0 x1 s0, wr_r_10 c i arg1 harg1 arg2 harg2 arg3 harg3 arg4 harg4 x0 x1 s0, wr_r_11 c i arg1 harg1 arg2 harg2 arg3 harg3 arg4 harg4 x0 x1 s0]

/-- What a load of chunk 6 of the scratch reads back: the chunk of squared distances stored there. -/
theorem cov_6 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 6144] S256x1024.size inb_S256x10240_S256x1024_0_6144).toLoadRect = b_d6 x0 x1 := by
  unfold run0.sl.HS0_10
  rw [View.readCov_skip _ _ _ _ _ (by decide)]
  rw [View.readCov_skip _ _ _ _ _ (by decide)]
  rw [View.readCov_skip _ _ _ _ _ (by decide)]
  rw [View.readCov_cons_toLoadRect]
  unfold b_d6
  rw [wr_r c i arg1 harg1 arg2 harg2 arg3 harg3 arg4 harg4 x0 x1 s0, wr_r_1 c i arg1 harg1 arg2 harg2 arg3 harg3 arg4 harg4 x0 x1 s0, readT]

/-- What a load of chunk 7 of the scratch reads back: the chunk of squared distances stored there. -/
theorem cov_7 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 7168] S256x1024.size inb_S256x10240_S256x1024_0_7168).toLoadRect = b_d7 x0 x1 := by
  unfold run0.sl.HS0_10
  rw [View.readCov_skip _ _ _ _ _ (by decide)]
  rw [View.readCov_skip _ _ _ _ _ (by decide)]
  rw [View.readCov_cons_toLoadRect]
  unfold b_d7
  rw [wr_r c i arg1 harg1 arg2 harg2 arg3 harg3 arg4 harg4 x0 x1 s0, wr_r_1 c i arg1 harg1 arg2 harg2 arg3 harg3 arg4 harg4 x0 x1 s0, readT]

/-- What a load of chunk 8 of the scratch reads back: the chunk of squared distances stored there. -/
theorem cov_8 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 8192] S256x1024.size inb_S256x10240_S256x1024_0_8192).toLoadRect = b_d8 x0 x1 := by
  unfold run0.sl.HS0_10
  rw [View.readCov_skip _ _ _ _ _ (by decide)]
  rw [View.readCov_cons_toLoadRect]
  unfold b_d8
  rw [wr_r c i arg1 harg1 arg2 harg2 arg3 harg3 arg4 harg4 x0 x1 s0, wr_r_1 c i arg1 harg1 arg2 harg2 arg3 harg3 arg4 harg4 x0 x1 s0, wr_r_15 c i arg1 harg1 arg2 harg2 arg3 harg3 arg4 harg4 x0 x1 s0, wr_r_16 c i arg1 harg1 arg2 harg2 arg3 harg3 arg4 harg4 x0 x1 s0, wr_r_17 c i arg1 harg1 arg2 harg2 arg3 harg3 arg4 harg4 x0 x1 s0, wr_r_18 c i arg1 harg1 arg2 harg2 arg3 harg3 arg4 harg4 x0 x1 s0]

/-- What a load of chunk 9 of the scratch reads back: the chunk of squared distances stored there. -/
theorem cov_9 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    arg4.view.readCov (run0.sl.HS0_10 c arg1 harg1 arg2 harg2 x0 x1) (Rect.unit (s := S256x10240) ![0, 9216] S256x1024.size inb_S256x10240_S256x1024_0_9216).toLoadRect = b_d9 x0 x1 := by
  unfold run0.sl.HS0_10
  rw [View.readCov_cons_toLoadRect]
  unfold b_d9
  rw [wr_r_20 c i arg1 harg1 arg2 harg2 arg3 harg3 arg4 harg4 x0 x1 s0]

theorem wr_v327 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v327 c arg1 harg1 arg2 harg2 arg4 x0 x1 = b_d0 x0 x1 := cov_0 c i arg1 harg1 arg2 harg2 arg3 harg3 arg4 harg4 x0 x1 s0
theorem wr_v383 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v383 c arg1 harg1 arg2 harg2 arg4 x0 x1 = b_d1 x0 x1 := cov_1 c i arg1 harg1 arg2 harg2 arg3 harg3 arg4 harg4 x0 x1 s0
theorem wr_v439 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v439 c arg1 harg1 arg2 harg2 arg4 x0 x1 = b_d2 x0 x1 := cov_2 c i arg1 harg1 arg2 harg2 arg3 harg3 arg4 harg4 x0 x1 s0
theorem wr_v495 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v495 c arg1 harg1 arg2 harg2 arg4 x0 x1 = b_d3 x0 x1 := cov_3 c i arg1 harg1 arg2 harg2 arg3 harg3 arg4 harg4 x0 x1 s0
theorem wr_v551 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v551 c arg1 harg1 arg2 harg2 arg4 x0 x1 = b_d4 x0 x1 := cov_4 c i arg1 harg1 arg2 harg2 arg3 harg3 arg4 harg4 x0 x1 s0
theorem wr_v607 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v607 c arg1 harg1 arg2 harg2 arg4 x0 x1 = b_d5 x0 x1 := cov_5 c i arg1 harg1 arg2 harg2 arg3 harg3 arg4 harg4 x0 x1 s0
theorem wr_v663 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v663 c arg1 harg1 arg2 harg2 arg4 x0 x1 = b_d6 x0 x1 := cov_6 c i arg1 harg1 arg2 harg2 arg3 harg3 arg4 harg4 x0 x1 s0
theorem wr_v719 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v719 c arg1 harg1 arg2 harg2 arg4 x0 x1 = b_d7 x0 x1 := cov_7 c i arg1 harg1 arg2 harg2 arg3 harg3 arg4 harg4 x0 x1 s0
theorem wr_v775 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v775 c arg1 harg1 arg2 harg2 arg4 x0 x1 = b_d8 x0 x1 := cov_8 c i arg1 harg1 arg2 harg2 arg3 harg3 arg4 harg4 x0 x1 s0
theorem wr_v831 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    run0.sl.v831 c arg1 harg1 arg2 harg2 arg4 x0 x1 = b_d9 x0 x1 := cov_9 c i arg1 harg1 arg2 harg2 arg3 harg3 arg4 harg4 x0 x1 s0

/-- The bisection on the stored chunks. -/
theorem bis_val (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) (v1 : FVec F S256x3 .f32) (v280 : FVec F S256x1 .f32) (v299 : FVec F S256x1024 .f32) (v300 : Vec F S256x1024 .f32) (init : FVec F S256x1 .f32 × FVec F S256x1 .f32) :
    st_k0_t1 (F := F) Variants.none c none i arg1 harg1 arg2 harg2 arg3 harg3 arg4 harg4 v1 v280 v299 v300
      (arg4.view.writes (Elt F) arg4.view.junk (run0.sl.HS0_10 c arg1 harg1 arg2 harg2 x0 x1)) init (Scf.trips k0_t1_loop.lb k0_t1_loop.ub k0_t1_loop.st)
      = (bisStep (dch x0 x1))^[34] init := by
  refine (bis_eq Variants.none c none i arg1 harg1 arg2 harg2 arg3 harg3 arg4 harg4 v1 v280 v299 v300 _ init (bisStep (dch x0 x1))
    (fun k acc => tripR_eq Variants.none c none i arg1 harg1 arg2 harg2 arg3 harg3 arg4 harg4 v1 v280 v299 v300 _ k acc (dch x0 x1)
      (cov_0 c i arg1 harg1 arg2 harg2 arg3 harg3 arg4 harg4 x0 x1 s0) (cov_1 c i arg1 harg1 arg2 harg2 arg3 harg3 arg4 harg4 x0 x1 s0) (cov_2 c i arg1 harg1 arg2 harg2 arg3 harg3 arg4 harg4 x0 x1 s0) (cov_3 c i arg1 harg1 arg2 harg2 arg3 harg3 arg4 harg4 x0 x1 s0) (cov_4 c i arg1 harg1 arg2 harg2 arg3 harg3 arg4 harg4 x0 x1 s0) (cov_5 c i arg1 harg1 arg2 harg2 arg3 harg3 arg4 harg4 x0 x1 s0) (cov_6 c i arg1 harg1 arg2 harg2 arg3 harg3 arg4 harg4 x0 x1 s0) (cov_7 c i arg1 harg1 arg2 harg2 arg3 harg3 arg4 harg4 x0 x1 s0) (cov_8 c i arg1 harg1 arg2 harg2 arg3 harg3 arg4 harg4 x0 x1 s0) (cov_9 c i arg1 harg1 arg2 harg2 arg3 harg3 arg4 harg4 x0 x1 s0)) _ (le_of_eq rfl)).trans ?_
  exact congrArg (fun n => (bisStep (dch x0 x1))^[n] init) trips0

theorem wr_r_21 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_21 c arg1 harg1 arg2 harg2 x0 x1 = b_v310 x0 x1 := by
  unfold run0.sl.r_21 b_v310
  rw [wr_r_19 c i arg1 harg1 arg2 harg2 arg3 harg3 arg4 harg4 x0 x1 s0, wr_r_20 c i arg1 harg1 arg2 harg2 arg3 harg3 arg4 harg4 x0 x1 s0]

theorem wr_r_22 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_22 c i arg1 harg1 arg2 harg2 arg3 harg3 arg4 harg4 x0 x1 s0 = b_v318 x0 x1 := by
  unfold run0.sl.r_22 b_v318 b_HI
  rw [bis_val c i arg1 harg1 arg2 harg2 arg3 harg3 arg4 harg4 x0 x1 s0, wr_r_19 c i arg1 harg1 arg2 harg2 arg3 harg3 arg4 harg4 x0 x1 s0, wr_r_20 c i arg1 harg1 arg2 harg2 arg3 harg3 arg4 harg4 x0 x1 s0]

theorem wr_r_23 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_23 c arg2 harg2 x1 = b_v326 x0 x1 := by
  unfold run0.sl.r_23 b_v326
  rw [readT]

theorem wr_r_24 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_24 c i arg1 harg1 arg2 harg2 arg3 harg3 arg4 harg4 x0 x1 s0 = b_v332 x0 x1 := by
  unfold run0.sl.r_24 b_v332
  rw [bis_val c i arg1 harg1 arg2 harg2 arg3 harg3 arg4 harg4 x0 x1 s0, wr_r_19 c i arg1 harg1 arg2 harg2 arg3 harg3 arg4 harg4 x0 x1 s0, wr_r_20 c i arg1 harg1 arg2 harg2 arg3 harg3 arg4 harg4 x0 x1 s0, wr_v327 c i arg1 harg1 arg2 harg2 arg3 harg3 arg4 harg4 x0 x1 s0]
  try rfl

theorem wr_r_25 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_25 c arg2 harg2 x1 = b_v335 x0 x1 := by
  unfold run0.sl.r_25 b_v335
  rw [readT]

theorem wr_r_26 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_26 c arg1 harg1 x0 = b_v336 x0 x1 := by
  unfold run0.sl.r_26 b_v336
  rw [wr_r c i arg1 harg1 arg2 harg2 arg3 harg3 arg4 harg4 x0 x1 s0]

theorem wr_r_27 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_27 c i arg1 harg1 arg2 harg2 arg3 harg3 arg4 harg4 x0 x1 s0 = b_v360 x0 x1 := by
  unfold run0.sl.r_27 b_v360
  rw [wr_r_24 c i arg1 harg1 arg2 harg2 arg3 harg3 arg4 harg4 x0 x1 s0, wr_r_25 c i arg1 harg1 arg2 harg2 arg3 harg3 arg4 harg4 x0 x1 s0, wr_r_26 c i arg1 harg1 arg2 harg2 arg3 harg3 arg4 harg4 x0 x1 s0]
  try rfl

theorem wr_r_28 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_28 c i arg1 harg1 arg2 harg2 arg3 harg3 arg4 harg4 x0 x1 s0 = b_v364 x0 x1 := by
  unfold run0.sl.r_28 b_v364
  rw [wr_r c i arg1 harg1 arg2 harg2 arg3 harg3 arg4 harg4 x0 x1 s0, wr_r_23 c i arg1 harg1 arg2 harg2 arg3 harg3 arg4 harg4 x0 x1 s0, wr_r_24 c i arg1 harg1 arg2 harg2 arg3 harg3 arg4 harg4 x0 x1 s0, wr_r_25 c i arg1 harg1 arg2 harg2 arg3 harg3 arg4 harg4 x0 x1 s0, wr_r_26 c i arg1 harg1 arg2 harg2 arg3 harg3 arg4 harg4 x0 x1 s0]
  try rfl

theorem wr_r_29 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_29 c i arg1 harg1 arg2 harg2 arg3 harg3 arg4 harg4 x0 x1 s0 = b_v368 x0 x1 := by
  unfold run0.sl.r_29 b_v368
  rw [wr_r c i arg1 harg1 arg2 harg2 arg3 harg3 arg4 harg4 x0 x1 s0, wr_r_23 c i arg1 harg1 arg2 harg2 arg3 harg3 arg4 harg4 x0 x1 s0, wr_r_24 c i arg1 harg1 arg2 harg2 arg3 harg3 arg4 harg4 x0 x1 s0, wr_r_25 c i arg1 harg1 arg2 harg2 arg3 harg3 arg4 harg4 x0 x1 s0, wr_r_26 c i arg1 harg1 arg2 harg2 arg3 harg3 arg4 harg4 x0 x1 s0]
  try rfl

theorem wr_r_30 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_30 c i arg1 harg1 arg2 harg2 arg3 harg3 arg4 harg4 x0 x1 s0 = b_v372 x0 x1 := by
  unfold run0.sl.r_30 b_v372
  rw [wr_r c i arg1 harg1 arg2 harg2 arg3 harg3 arg4 harg4 x0 x1 s0, wr_r_23 c i arg1 harg1 arg2 harg2 arg3 harg3 arg4 harg4 x0 x1 s0, wr_r_24 c i arg1 harg1 arg2 harg2 arg3 harg3 arg4 harg4 x0 x1 s0]
  try rfl

theorem wr_r_31 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_31 c i arg1 harg1 arg2 harg2 arg3 harg3 arg4 harg4 x0 x1 s0 = b_v376 x0 x1 := by
  unfold run0.sl.r_31 b_v376
  rw [wr_r c i arg1 harg1 arg2 harg2 arg3 harg3 arg4 harg4 x0 x1 s0, wr_r_23 c i arg1 harg1 arg2 harg2 arg3 harg3 arg4 harg4 x0 x1 s0, wr_r_24 c i arg1 harg1 arg2 harg2 arg3 harg3 arg4 harg4 x0 x1 s0]
  try rfl

theorem wr_r_32 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_32 c i arg1 harg1 arg2 harg2 arg3 harg3 arg4 harg4 x0 x1 s0 = b_v380 x0 x1 := by
  unfold run0.sl.r_32 b_v380
  rw [wr_r c i arg1 harg1 arg2 harg2 arg3 harg3 arg4 harg4 x0 x1 s0, wr_r_23 c i arg1 harg1 arg2 harg2 arg3 harg3 arg4 harg4 x0 x1 s0, wr_r_24 c i arg1 harg1 arg2 harg2 arg3 harg3 arg4 harg4 x0 x1 s0]
  try rfl

theorem wr_r_33 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_33 c arg2 harg2 x1 = b_v382 x0 x1 := by
  unfold run0.sl.r_33 b_v382
  rw [readT]

theorem wr_r_34 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_34 c i arg1 harg1 arg2 harg2 arg3 harg3 arg4 harg4 x0 x1 s0 = b_v385 x0 x1 := by
  unfold run0.sl.r_34 b_v385
  rw [wr_r_22 c i arg1 harg1 arg2 harg2 arg3 harg3 arg4 harg4 x0 x1 s0, wr_v383 c i arg1 harg1 arg2 harg2 arg3 harg3 arg4 harg4 x0 x1 s0]

theorem wr_r_35 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_35 c i arg1 harg1 arg2 harg2 arg3 harg3 arg4 harg4 x0 x1 s0 = b_v416 x0 x1 := by
  unfold run0.sl.r_35 b_v416
  rw [wr_r c i arg1 harg1 arg2 harg2 arg3 harg3 arg4 harg4 x0 x1 s0, wr_r_27 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_36 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_36 c i arg1 harg1 arg2 harg2 arg3 harg3 arg4 harg4 x0 x1 s0 = b_v420 x0 x1 := by
  unfold run0.sl.r_36 b_v420
  rw [wr_r c i arg1 harg1 arg2 harg2 arg3 harg3 arg4 harg4 x0 x1 s0, wr_r_28 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_37 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_37 c i arg1 harg1 arg2 harg2 arg3 harg3 arg4 harg4 x0 x1 s0 = b_v424 x0 x1 := by
  unfold run0.sl.r_37 b_v424
  rw [wr_r c i arg1 harg1 arg2 harg2 arg3 harg3 arg4 harg4 x0 x1 s0, wr_r_29 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_38 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_38 c i arg1 harg1 arg2 harg2 arg3 harg3 arg4 harg4 x0 x1 s0 = b_v428 x0 x1 := by
  unfold run0.sl.r_38 b_v428
  rw [wr_r c i arg1 harg1 arg2 harg2 arg3 harg3 arg4 harg4 x0 x1 s0, wr_r_30 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_39 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_39 c i arg1 harg1 arg2 harg2 arg3 harg3 arg4 harg4 x0 x1 s0 = b_v432 x0 x1 := by
  unfold run0.sl.r_39 b_v432
  rw [wr_r c i arg1 harg1 arg2 harg2 arg3 harg3 arg4 harg4 x0 x1 s0, wr_r_31 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_40 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_40 c i arg1 harg1 arg2 harg2 arg3 harg3 arg4 harg4 x0 x1 s0 = b_v436 x0 x1 := by
  unfold run0.sl.r_40 b_v436
  rw [wr_r c i arg1 harg1 arg2 harg2 arg3 harg3 arg4 harg4 x0 x1 s0, wr_r_32 c i arg1 harg1 arg2 harg2 arg3 harg3 arg4 harg4 x0 x1 s0, wr_r_33 c i arg1 harg1 arg2 harg2 arg3 harg3 arg4 harg4 x0 x1 s0, wr_r_34 c i arg1 harg1 arg2 harg2 arg3 harg3 arg4 harg4 x0 x1 s0]
  unfold run0.sl.cst_128; rfl

theorem wr_r_41 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_41 c arg1 harg1 arg2 harg2 x0 x1 = b_v465 x0 x1 := by
  unfold run0.sl.r_41 b_v465
  rw [wr_r c i arg1 harg1 arg2 harg2 arg3 harg3 arg4 harg4 x0 x1 s0, readT]

theorem wr_r_42 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_42 c i arg1 harg1 arg2 harg2 arg3 harg3 arg4 harg4 x0 x1 s0 = b_v468 x0 x1 := by
  unfold run0.sl.r_42 b_v468
  rw [wr_r c i arg1 harg1 arg2 harg2 arg3 harg3 arg4 harg4 x0 x1 s0, wr_r_22 c i arg1 harg1 arg2 harg2 arg3 harg3 arg4 harg4 x0 x1 s0, wr_v439 c i arg1 harg1 arg2 harg2 arg3 harg3 arg4 harg4 x0 x1 s0, readT]

theorem wr_r_43 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_43 c i arg1 harg1 arg2 harg2 arg3 harg3 arg4 harg4 x0 x1 s0 = b_v472 x0 x1 := by
  unfold run0.sl.r_43 b_v472
  rw [wr_r c i arg1 harg1 arg2 harg2 arg3 harg3 arg4 harg4 x0 x1 s0, wr_r_22 c i arg1 harg1 arg2 harg2 arg3 harg3 arg4 harg4 x0 x1 s0, wr_r_35 c i arg1 harg1 arg2 harg2 arg3 harg3 arg4 harg4 x0 x1 s0, wr_v439 c i arg1 harg1 arg2 harg2 arg3 harg3 arg4 harg4 x0 x1 s0, readT]

theorem wr_r_44 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_44 c i arg1 harg1 arg2 harg2 arg3 harg3 arg4 harg4 x0 x1 s0 = b_v476 x0 x1 := by
  unfold run0.sl.r_44 b_v476
  rw [wr_r c i arg1 harg1 arg2 harg2 arg3 harg3 arg4 harg4 x0 x1 s0, wr_r_22 c i arg1 harg1 arg2 harg2 arg3 harg3 arg4 harg4 x0 x1 s0, wr_r_36 c i arg1 harg1 arg2 harg2 arg3 harg3 arg4 harg4 x0 x1 s0, wr_v439 c i arg1 harg1 arg2 harg2 arg3 harg3 arg4 harg4 x0 x1 s0, readT]

theorem wr_r_45 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_45 c i arg1 harg1 arg2 harg2 arg3 harg3 arg4 harg4 x0 x1 s0 = b_v480 x0 x1 := by
  unfold run0.sl.r_45 b_v480
  rw [wr_r c i arg1 harg1 arg2 harg2 arg3 harg3 arg4 harg4 x0 x1 s0, wr_r_22 c i arg1 harg1 arg2 harg2 arg3 harg3 arg4 harg4 x0 x1 s0, wr_r_37 c i arg1 harg1 arg2 harg2 arg3 harg3 arg4 harg4 x0 x1 s0, wr_v439 c i arg1 harg1 arg2 harg2 arg3 harg3 arg4 harg4 x0 x1 s0, readT]

theorem wr_r_46 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_46 c i arg1 harg1 arg2 harg2 arg3 harg3 arg4 harg4 x0 x1 s0 = b_v484 x0 x1 := by
  unfold run0.sl.r_46 b_v484
  rw [wr_r c i arg1 harg1 arg2 harg2 arg3 harg3 arg4 harg4 x0 x1 s0, wr_r_22 c i arg1 harg1 arg2 harg2 arg3 harg3 arg4 harg4 x0 x1 s0, wr_r_38 c i arg1 harg1 arg2 harg2 arg3 harg3 arg4 harg4 x0 x1 s0, wr_v439 c i arg1 harg1 arg2 harg2 arg3 harg3 arg4 harg4 x0 x1 s0, readT]

theorem wr_r_47 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_47 c i arg1 harg1 arg2 harg2 arg3 harg3 arg4 harg4 x0 x1 s0 = b_v487 x0 x1 := by
  unfold run0.sl.r_47 b_v487
  rw [wr_r c i arg1 harg1 arg2 harg2 arg3 harg3 arg4 harg4 x0 x1 s0, wr_r_22 c i arg1 harg1 arg2 harg2 arg3 harg3 arg4 harg4 x0 x1 s0, wr_v439 c i arg1 harg1 arg2 harg2 arg3 harg3 arg4 harg4 x0 x1 s0, readT]

theorem wr_r_48 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_48 c i arg1 harg1 arg2 harg2 arg3 harg3 arg4 harg4 x0 x1 s0 = b_v488 x0 x1 := by
  unfold run0.sl.r_48 b_v488
  rw [wr_r_39 c i arg1 harg1 arg2 harg2 arg3 harg3 arg4 harg4 x0 x1 s0, wr_r_47 c i arg1 harg1 arg2 harg2 arg3 harg3 arg4 harg4 x0 x1 s0]

theorem wr_r_49 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_49 c i arg1 harg1 arg2 harg2 arg3 harg3 arg4 harg4 x0 x1 s0 = b_v492 x0 x1 := by
  unfold run0.sl.r_49 b_v492
  rw [wr_r_40 c i arg1 harg1 arg2 harg2 arg3 harg3 arg4 harg4 x0 x1 s0, wr_r_41 c i arg1 harg1 arg2 harg2 arg3 harg3 arg4 harg4 x0 x1 s0, wr_r_42 c i arg1 harg1 arg2 harg2 arg3 harg3 arg4 harg4 x0 x1 s0]

theorem wr_r_50 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_50 c arg1 harg1 arg2 harg2 x0 x1 = b_v521 x0 x1 := by
  unfold run0.sl.r_50 b_v521
  rw [wr_r c i arg1 harg1 arg2 harg2 arg3 harg3 arg4 harg4 x0 x1 s0, readT]

theorem wr_r_51 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_51 c i arg1 harg1 arg2 harg2 arg3 harg3 arg4 harg4 x0 x1 s0 = b_v523 x0 x1 := by
  unfold run0.sl.r_51 b_v523
  rw [wr_r c i arg1 harg1 arg2 harg2 arg3 harg3 arg4 harg4 x0 x1 s0, wr_r_22 c i arg1 harg1 arg2 harg2 arg3 harg3 arg4 harg4 x0 x1 s0, wr_v495 c i arg1 harg1 arg2 harg2 arg3 harg3 arg4 harg4 x0 x1 s0, readT]

theorem wr_r_52 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_52 c i arg1 harg1 arg2 harg2 arg3 harg3 arg4 harg4 x0 x1 s0 = b_v524 x0 x1 := by
  unfold run0.sl.r_52 b_v524
  rw [wr_r c i arg1 harg1 arg2 harg2 arg3 harg3 arg4 harg4 x0 x1 s0, wr_r_22 c i arg1 harg1 arg2 harg2 arg3 harg3 arg4 harg4 x0 x1 s0, wr_v495 c i arg1 harg1 arg2 harg2 arg3 harg3 arg4 harg4 x0 x1 s0, readT]

theorem wr_r_53 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_53 c i arg1 harg1 arg2 harg2 arg3 harg3 arg4 harg4 x0 x1 s0 = b_v528 x0 x1 := by
  unfold run0.sl.r_53 b_v528
  rw [wr_r c i arg1 harg1 arg2 harg2 arg3 harg3 arg4 harg4 x0 x1 s0, wr_r_22 c i arg1 harg1 arg2 harg2 arg3 harg3 arg4 harg4 x0 x1 s0, wr_r_43 c i arg1 harg1 arg2 harg2 arg3 harg3 arg4 harg4 x0 x1 s0, wr_v495 c i arg1 harg1 arg2 harg2 arg3 harg3 arg4 harg4 x0 x1 s0, readT]

theorem wr_r_54 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_54 c i arg1 harg1 arg2 harg2 arg3 harg3 arg4 harg4 x0 x1 s0 = b_v532 x0 x1 := by
  unfold run0.sl.r_54 b_v532
  rw [wr_r c i arg1 harg1 arg2 harg2 arg3 harg3 arg4 harg4 x0 x1 s0, wr_r_22 c i arg1 harg1 arg2 harg2 arg3 harg3 arg4 harg4 x0 x1 s0, wr_r_44 c i arg1 harg1 arg2 harg2 arg3 harg3 arg4 harg4 x0 x1 s0, wr_v495 c i arg1 harg1 arg2 harg2 arg3 harg3 arg4 harg4 x0 x1 s0, readT]

theorem wr_r_55 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_55 c i arg1 harg1 arg2 harg2 arg3 harg3 arg4 harg4 x0 x1 s0 = b_v536 x0 x1 := by
  unfold run0.sl.r_55 b_v536
  rw [wr_r c i arg1 harg1 arg2 harg2 arg3 harg3 arg4 harg4 x0 x1 s0, wr_r_22 c i arg1 harg1 arg2 harg2 arg3 harg3 arg4 harg4 x0 x1 s0, wr_r_45 c i arg1 harg1 arg2 harg2 arg3 harg3 arg4 harg4 x0 x1 s0, wr_v495 c i arg1 harg1 arg2 harg2 arg3 harg3 arg4 harg4 x0 x1 s0, readT]

theorem wr_r_56 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_56 c i arg1 harg1 arg2 harg2 arg3 harg3 arg4 harg4 x0 x1 s0 = b_v537 x0 x1 := by
  unfold run0.sl.r_56 b_v537
  rw [wr_r c i arg1 harg1 arg2 harg2 arg3 harg3 arg4 harg4 x0 x1 s0, wr_r_22 c i arg1 harg1 arg2 harg2 arg3 harg3 arg4 harg4 x0 x1 s0, wr_v495 c i arg1 harg1 arg2 harg2 arg3 harg3 arg4 harg4 x0 x1 s0, readT]

theorem wr_r_57 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_57 c i arg1 harg1 arg2 harg2 arg3 harg3 arg4 harg4 x0 x1 s0 = b_v540 x0 x1 := by
  unfold run0.sl.r_57 b_v540
  rw [wr_r_46 c i arg1 harg1 arg2 harg2 arg3 harg3 arg4 harg4 x0 x1 s0, wr_r_56 c i arg1 harg1 arg2 harg2 arg3 harg3 arg4 harg4 x0 x1 s0]

theorem wr_r_58 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_58 c i arg1 harg1 arg2 harg2 arg3 harg3 arg4 harg4 x0 x1 s0 = b_v544 x0 x1 := by
  unfold run0.sl.r_58 b_v544
  rw [wr_r_48 c i arg1 harg1 arg2 harg2 arg3 harg3 arg4 harg4 x0 x1 s0, wr_r_50 c i arg1 harg1 arg2 harg2 arg3 harg3 arg4 harg4 x0 x1 s0, wr_r_51 c i arg1 harg1 arg2 harg2 arg3 harg3 arg4 harg4 x0 x1 s0]

theorem wr_r_59 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_59 c i arg1 harg1 arg2 harg2 arg3 harg3 arg4 harg4 x0 x1 s0 = b_v548 x0 x1 := by
  unfold run0.sl.r_59 b_v548
  rw [wr_r_49 c i arg1 harg1 arg2 harg2 arg3 harg3 arg4 harg4 x0 x1 s0, wr_r_50 c i arg1 harg1 arg2 harg2 arg3 harg3 arg4 harg4 x0 x1 s0, wr_r_52 c i arg1 harg1 arg2 harg2 arg3 harg3 arg4 harg4 x0 x1 s0]

theorem wr_r_60 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_60 c arg1 harg1 arg2 harg2 x0 x1 = b_v570 x0 x1 := by
  unfold run0.sl.r_60 b_v570
  rw [wr_r c i arg1 harg1 arg2 harg2 arg3 harg3 arg4 harg4 x0 x1 s0, readT]

theorem wr_r_61 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_61 c arg1 harg1 arg2 harg2 x0 x1 = b_v577 x0 x1 := by
  unfold run0.sl.r_61 b_v577
  rw [wr_r c i arg1 harg1 arg2 harg2 arg3 harg3 arg4 harg4 x0 x1 s0, readT]

theorem wr_r_62 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_62 c i arg1 harg1 arg2 harg2 arg3 harg3 arg4 harg4 x0 x1 s0 = b_v578 x0 x1 := by
  unfold run0.sl.r_62 b_v578
  rw [wr_r c i arg1 harg1 arg2 harg2 arg3 harg3 arg4 harg4 x0 x1 s0, wr_r_22 c i arg1 harg1 arg2 harg2 arg3 harg3 arg4 harg4 x0 x1 s0, wr_v551 c i arg1 harg1 arg2 harg2 arg3 harg3 arg4 harg4 x0 x1 s0, readT]

theorem wr_r_63 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_63 c i arg1 harg1 arg2 harg2 arg3 harg3 arg4 harg4 x0 x1 s0 = b_v579 x0 x1 := by
  unfold run0.sl.r_63 b_v579
  rw [wr_r c i arg1 harg1 arg2 harg2 arg3 harg3 arg4 harg4 x0 x1 s0, wr_r_22 c i arg1 harg1 arg2 harg2 arg3 harg3 arg4 harg4 x0 x1 s0, wr_v551 c i arg1 harg1 arg2 harg2 arg3 harg3 arg4 harg4 x0 x1 s0, readT]

theorem wr_r_64 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_64 c i arg1 harg1 arg2 harg2 arg3 harg3 arg4 harg4 x0 x1 s0 = b_v580 x0 x1 := by
  unfold run0.sl.r_64 b_v580
  rw [wr_r c i arg1 harg1 arg2 harg2 arg3 harg3 arg4 harg4 x0 x1 s0, wr_r_22 c i arg1 harg1 arg2 harg2 arg3 harg3 arg4 harg4 x0 x1 s0, wr_v551 c i arg1 harg1 arg2 harg2 arg3 harg3 arg4 harg4 x0 x1 s0, readT]

theorem wr_r_65 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_65 c i arg1 harg1 arg2 harg2 arg3 harg3 arg4 harg4 x0 x1 s0 = b_v584 x0 x1 := by
  unfold run0.sl.r_65 b_v584
  rw [wr_r c i arg1 harg1 arg2 harg2 arg3 harg3 arg4 harg4 x0 x1 s0, wr_r_22 c i arg1 harg1 arg2 harg2 arg3 harg3 arg4 harg4 x0 x1 s0, wr_r_53 c i arg1 harg1 arg2 harg2 arg3 harg3 arg4 harg4 x0 x1 s0, wr_v551 c i arg1 harg1 arg2 harg2 arg3 harg3 arg4 harg4 x0 x1 s0, readT]

theorem wr_r_66 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_66 c i arg1 harg1 arg2 harg2 arg3 harg3 arg4 harg4 x0 x1 s0 = b_v586 x0 x1 := by
  unfold run0.sl.r_66 b_v586
  rw [wr_r c i arg1 harg1 arg2 harg2 arg3 harg3 arg4 harg4 x0 x1 s0, wr_r_22 c i arg1 harg1 arg2 harg2 arg3 harg3 arg4 harg4 x0 x1 s0, wr_v551 c i arg1 harg1 arg2 harg2 arg3 harg3 arg4 harg4 x0 x1 s0, readT]

theorem wr_r_67 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_67 c i arg1 harg1 arg2 harg2 arg3 harg3 arg4 harg4 x0 x1 s0 = b_v588 x0 x1 := by
  unfold run0.sl.r_67 b_v588
  rw [wr_r_54 c i arg1 harg1 arg2 harg2 arg3 harg3 arg4 harg4 x0 x1 s0, wr_r_66 c i arg1 harg1 arg2 harg2 arg3 harg3 arg4 harg4 x0 x1 s0]

theorem wr_r_68 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_68 c i arg1 harg1 arg2 harg2 arg3 harg3 arg4 harg4 x0 x1 s0 = b_v592 x0 x1 := by
  unfold run0.sl.r_68 b_v592
  rw [wr_r_55 c i arg1 harg1 arg2 harg2 arg3 harg3 arg4 harg4 x0 x1 s0, wr_r_61 c i arg1 harg1 arg2 harg2 arg3 harg3 arg4 harg4 x0 x1 s0, wr_r_62 c i arg1 harg1 arg2 harg2 arg3 harg3 arg4 harg4 x0 x1 s0]

theorem wr_r_69 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_69 c i arg1 harg1 arg2 harg2 arg3 harg3 arg4 harg4 x0 x1 s0 = b_v596 x0 x1 := by
  unfold run0.sl.r_69 b_v596
  rw [wr_r_57 c i arg1 harg1 arg2 harg2 arg3 harg3 arg4 harg4 x0 x1 s0, wr_r_60 c i arg1 harg1 arg2 harg2 arg3 harg3 arg4 harg4 x0 x1 s0, wr_r_63 c i arg1 harg1 arg2 harg2 arg3 harg3 arg4 harg4 x0 x1 s0]

theorem wr_r_70 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_70 c i arg1 harg1 arg2 harg2 arg3 harg3 arg4 harg4 x0 x1 s0 = b_v600 x0 x1 := by
  unfold run0.sl.r_70 b_v600
  rw [wr_r_58 c i arg1 harg1 arg2 harg2 arg3 harg3 arg4 harg4 x0 x1 s0, wr_r_61 c i arg1 harg1 arg2 harg2 arg3 harg3 arg4 harg4 x0 x1 s0, wr_r_63 c i arg1 harg1 arg2 harg2 arg3 harg3 arg4 harg4 x0 x1 s0]

theorem wr_r_71 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_71 c i arg1 harg1 arg2 harg2 arg3 harg3 arg4 harg4 x0 x1 s0 = b_v604 x0 x1 := by
  unfold run0.sl.r_71 b_v604
  rw [wr_r_59 c i arg1 harg1 arg2 harg2 arg3 harg3 arg4 harg4 x0 x1 s0, wr_r_61 c i arg1 harg1 arg2 harg2 arg3 harg3 arg4 harg4 x0 x1 s0, wr_r_64 c i arg1 harg1 arg2 harg2 arg3 harg3 arg4 harg4 x0 x1 s0]

theorem wr_r_72 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_72 c arg1 harg1 arg2 harg2 x0 x1 = b_v619 x0 x1 := by
  unfold run0.sl.r_72 b_v619
  rw [wr_r c i arg1 harg1 arg2 harg2 arg3 harg3 arg4 harg4 x0 x1 s0, readT]

theorem wr_r_73 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_73 c arg1 harg1 arg2 harg2 x0 x1 = b_v626 x0 x1 := by
  unfold run0.sl.r_73 b_v626
  rw [wr_r c i arg1 harg1 arg2 harg2 arg3 harg3 arg4 harg4 x0 x1 s0, readT]

theorem wr_r_74 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_74 c arg1 harg1 arg2 harg2 x0 x1 = b_v633 x0 x1 := by
  unfold run0.sl.r_74 b_v633
  rw [wr_r c i arg1 harg1 arg2 harg2 arg3 harg3 arg4 harg4 x0 x1 s0, readT]

theorem wr_r_75 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_75 c i arg1 harg1 arg2 harg2 arg3 harg3 arg4 harg4 x0 x1 s0 = b_v634 x0 x1 := by
  unfold run0.sl.r_75 b_v634
  rw [wr_r c i arg1 harg1 arg2 harg2 arg3 harg3 arg4 harg4 x0 x1 s0, wr_r_22 c i arg1 harg1 arg2 harg2 arg3 harg3 arg4 harg4 x0 x1 s0, wr_v607 c i arg1 harg1 arg2 harg2 arg3 harg3 arg4 harg4 x0 x1 s0, readT]

theorem wr_r_76 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_76 c i arg1 harg1 arg2 harg2 arg3 harg3 arg4 harg4 x0 x1 s0 = b_v635 x0 x1 := by
  unfold run0.sl.r_76 b_v635
  rw [wr_r c i arg1 harg1 arg2 harg2 arg3 harg3 arg4 harg4 x0 x1 s0, wr_r_22 c i arg1 harg1 arg2 harg2 arg3 harg3 arg4 harg4 x0 x1 s0, wr_v607 c i arg1 harg1 arg2 harg2 arg3 harg3 arg4 harg4 x0 x1 s0, readT]

theorem wr_r_77 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_77 c i arg1 harg1 arg2 harg2 arg3 harg3 arg4 harg4 x0 x1 s0 = b_v636 x0 x1 := by
  unfold run0.sl.r_77 b_v636
  rw [wr_r c i arg1 harg1 arg2 harg2 arg3 harg3 arg4 harg4 x0 x1 s0, wr_r_22 c i arg1 harg1 arg2 harg2 arg3 harg3 arg4 harg4 x0 x1 s0, wr_v607 c i arg1 harg1 arg2 harg2 arg3 harg3 arg4 harg4 x0 x1 s0, readT]

theorem wr_r_78 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_78 c i arg1 harg1 arg2 harg2 arg3 harg3 arg4 harg4 x0 x1 s0 = b_v640 x0 x1 := by
  unfold run0.sl.r_78 b_v640
  rw [wr_r_65 c i arg1 harg1 arg2 harg2 arg3 harg3 arg4 harg4 x0 x1 s0, wr_r_72 c i arg1 harg1 arg2 harg2 arg3 harg3 arg4 harg4 x0 x1 s0, wr_r_75 c i arg1 harg1 arg2 harg2 arg3 harg3 arg4 harg4 x0 x1 s0]

theorem wr_r_79 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_79 c i arg1 harg1 arg2 harg2 arg3 harg3 arg4 harg4 x0 x1 s0 = b_v644 x0 x1 := by
  unfold run0.sl.r_79 b_v644
  rw [wr_r_67 c i arg1 harg1 arg2 harg2 arg3 harg3 arg4 harg4 x0 x1 s0, wr_r_73 c i arg1 harg1 arg2 harg2 arg3 harg3 arg4 harg4 x0 x1 s0, wr_r_75 c i arg1 harg1 arg2 harg2 arg3 harg3 arg4 harg4 x0 x1 s0]

theorem wr_r_80 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_80 c i arg1 harg1 arg2 harg2 arg3 harg3 arg4 harg4 x0 x1 s0 = b_v648 x0 x1 := by
  unfold run0.sl.r_80 b_v648
  rw [wr_r_68 c i arg1 harg1 arg2 harg2 arg3 harg3 arg4 harg4 x0 x1 s0, wr_r_74 c i arg1 harg1 arg2 harg2 arg3 harg3 arg4 harg4 x0 x1 s0, wr_r_75 c i arg1 harg1 arg2 harg2 arg3 harg3 arg4 harg4 x0 x1 s0]

theorem wr_r_81 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_81 c i arg1 harg1 arg2 harg2 arg3 harg3 arg4 harg4 x0 x1 s0 = b_v652 x0 x1 := by
  unfold run0.sl.r_81 b_v652
  rw [wr_r_69 c i arg1 harg1 arg2 harg2 arg3 harg3 arg4 harg4 x0 x1 s0, wr_r_73 c i arg1 harg1 arg2 harg2 arg3 harg3 arg4 harg4 x0 x1 s0, wr_r_76 c i arg1 harg1 arg2 harg2 arg3 harg3 arg4 harg4 x0 x1 s0]

theorem wr_r_82 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_82 c i arg1 harg1 arg2 harg2 arg3 harg3 arg4 harg4 x0 x1 s0 = b_v656 x0 x1 := by
  unfold run0.sl.r_82 b_v656
  rw [wr_r_70 c i arg1 harg1 arg2 harg2 arg3 harg3 arg4 harg4 x0 x1 s0, wr_r_74 c i arg1 harg1 arg2 harg2 arg3 harg3 arg4 harg4 x0 x1 s0, wr_r_76 c i arg1 harg1 arg2 harg2 arg3 harg3 arg4 harg4 x0 x1 s0]

theorem wr_r_83 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_83 c i arg1 harg1 arg2 harg2 arg3 harg3 arg4 harg4 x0 x1 s0 = b_v660 x0 x1 := by
  unfold run0.sl.r_83 b_v660
  rw [wr_r_71 c i arg1 harg1 arg2 harg2 arg3 harg3 arg4 harg4 x0 x1 s0, wr_r_74 c i arg1 harg1 arg2 harg2 arg3 harg3 arg4 harg4 x0 x1 s0, wr_r_77 c i arg1 harg1 arg2 harg2 arg3 harg3 arg4 harg4 x0 x1 s0]

theorem wr_r_84 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_84 c i arg1 harg1 arg2 harg2 arg3 harg3 arg4 harg4 x0 x1 s0 = b_v668 x0 x1 := by
  unfold run0.sl.r_84 b_v668
  rw [wr_r_22 c i arg1 harg1 arg2 harg2 arg3 harg3 arg4 harg4 x0 x1 s0, wr_v663 c i arg1 harg1 arg2 harg2 arg3 harg3 arg4 harg4 x0 x1 s0]

theorem wr_r_85 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_85 c arg1 harg1 arg2 harg2 x0 x1 = b_v675 x0 x1 := by
  unfold run0.sl.r_85 b_v675
  rw [wr_r c i arg1 harg1 arg2 harg2 arg3 harg3 arg4 harg4 x0 x1 s0, readT]

theorem wr_r_86 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_86 c arg1 harg1 arg2 harg2 x0 x1 = b_v682 x0 x1 := by
  unfold run0.sl.r_86 b_v682
  rw [wr_r c i arg1 harg1 arg2 harg2 arg3 harg3 arg4 harg4 x0 x1 s0, readT]

theorem wr_r_87 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_87 c arg2 harg2 x1 = b_v683 x0 x1 := by
  unfold run0.sl.r_87 b_v683
  rw [readT]

theorem wr_r_88 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_88 c arg1 harg1 x0 = b_v684 x0 x1 := by
  unfold run0.sl.r_88 b_v684
  rw [wr_r c i arg1 harg1 arg2 harg2 arg3 harg3 arg4 harg4 x0 x1 s0]

theorem wr_r_89 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_89 c i arg1 harg1 arg2 harg2 arg3 harg3 arg4 harg4 x0 x1 s0 = b_v696 x0 x1 := by
  unfold run0.sl.r_89 b_v696
  rw [wr_r_78 c i arg1 harg1 arg2 harg2 arg3 harg3 arg4 harg4 x0 x1 s0, wr_r_84 c i arg1 harg1 arg2 harg2 arg3 harg3 arg4 harg4 x0 x1 s0, wr_r_85 c i arg1 harg1 arg2 harg2 arg3 harg3 arg4 harg4 x0 x1 s0]

theorem wr_r_90 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_90 c i arg1 harg1 arg2 harg2 arg3 harg3 arg4 harg4 x0 x1 s0 = b_v700 x0 x1 := by
  unfold run0.sl.r_90 b_v700
  rw [wr_r_79 c i arg1 harg1 arg2 harg2 arg3 harg3 arg4 harg4 x0 x1 s0, wr_r_84 c i arg1 harg1 arg2 harg2 arg3 harg3 arg4 harg4 x0 x1 s0, wr_r_85 c i arg1 harg1 arg2 harg2 arg3 harg3 arg4 harg4 x0 x1 s0, wr_r_86 c i arg1 harg1 arg2 harg2 arg3 harg3 arg4 harg4 x0 x1 s0]

theorem wr_r_91 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_91 c i arg1 harg1 arg2 harg2 arg3 harg3 arg4 harg4 x0 x1 s0 = b_v704 x0 x1 := by
  unfold run0.sl.r_91 b_v704
  rw [wr_r_80 c i arg1 harg1 arg2 harg2 arg3 harg3 arg4 harg4 x0 x1 s0, wr_r_84 c i arg1 harg1 arg2 harg2 arg3 harg3 arg4 harg4 x0 x1 s0, wr_r_85 c i arg1 harg1 arg2 harg2 arg3 harg3 arg4 harg4 x0 x1 s0, wr_r_87 c i arg1 harg1 arg2 harg2 arg3 harg3 arg4 harg4 x0 x1 s0, wr_r_88 c i arg1 harg1 arg2 harg2 arg3 harg3 arg4 harg4 x0 x1 s0]

theorem wr_r_92 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_92 c i arg1 harg1 arg2 harg2 arg3 harg3 arg4 harg4 x0 x1 s0 = b_v708 x0 x1 := by
  unfold run0.sl.r_92 b_v708
  rw [wr_r_81 c i arg1 harg1 arg2 harg2 arg3 harg3 arg4 harg4 x0 x1 s0, wr_r_84 c i arg1 harg1 arg2 harg2 arg3 harg3 arg4 harg4 x0 x1 s0, wr_r_86 c i arg1 harg1 arg2 harg2 arg3 harg3 arg4 harg4 x0 x1 s0]

theorem wr_r_93 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_93 c i arg1 harg1 arg2 harg2 arg3 harg3 arg4 harg4 x0 x1 s0 = b_v712 x0 x1 := by
  unfold run0.sl.r_93 b_v712
  rw [wr_r_82 c i arg1 harg1 arg2 harg2 arg3 harg3 arg4 harg4 x0 x1 s0, wr_r_84 c i arg1 harg1 arg2 harg2 arg3 harg3 arg4 harg4 x0 x1 s0, wr_r_86 c i arg1 harg1 arg2 harg2 arg3 harg3 arg4 harg4 x0 x1 s0, wr_r_87 c i arg1 harg1 arg2 harg2 arg3 harg3 arg4 harg4 x0 x1 s0, wr_r_88 c i arg1 harg1 arg2 harg2 arg3 harg3 arg4 harg4 x0 x1 s0]

theorem wr_r_94 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_94 c i arg1 harg1 arg2 harg2 arg3 harg3 arg4 harg4 x0 x1 s0 = b_v716 x0 x1 := by
  unfold run0.sl.r_94 b_v716
  rw [wr_r_83 c i arg1 harg1 arg2 harg2 arg3 harg3 arg4 harg4 x0 x1 s0, wr_r_84 c i arg1 harg1 arg2 harg2 arg3 harg3 arg4 harg4 x0 x1 s0, wr_r_87 c i arg1 harg1 arg2 harg2 arg3 harg3 arg4 harg4 x0 x1 s0, wr_r_88 c i arg1 harg1 arg2 harg2 arg3 harg3 arg4 harg4 x0 x1 s0]

theorem wr_r_95 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_95 c arg2 harg2 x1 = b_v718 x0 x1 := by
  unfold run0.sl.r_95 b_v718
  rw [readT]

theorem wr_r_96 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_96 c i arg1 harg1 arg2 harg2 arg3 harg3 arg4 harg4 x0 x1 s0 = b_v724 x0 x1 := by
  unfold run0.sl.r_96 b_v724
  rw [wr_r_22 c i arg1 harg1 arg2 harg2 arg3 harg3 arg4 harg4 x0 x1 s0, wr_v719 c i arg1 harg1 arg2 harg2 arg3 harg3 arg4 harg4 x0 x1 s0]

theorem wr_r_97 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_97 c arg1 harg1 arg2 harg2 x0 x1 = b_v731 x0 x1 := by
  unfold run0.sl.r_97 b_v731
  rw [wr_r c i arg1 harg1 arg2 harg2 arg3 harg3 arg4 harg4 x0 x1 s0, readT]

theorem wr_r_98 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_98 c arg2 harg2 x1 = b_v732 x0 x1 := by
  unfold run0.sl.r_98 b_v732
  rw [readT]

theorem wr_r_99 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_99 c i arg1 harg1 arg2 harg2 arg3 harg3 arg4 harg4 x0 x1 s0 = b_v752 x0 x1 := by
  unfold run0.sl.r_99 b_v752
  rw [wr_r_89 c i arg1 harg1 arg2 harg2 arg3 harg3 arg4 harg4 x0 x1 s0, wr_r_96 c i arg1 harg1 arg2 harg2 arg3 harg3 arg4 harg4 x0 x1 s0, wr_r_97 c i arg1 harg1 arg2 harg2 arg3 harg3 arg4 harg4 x0 x1 s0]

theorem wr_r_100 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_100 c i arg1 harg1 arg2 harg2 arg3 harg3 arg4 harg4 x0 x1 s0 = b_v756 x0 x1 := by
  unfold run0.sl.r_100 b_v756
  rw [wr_r c i arg1 harg1 arg2 harg2 arg3 harg3 arg4 harg4 x0 x1 s0, wr_r_90 c i arg1 harg1 arg2 harg2 arg3 harg3 arg4 harg4 x0 x1 s0, wr_r_96 c i arg1 harg1 arg2 harg2 arg3 harg3 arg4 harg4 x0 x1 s0, wr_r_97 c i arg1 harg1 arg2 harg2 arg3 harg3 arg4 harg4 x0 x1 s0, wr_r_98 c i arg1 harg1 arg2 harg2 arg3 harg3 arg4 harg4 x0 x1 s0]

theorem wr_r_101 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_101 c i arg1 harg1 arg2 harg2 arg3 harg3 arg4 harg4 x0 x1 s0 = b_v760 x0 x1 := by
  unfold run0.sl.r_101 b_v760
  rw [wr_r c i arg1 harg1 arg2 harg2 arg3 harg3 arg4 harg4 x0 x1 s0, wr_r_91 c i arg1 harg1 arg2 harg2 arg3 harg3 arg4 harg4 x0 x1 s0, wr_r_95 c i arg1 harg1 arg2 harg2 arg3 harg3 arg4 harg4 x0 x1 s0, wr_r_96 c i arg1 harg1 arg2 harg2 arg3 harg3 arg4 harg4 x0 x1 s0, wr_r_97 c i arg1 harg1 arg2 harg2 arg3 harg3 arg4 harg4 x0 x1 s0]

theorem wr_r_102 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_102 c i arg1 harg1 arg2 harg2 arg3 harg3 arg4 harg4 x0 x1 s0 = b_v764 x0 x1 := by
  unfold run0.sl.r_102 b_v764
  rw [wr_r c i arg1 harg1 arg2 harg2 arg3 harg3 arg4 harg4 x0 x1 s0, wr_r_92 c i arg1 harg1 arg2 harg2 arg3 harg3 arg4 harg4 x0 x1 s0, wr_r_96 c i arg1 harg1 arg2 harg2 arg3 harg3 arg4 harg4 x0 x1 s0, wr_r_98 c i arg1 harg1 arg2 harg2 arg3 harg3 arg4 harg4 x0 x1 s0]

theorem wr_r_103 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_103 c i arg1 harg1 arg2 harg2 arg3 harg3 arg4 harg4 x0 x1 s0 = b_v768 x0 x1 := by
  unfold run0.sl.r_103 b_v768
  rw [wr_r c i arg1 harg1 arg2 harg2 arg3 harg3 arg4 harg4 x0 x1 s0, wr_r_93 c i arg1 harg1 arg2 harg2 arg3 harg3 arg4 harg4 x0 x1 s0, wr_r_95 c i arg1 harg1 arg2 harg2 arg3 harg3 arg4 harg4 x0 x1 s0, wr_r_96 c i arg1 harg1 arg2 harg2 arg3 harg3 arg4 harg4 x0 x1 s0, wr_r_98 c i arg1 harg1 arg2 harg2 arg3 harg3 arg4 harg4 x0 x1 s0]

theorem wr_r_104 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_104 c i arg1 harg1 arg2 harg2 arg3 harg3 arg4 harg4 x0 x1 s0 = b_v772 x0 x1 := by
  unfold run0.sl.r_104 b_v772
  rw [wr_r c i arg1 harg1 arg2 harg2 arg3 harg3 arg4 harg4 x0 x1 s0, wr_r_94 c i arg1 harg1 arg2 harg2 arg3 harg3 arg4 harg4 x0 x1 s0, wr_r_95 c i arg1 harg1 arg2 harg2 arg3 harg3 arg4 harg4 x0 x1 s0, wr_r_96 c i arg1 harg1 arg2 harg2 arg3 harg3 arg4 harg4 x0 x1 s0]

theorem wr_r_105 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_105 c arg2 harg2 x1 = b_v774 x0 x1 := by
  unfold run0.sl.r_105 b_v774
  rw [readT]

theorem wr_r_106 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_106 c i arg1 harg1 arg2 harg2 arg3 harg3 arg4 harg4 x0 x1 s0 = b_v780 x0 x1 := by
  unfold run0.sl.r_106 b_v780
  rw [wr_r_22 c i arg1 harg1 arg2 harg2 arg3 harg3 arg4 harg4 x0 x1 s0, wr_v775 c i arg1 harg1 arg2 harg2 arg3 harg3 arg4 harg4 x0 x1 s0]

theorem wr_r_107 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_107 c i arg1 harg1 arg2 harg2 arg3 harg3 arg4 harg4 x0 x1 s0 = b_v808 x0 x1 := by
  unfold run0.sl.r_107 b_v808
  rw [wr_r c i arg1 harg1 arg2 harg2 arg3 harg3 arg4 harg4 x0 x1 s0, wr_r_99 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_108 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_108 c i arg1 harg1 arg2 harg2 arg3 harg3 arg4 harg4 x0 x1 s0 = b_v812 x0 x1 := by
  unfold run0.sl.r_108 b_v812
  rw [wr_r c i arg1 harg1 arg2 harg2 arg3 harg3 arg4 harg4 x0 x1 s0, wr_r_100 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_109 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_109 c i arg1 harg1 arg2 harg2 arg3 harg3 arg4 harg4 x0 x1 s0 = b_v816 x0 x1 := by
  unfold run0.sl.r_109 b_v816
  rw [wr_r c i arg1 harg1 arg2 harg2 arg3 harg3 arg4 harg4 x0 x1 s0, wr_r_101 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_110 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_110 c i arg1 harg1 arg2 harg2 arg3 harg3 arg4 harg4 x0 x1 s0 = b_v820 x0 x1 := by
  unfold run0.sl.r_110 b_v820
  rw [wr_r c i arg1 harg1 arg2 harg2 arg3 harg3 arg4 harg4 x0 x1 s0, wr_r_102 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_111 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_111 c i arg1 harg1 arg2 harg2 arg3 harg3 arg4 harg4 x0 x1 s0 = b_v824 x0 x1 := by
  unfold run0.sl.r_111 b_v824
  rw [wr_r c i arg1 harg1 arg2 harg2 arg3 harg3 arg4 harg4 x0 x1 s0, wr_r_103 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_112 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_112 c i arg1 harg1 arg2 harg2 arg3 harg3 arg4 harg4 x0 x1 s0 = b_v828 x0 x1 := by
  unfold run0.sl.r_112 b_v828
  rw [wr_r c i arg1 harg1 arg2 harg2 arg3 harg3 arg4 harg4 x0 x1 s0, wr_r_104 c i arg1 harg1 arg2 harg2 arg3 harg3 arg4 harg4 x0 x1 s0, wr_r_105 c i arg1 harg1 arg2 harg2 arg3 harg3 arg4 harg4 x0 x1 s0, wr_r_106 c i arg1 harg1 arg2 harg2 arg3 harg3 arg4 harg4 x0 x1 s0]

theorem wr_r_113 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_113 c arg2 harg2 x1 = b_v830 x0 x1 := by
  unfold run0.sl.r_113 b_v830
  rw [readT]

theorem wr_r_114 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_114 c i arg1 harg1 arg2 harg2 arg3 harg3 arg4 harg4 x0 x1 s0 = b_v864 x0 x1 := by
  unfold run0.sl.r_114 b_v864
  rw [wr_r c i arg1 harg1 arg2 harg2 arg3 harg3 arg4 harg4 x0 x1 s0, wr_r_22 c i arg1 harg1 arg2 harg2 arg3 harg3 arg4 harg4 x0 x1 s0, wr_r_107 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

theorem wr_r_115 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_115 c i arg1 harg1 arg2 harg2 arg3 harg3 arg4 harg4 x0 x1 s0 = b_v868 x0 x1 := by
  unfold run0.sl.r_115 b_v868
  rw [wr_r c i arg1 harg1 arg2 harg2 arg3 harg3 arg4 harg4 x0 x1 s0, wr_r_22 c i arg1 harg1 arg2 harg2 arg3 harg3 arg4 harg4 x0 x1 s0, wr_r_108 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

theorem wr_r_116 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_116 c i arg1 harg1 arg2 harg2 arg3 harg3 arg4 harg4 x0 x1 s0 = b_v872 x0 x1 := by
  unfold run0.sl.r_116 b_v872
  rw [wr_r c i arg1 harg1 arg2 harg2 arg3 harg3 arg4 harg4 x0 x1 s0, wr_r_22 c i arg1 harg1 arg2 harg2 arg3 harg3 arg4 harg4 x0 x1 s0, wr_r_109 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

theorem wr_r_117 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_117 c i arg1 harg1 arg2 harg2 arg3 harg3 arg4 harg4 x0 x1 s0 = b_v876 x0 x1 := by
  unfold run0.sl.r_117 b_v876
  rw [wr_r c i arg1 harg1 arg2 harg2 arg3 harg3 arg4 harg4 x0 x1 s0, wr_r_22 c i arg1 harg1 arg2 harg2 arg3 harg3 arg4 harg4 x0 x1 s0, wr_r_110 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

theorem wr_r_118 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_118 c i arg1 harg1 arg2 harg2 arg3 harg3 arg4 harg4 x0 x1 s0 = b_v880 x0 x1 := by
  unfold run0.sl.r_118 b_v880
  rw [wr_r c i arg1 harg1 arg2 harg2 arg3 harg3 arg4 harg4 x0 x1 s0, wr_r_22 c i arg1 harg1 arg2 harg2 arg3 harg3 arg4 harg4 x0 x1 s0, wr_r_111 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

theorem wr_r_119 (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) : run0.sl.r_119 c i arg1 harg1 arg2 harg2 arg3 harg3 arg4 harg4 x0 x1 s0 = b_v882 x0 x1 := by
  unfold run0.sl.r_119 b_v882
  rw [wr_r c i arg1 harg1 arg2 harg2 arg3 harg3 arg4 harg4 x0 x1 s0, wr_r_22 c i arg1 harg1 arg2 harg2 arg3 harg3 arg4 harg4 x0 x1 s0, wr_r_113 c i arg1 harg1 arg2 harg2 arg3 harg3 arg4 harg4 x0 x1 s0, wr_v831 c i arg1 harg1 arg2 harg2 arg3 harg3 arg4 harg4 x0 x1 s0]

/-- What the run leaves in the output's buffer is `covBlock`. -/
theorem run0_val (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole) (x0 : Vec F S256x3 .f32) (x1 : Vec F S3x10240 .f32) (s0 : Vec F S256x10240 .f32) :
    View.canon (run0 c i arg1 harg1 arg2 harg2 arg3 harg3 arg4 harg4 x0 x1 s0).1 = covBlock x0 x1 := by
  unfold run0
  dsimp only
  rw [View.canon_unit_zero (by funext a; fin_cases a <;> rfl)]
  unfold covBlock
  rw [wr_r_21 c i arg1 harg1 arg2 harg2 arg3 harg3 arg4 harg4 x0 x1 s0, wr_r_112 c i arg1 harg1 arg2 harg2 arg3 harg3 arg4 harg4 x0 x1 s0, wr_r_114 c i arg1 harg1 arg2 harg2 arg3 harg3 arg4 harg4 x0 x1 s0, wr_r_115 c i arg1 harg1 arg2 harg2 arg3 harg3 arg4 harg4 x0 x1 s0, wr_r_116 c i arg1 harg1 arg2 harg2 arg3 harg3 arg4 harg4 x0 x1 s0, wr_r_117 c i arg1 harg1 arg2 harg2 arg3 harg3 arg4 harg4 x0 x1 s0, wr_r_118 c i arg1 harg1 arg2 harg2 arg3 harg3 arg4 harg4 x0 x1 s0, wr_r_119 c i arg1 harg1 arg2 harg2 arg3 harg3 arg4 harg4 x0 x1 s0]

end Cert.Proof.KernelIdeal

end
-- ==== Proof.Regs.lean ====
/-
  The region over the thread state: the proof data (what every window's buffer holds after each grid point), the body
  obligation, and the run of the whole program: every weakly fair execution ends with the pipeline's arrays as the proof
  data computes them and every counter at zero (`run_all`), hence the frame.
-/
module

public import proofs.«01_k».proof.Proof.R0v
public import proofs.«01_k».proof.Proof.Gen.KernelIdeal.Frame.Runs
public import Idealize.ShloMosaic.Lib.Pipeline.FrameBody
public import Idealize.ShloMosaic.Lib.Pipeline.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem run0_cov (c : Dev nD) (i : grid0.Coords) (arg1 : Memref sig .tc .vmem S256x3 .f32) (harg1 : arg1.IsWhole) (arg2 : Memref sig .tc .vmem S3x10240 .f32) (harg2 : arg2.IsWhole) (arg3 : Memref sig .tc .vmem S256x16 .f32) (harg3 : arg3.IsWhole) (arg4 : Memref sig .tc .vmem S256x10240 .f32) (harg4 : arg4.IsWhole)
    (x0 : Vec F S256x3 .f32) (x1 : Vec F S3x10240 .f32) (s0 : Vec F S256x10240 .f32) (y : S256x16.Idx) :
    ∃ p ∈ (run0 c i arg1 harg1 arg2 harg2 arg3 harg3 arg4 harg4 x0 x1 s0).1, y ∈ p.1.set := by
  unfold run0
  exact ⟨_, List.mem_singleton.mpr rfl, View.mem_set_unit_zero (by funext a; fin_cases a <;> rfl) inb_S256x16_S256x16_0_0 y⟩

variable (m : (ℓ : Loc nD τ sig) → Buf (Elt F) ℓ) (ρ : Dev nD → PrngReg)

/-- The proof data: every point leaves `covBlock` of its input blocks. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => covBlock (iblk m c 0 t) (iblk m c 1 t)
  Φ _ := Pipeline.ΦA spec0 c
  q _ := fullShare
  owed _ := 0

theorem dat_A (c : Dev nD) (w : Fin cfg0.W) : (dat m 0 c).A w = V m c (Pipeline.arrRef spec0 w) := by
  dsimp only [dat]

theorem dat_after0 (c : Dev nD) (t : Fin cfg0.N) : (dat m 0 c).after 0 t = iblk m c 0 t := by dsimp only [dat]
theorem dat_after1 (c : Dev nD) (t : Fin cfg0.N) : (dat m 0 c).after 1 t = iblk m c 1 t := by dsimp only [dat]
theorem dat_after2 (c : Dev nD) (t : Fin cfg0.N) : (dat m 0 c).after 2 t = covBlock (iblk m c 0 t) (iblk m c 1 t) := by dsimp only [dat]

theorem dat_before0 (c : Dev nD) (t : Fin cfg0.N) (d) : (dat m 0 c).before 0 t d = iblk m c 0 t :=
  before0_0_of m (dat m 0 c) (dat_A m c 0) (dat_after0 m c) t d
theorem dat_before1 (c : Dev nD) (t : Fin cfg0.N) (d) : (dat m 0 c).before 1 t d = iblk m c 1 t :=
  before0_1_of m (dat m 0 c) (dat_A m c 1) (dat_after1 m c) t d

theorem body_ob (c : Dev nD) : BodyObligation (dat (F := F) m 0 c) (defs₀ (F := F)) Variants.none () Set.univ := fun t => by
  rw [bigSep_W0, bigSep_W0]
  rw [show (dat m 0 c).Φ t.castSucc = Pipeline.ΦA spec0 c from rfl, show (dat m 0 c).Φ t.succ = Pipeline.ΦA spec0 c from rfl,
    show (dat m 0 c).owesAt () t.succ = (dat m 0 c).owesAt () t.castSucc from rfl]
  rw [show defs₀ (F := F) .tc cfg0.body (cfg0.bodyArgs t (cfg0.slots t)) = bodyAt0 t by unfold defs₀; rw [Defs.onTc_tc]]
  rw [PhiA0_eq]
  iintro ⟨⟨⟨%fs, Hs⟩, HΦ⟩, Howes, ⟨%d0, H0⟩, ⟨%d1, H1⟩, H2⟩
  rw [dat_before0, dat_before1]
  unfold bodyAt0
  iapply ((run0 c (grid0.coords t) _ _ _ _ _ _ (Memref.whole cc0_scratch0) (Memref.isWhole_whole _) (iblk m c 0 t) (iblk m c 1 t) fs).2 Set.univ _)
  isplitl [H0]; · iexact H0
  isplitl [H1]; · iexact H1
  isplitl [H2]; · icases H2 with ⟨%d2, H2⟩; iexists _; iexact H2
  isplitl [Hs]; · iexact Hs
  iintro ⟨H0, H1, ⟨%f, H2⟩, ⟨%fs', Hs⟩⟩
  isplitl [Hs HΦ]
  · isplitl [Hs]; · iexists fs'; iexact Hs
    iexact HΦ
  isplitl [Howes]; · iexact Howes
  isplitl [H0]; · iexact H0
  isplitl [H1]; · iexact H1
  unfold owns
  iexists _; isplitr; swap; (· iexact H2); ipureintro
  exact (View.read_writes_eq_canon _ _ _ (run0_cov c _ _ _ _ _ _ _ _ _ _ _ _)).trans (run0_val c _ _ _ _ _ _ _ _ _ _ _ _)

set_option backward.isDefEq.respectTransparency.types false in
set_option maxHeartbeats 800000 in
/-- The launch. -/
theorem run_all : θ_run defs (onTc (τ := τ) (main (F := F))) (s₀ m ρ) (fun r => (Pipeline.FramePost cfgs (dat m) 0 (Pipeline.afterTail₀ cfgs (dat m) 0 (V0 m) [hostOps1])) r ∧ r.2.sem = fun _ => 0) :=
  Pipeline.θ_run_frame_around (Q' := _) cfgs (dat m) (0 : Fin 1) launch0 defs₀ Variants.none m ρ main
    (hbody := fun c => (body_ob m c).loose) (hshare := fun c => (dat m 0 c).share_full fun _ => rfl)
    (howed := fun _ _ => rfl) (V₀ := V0 m) (opss := [hostOps1]) (hsub := sfx_sub) (hfresh := sfx_fresh) (hkeep := sfx_keeps)
    (hmain := hmain m Variants.none) (hA := dat_A m) (hΦ := fun _ _ => rfl)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide))).trans
    (W_main_arg0 m (dat m) c), h.2⟩) (run_all m ρ)

end Cert.Proof.KernelIdeal

end
-- ==== Proof.Bridge.lean ====
/-
  From the run of the kernel to its result array: the array after the pipeline, read at a row, is the block of that
  row's grid point, and the host operations around the call pad the points and slice the result.
-/
module

public import proofs.«01_k».proof.Proof.Regs
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The points with the padding appended, over the kernel's argument. -/
def padded (A : FVec Ideal S10000x3 .f32) : FVec Ideal S10240x3 .f32 :=
  concatenate S10240x3 0 [⟨S10000x3, A⟩, ⟨S240x3, broadcastInDim S240x3 ![] bcast_S_S240x3 (constant (F := Ideal) S_ .f32 0x42C80000#32)⟩] concatenates_S10000x3_S240x3_S10240x3_d0

theorem V1_eq (c : Dev nD) : V m c main_v1 = padded (m ((c.tc : Thread nD τ).loc main_arg0)) := by
  show StableHlo.after hostOps0 (fun b => m (c, b)) (Proc.devRef .tc main_v1) = _
  unfold padded
  after_results
  try rfl

theorem V2_eq (c : Dev nD) : V m c main_v2 = transpose S3x10240 [1, 0] (padded (m ((c.tc : Thread nD τ).loc main_arg0))) transposes_S10240x3_S3x10240_1_0 := by
  show StableHlo.after hostOps0 (fun b => m (c, b)) (Proc.devRef .tc main_v2) = _
  unfold padded
  after_results
  try rfl

theorem padded_at (A : FVec Ideal S10000x3 .f32) (j : Fin 10240) (a : Fin 3) : padded A (ix2 j a)
    = if h : j.val < 10000 then A (ix2 ⟨j.val, h⟩ a) else Ideal.ofBits .f32 0x42C80000#32 := by
  pointwise [padded]

theorem V1_at (c : Dev nD) (j : Fin 10240) (a : Fin 3) : V m c main_v1 (ix2 j a) = padded (m ((c.tc : Thread nD τ).loc main_arg0)) (ix2 j a) := by
  rw [V1_eq]

theorem V2_at (c : Dev nD) (j : Fin 10240) (a : Fin 3) : V m c main_v2 (ix2 a j) = padded (m ((c.tc : Thread nD τ).loc main_arg0)) (ix2 j a) := by
  rw [V2_eq]
  generalize padded _ = P
  pointwise

/-- The input blocks of a point. -/
theorem iblk0_at (c : Dev nD) (t : Fin cfg0.N) (r : Fin 256) (a : Fin 3) (h : 256 * t.val + r.val < 10240) :
    (show FVec Ideal S256x3 .f32 from iblk m c 0 t) (ix2 r a) = V m c main_v1 (ix2 ⟨256 * t.val + r.val, h⟩ a) := by
  blk_ext [iblk, idx t]

theorem iblk1_at (c : Dev nD) (t : Fin cfg0.N) (a : Fin 3) (j : Fin 10240) :
    (show FVec Ideal S3x10240 .f32 from iblk m c 1 t) (ix2 a j) = V m c main_v2 (ix2 a j) := by
  blk_ext [iblk, idx t]

theorem N_eq : cfg0.N = 40 := by decide +kernel

/-- The block a row lies in. -/
def blkOf (R : Fin 10240) : Fin cfg0.N := ⟨R.val / 256, by rw [N_eq]; omega⟩

/-- The result array of the call, row by row. -/
def arrG (c : Dev nD) : FVec Ideal S10240x16 .f32 := fun i =>
  covBlock (F := Ideal) (iblk m c 0 (blkOf (i 0))) (iblk m c 1 (blkOf (i 0))) (ix2 ⟨(i 0).val % 256, Nat.mod_lt _ (by norm_num)⟩ (i 1))

theorem arrG_at (c : Dev nD) (t : Fin cfg0.N) (r : Fin 256) (q : Fin 16) (i : S10240x16.Idx)
    (h0 : (i 0).val = t.val * 256 + r.val) (h1 : (i 1).val = q.val) :
    arrG m c i = covBlock (F := Ideal) (iblk m c 0 t) (iblk m c 1 t) (ix2 r q) := by
  unfold arrG
  have hb : blkOf (i 0) = t := Fin.ext (by show (i 0).val / 256 = t.val; have := r.isLt; omega)
  have hr : (⟨(i 0).val % 256, Nat.mod_lt _ (by norm_num)⟩ : Fin 256) = r := Fin.ext (by show (i 0).val % 256 = r.val; have := r.isLt; omega)
  have hq : i 1 = q := Fin.ext h1
  rw [hb, hr, hq]

theorem final (c : Dev nD) : (dat m 0 c).arrAt 2 (cfgs 0).N = arrG m c := by
  refine (dat m 0 c).arrAt_eq_of_covers 2 _ (by decide +kernel) fun t _ y => ?_
  blk_simp
  rw [dat_after2]
  idx_vars y
  have hy : y0.val < 256 := y0.isLt
  have ht : t.val < 40 := lt_of_lt_of_eq t.isLt N_eq
  exact (arrG_at m c t y0 y1 _ (by blk_simp [idx t]) (by blk_simp [idx t])).symm

theorem arr_inj : Function.Injective (Pipeline.arrRef spec0) := by
  intro a b
  exact (by decide : ∀ a b : Fin 3, Pipeline.arrRef spec0 a = Pipeline.arrRef spec0 b → a = b) a b

/-- The program's result after the run. -/
theorem out_at (c : Dev nD) (i : Fin 10000) (q : Fin 10) :
    Pipeline.afterTail₀ cfgs (dat m) 0 (V0 m) [hostOps1] c main_v4 (ix2 i q) = arrG m c (ix2 ⟨i.val, by omega⟩ ⟨q.val, by omega⟩) := by
  have h : Pipeline.afterTail₀ cfgs (dat m) 0 (V0 m) [hostOps1] c main_v4
      = extractStridedSlice S10000x10 ![0, 0] (arrG m c) slices_S10240x16_S10000x10_0_0 := by
    unfold Pipeline.afterTail₀
    show StableHlo.after hostOps1 _ (Proc.devRef .tc main_v4) = _
    after_results
    exact congrArg (fun X => extractStridedSlice S10000x10 ![0, 0] X slices_S10240x16_S10000x10_0_0)
      ((Pipeline.withArrays_arr spec0 arr_inj c (V0 m c) (fun w => (dat m 0 c).arrAt w (cfgs 0).N) 2).trans (final m c))
  rw [h]
  pointwise

end Cert.Proof.KernelIdeal

end
-- ==== Proof.Value.lean ====
/-
  The result of the kernel is the reference's, from positions in the unit cube with the 64th neighbour apart.
-/
module

public import proofs.«01_k».proof.Proof.Row
public import proofs.«01_k».proof.Proof.Bridge

@[expose] public section

set_option maxRecDepth 16384

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ)

/-- The kernel's argument. -/
abbrev argA (c : Dev nD) : FVec Ideal S10000x3 .f32 := m ((c.tc : Thread nD τ).loc main_arg0)

theorem ofBits_100 : Ideal.ofBits .f32 0x42C80000#32 = ((100 : ℝ) : EReal) := by
  simp [Ideal.ofBits, Ideal.ieee]
  rw [← EReal.coe_mul]
  refine congrArg (fun x : ℝ => (x : EReal)) ?_
  norm_num

theorem padded_real (A : FVec Ideal S10000x3 .f32) (q : Fin 10000 → Fin 3 → ℝ) (hA : ∀ i a, A (ix2 i a) = (q i a : EReal)) (j : Fin 10240) (a : Fin 3) :
    padded A (ix2 j a) = (padR q j a : EReal) := by
  rw [padded_at]
  unfold padR
  split_ifs with h
  · exact hA _ _
  · exact ofBits_100

theorem row_blk (i : Fin 10000) : (256 * (blkOf ⟨i.val, by omega⟩).val + (⟨i.val % 256, Nat.mod_lt _ (by norm_num)⟩ : Fin 256).val) = i.val := by
  show 256 * (i.val / 256) + i.val % 256 = i.val
  omega

theorem tile_real (c : Dev nD) (q : Fin 10000 → Fin 3 → ℝ) (hA : ∀ i a, argA m c (ix2 i a) = (q i a : EReal)) (i : Fin 10000) (a : Fin 3) :
    (show FVec Ideal S256x3 .f32 from iblk m c 0 (blkOf ⟨i.val, by omega⟩)) (ix2 ⟨i.val % 256, Nat.mod_lt _ (by norm_num)⟩ a) = (q i a : EReal) := by
  have hlt : 256 * (blkOf ⟨i.val, by omega⟩).val + (⟨i.val % 256, Nat.mod_lt _ (by norm_num)⟩ : Fin 256).val < 10240 := by
    rw [row_blk]; omega
  have e : (⟨_, hlt⟩ : Fin 10240) = Fin.castLE (by norm_num) i := Fin.ext (row_blk i)
  refine (iblk0_at m c _ _ a hlt).trans ((V1_at m c _ a).trans ((padded_real _ q hA _ a).trans ?_))
  refine congrArg (fun x : ℝ => (x : EReal)) ?_
  exact (congrArg (fun j => padR q j a) e).trans (congrFun (padR_cast q i) a)

theorem all_real (c : Dev nD) (q : Fin 10000 → Fin 3 → ℝ) (hA : ∀ i a, argA m c (ix2 i a) = (q i a : EReal)) (t : Fin cfg0.N) (a : Fin 3) (j : Fin 10240) :
    (show FVec Ideal S3x10240 .f32 from iblk m c 1 t) (ix2 a j) = (padR q j a : EReal) := by
  rw [iblk1_at, V2_at, padded_real _ q hA]

theorem out_eq (c : Dev nD) (h1 : (Cert.Pre_separated.fn (F := Ideal) (argA m c)).1 = fun _ => 1#1)
    (h2 : (Cert.Pre_separated.fn (F := Ideal) (argA m c)).2 = fun _ => 1#1) :
    Pipeline.afterTail₀ cfgs (dat m) 0 (V0 m) [hostOps1] c main_v4 = Cert.Proof.ReferenceIdeal.refOut (F := Ideal) (argA m c) := by
  have hb := Cert.Proof.ReferenceIdeal.pre_box (argA m c) h1
  obtain ⟨q, hq⟩ : ∃ q : Fin 10000 → Fin 3 → ℝ, ∀ i a, argA m c (ix2 i a) = (q i a : EReal) :=
    ⟨fun i a => (argA m c (ix2 i a)).toReal, fun i a => (EReal.coe_toReal
      (ne_of_lt (lt_of_le_of_lt (hb i a).2 (by exact_mod_cast EReal.coe_lt_top 1))) (ne_of_gt (lt_of_lt_of_le (by exact_mod_cast EReal.bot_lt_coe 0) (hb i a).1))).symm⟩
  have hu : ∀ i a, q i a ≤ 1 := fun i a => by
    have := (hb i a).2
    rw [hq] at this
    exact_mod_cast this
  funext i
  idx_vars i
  refine (out_at m c i0 i1).trans ?_
  have hcov : ∀ a b : Fin 3, arrG m c (ix2 ⟨i0.val, by omega⟩ ⟨3 * a + b, by omega⟩)
      = Cert.Proof.ReferenceIdeal.refOut (F := Ideal) (argA m c) (ix2 i0 ⟨3 * a + b, by omega⟩) := fun a b =>
    (block_cov _ _ _ (q i0) (padR q) (tile_real m c q hq i0) (all_real m c q hq _) a b).trans
      ((congrArg (fun x : ℝ => (x : EReal)) (pad_cov q (q i0) (hu i0) a b)).trans (Cert.Proof.ReferenceIdeal.cov_real (argA m c) q hq h2 i0 a b).symm)
  have hcnt : arrG m c (ix2 ⟨i0.val, by omega⟩ ⟨9, by omega⟩) = Cert.Proof.ReferenceIdeal.refOut (F := Ideal) (argA m c) (ix2 i0 9) :=
    (block_cnt _ _ _ (q i0) (padR q) (tile_real m c q hq i0) (all_real m c q hq _)).trans
      ((congrArg (fun x : ℕ => ((x : ℝ) : EReal)) (pad_cnt q (q i0) (hu i0) rho le_rfl)).trans (Cert.Proof.ReferenceIdeal.cnt_real (argA m c) q hq i0).symm)
  by_cases h9 : i1.val < 9
  · have e : i1 = ⟨3 * (⟨i1.val / 3, by omega⟩ : Fin 3).val + (⟨i1.val % 3, by omega⟩ : Fin 3).val, by show 3 * (i1.val / 3) + i1.val % 3 < 10; omega⟩ :=
      Fin.ext (by show i1.val = 3 * (i1.val / 3) + i1.val % 3; omega)
    rw [e]
    exact hcov ⟨i1.val / 3, by omega⟩ ⟨i1.val % 3, by omega⟩
  · have e : i1 = 9 := Fin.ext (by show i1.val = 9; have := i1.isLt; omega)
    rw [e]
    exact hcnt

end Cert.Proof.KernelIdeal

end
-- ==== Proof.Pure2.lean ====
/-
  The frames kernel's loop as a function: one trip of the loop takes the six entries of a symmetric matrix and the nine
  entries of the vectors gathered so far, and turns both by three plane rotations, at the lanes still active.
-/
module

public import proofs.«01_k».proof.Proof.Gen.Kernel2Ideal.Frame
public import proofs.«01_k».proof.Proof.Gen.Kernel2Ideal.Loops
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL.Sem

variable {F : FTy → Type} [FloatOps F]

/-- A plane of lanes. -/
abbrev Ln (F : FTy → Type) : Type := FVec F S80x128 .f32

/-- The loop's state: a symmetric matrix's upper triangle, and a matrix of vectors. -/
structure St (α : Type) where
  a00 : α
  a01 : α
  a02 : α
  a11 : α
  a12 : α
  a22 : α
  v00 : α
  v01 : α
  v02 : α
  v10 : α
  v11 : α
  v12 : α
  v20 : α
  v21 : α
  v22 : α

abbrev T15 (F : FTy → Type) : Type := FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32 × FVec F S80x128 .f32

def unpack : T15 F → St (Ln F) := fun (a00, a01, a02, a11, a12, a22, v00, v01, v02, v10, v11, v12, v20, v21, v22) =>
  ⟨a00, a01, a02, a11, a12, a22, v00, v01, v02, v10, v11, v12, v20, v21, v22⟩

def pack (s : St (Ln F)) : T15 F :=
  (s.a00, s.a01, s.a02, s.a11, s.a12, s.a22, s.v00, s.v01, s.v02, s.v10, s.v11, s.v12, s.v20, s.v21, s.v22)

/-- One value at every lane. -/
def kf (x : BitVec 32) : Ln F := broadcast S80x128 (Scalar.ofBits .f32 x)

def tau (p q o : Ln F) : Ln F := divf (subf q p) (mulf (kf 0x40000000#32) o)
def hyp (x : Ln F) : Ln F := sqrt (addf (kf 0x3F800000#32) (mulf x x))
/-- The tangent of the rotation's angle from its cotangent's half. -/
def tan0 (x : Ln F) : Ln F :=
  select (cmpf .oge x (kf 0x00000000#32)) (divf (kf 0x3F800000#32) (addf x (hyp x))) (divf (kf 0x3F800000#32) (subf x (hyp x)))
def cos0 (t : Ln F) : Ln F := rsqrt (addf (kf 0x3F800000#32) (mulf t t))
def isz (o : Ln F) : IVec S80x128 1 := cmpf .oeq o (kf 0x00000000#32)

def rt (p q o : Ln F) : Ln F := select (isz o) (kf 0x00000000#32) (tan0 (tau p q o))
def rc (p q o : Ln F) : Ln F := select (isz o) (kf 0x3F800000#32) (cos0 (tan0 (tau p q o)))
def rs (p q o : Ln F) : Ln F := select (isz o) (kf 0x00000000#32) (mulf (tan0 (tau p q o)) (cos0 (tan0 (tau p q o))))

def mixm (c s x y : Ln F) : Ln F := subf (mulf c x) (mulf s y)
def mixp (c s x y : Ln F) : Ln F := addf (mulf s x) (mulf c y)

def rot02 (s : St (Ln F)) : St (Ln F) where
  a00 := subf s.a00 (mulf (rt s.a00 s.a22 s.a02) s.a02)
  a01 := mixm (rc s.a00 s.a22 s.a02) (rs s.a00 s.a22 s.a02) s.a01 s.a12
  a02 := kf 0x00000000#32
  a11 := s.a11
  a12 := mixp (rc s.a00 s.a22 s.a02) (rs s.a00 s.a22 s.a02) s.a01 s.a12
  a22 := addf s.a22 (mulf (rt s.a00 s.a22 s.a02) s.a02)
  v00 := mixm (rc s.a00 s.a22 s.a02) (rs s.a00 s.a22 s.a02) s.v00 s.v02
  v01 := s.v01
  v02 := mixp (rc s.a00 s.a22 s.a02) (rs s.a00 s.a22 s.a02) s.v00 s.v02
  v10 := mixm (rc s.a00 s.a22 s.a02) (rs s.a00 s.a22 s.a02) s.v10 s.v12
  v11 := s.v11
  v12 := mixp (rc s.a00 s.a22 s.a02) (rs s.a00 s.a22 s.a02) s.v10 s.v12
  v20 := mixm (rc s.a00 s.a22 s.a02) (rs s.a00 s.a22 s.a02) s.v20 s.v22
  v21 := s.v21
  v22 := mixp (rc s.a00 s.a22 s.a02) (rs s.a00 s.a22 s.a02) s.v20 s.v22

def rot12 (s : St (Ln F)) : St (Ln F) where
  a00 := s.a00
  a01 := mixm (rc s.a11 s.a22 s.a12) (rs s.a11 s.a22 s.a12) s.a01 s.a02
  a02 := mixp (rc s.a11 s.a22 s.a12) (rs s.a11 s.a22 s.a12) s.a01 s.a02
  a11 := subf s.a11 (mulf (rt s.a11 s.a22 s.a12) s.a12)
  a12 := kf 0x00000000#32
  a22 := addf s.a22 (mulf (rt s.a11 s.a22 s.a12) s.a12)
  v00 := s.v00
  v01 := mixm (rc s.a11 s.a22 s.a12) (rs s.a11 s.a22 s.a12) s.v01 s.v02
  v02 := mixp (rc s.a11 s.a22 s.a12) (rs s.a11 s.a22 s.a12) s.v01 s.v02
  v10 := s.v10
  v11 := mixm (rc s.a11 s.a22 s.a12) (rs s.a11 s.a22 s.a12) s.v11 s.v12
  v12 := mixp (rc s.a11 s.a22 s.a12) (rs s.a11 s.a22 s.a12) s.v11 s.v12
  v20 := s.v20
  v21 := mixm (rc s.a11 s.a22 s.a12) (rs s.a11 s.a22 s.a12) s.v21 s.v22
  v22 := mixp (rc s.a11 s.a22 s.a12) (rs s.a11 s.a22 s.a12) s.v21 s.v22

def rot01 (s : St (Ln F)) : St (Ln F) where
  a00 := subf s.a00 (mulf (rt s.a00 s.a11 s.a01) s.a01)
  a01 := kf 0x00000000#32
  a02 := mixm (rc s.a00 s.a11 s.a01) (rs s.a00 s.a11 s.a01) s.a02 s.a12
  a11 := addf s.a11 (mulf (rt s.a00 s.a11 s.a01) s.a01)
  a12 := mixp (rc s.a00 s.a11 s.a01) (rs s.a00 s.a11 s.a01) s.a02 s.a12
  a22 := s.a22
  v00 := mixm (rc s.a00 s.a11 s.a01) (rs s.a00 s.a11 s.a01) s.v00 s.v01
  v01 := mixp (rc s.a00 s.a11 s.a01) (rs s.a00 s.a11 s.a01) s.v00 s.v01
  v02 := s.v02
  v10 := mixm (rc s.a00 s.a11 s.a01) (rs s.a00 s.a11 s.a01) s.v10 s.v11
  v11 := mixp (rc s.a00 s.a11 s.a01) (rs s.a00 s.a11 s.a01) s.v10 s.v11
  v12 := s.v12
  v20 := mixm (rc s.a00 s.a11 s.a01) (rs s.a00 s.a11 s.a01) s.v20 s.v21
  v21 := mixp (rc s.a00 s.a11 s.a01) (rs s.a00 s.a11 s.a01) s.v20 s.v21
  v22 := s.v22

/-- The lanes whose off-diagonal part is not yet negligible. -/
def act (s : St (Ln F)) : IVec S80x128 1 := k0_pay5 s.a00 s.a01 s.a02 s.a11 s.a12 s.a22

def pick (b : IVec S80x128 1) (x y : St (Ln F)) : St (Ln F) where
  a00 := select b x.a00 y.a00
  a01 := select b x.a01 y.a01
  a02 := select b x.a02 y.a02
  a11 := select b x.a11 y.a11
  a12 := select b x.a12 y.a12
  a22 := select b x.a22 y.a22
  v00 := select b x.v00 y.v00
  v01 := select b x.v01 y.v01
  v02 := select b x.v02 y.v02
  v10 := select b x.v10 y.v10
  v11 := select b x.v11 y.v11
  v12 := select b x.v12 y.v12
  v20 := select b x.v20 y.v20
  v21 := select b x.v21 y.v21
  v22 := select b x.v22 y.v22

/-- One sweep. -/
def sweep (s : St (Ln F)) : St (Ln F) := pick (act s) (rot01 (rot12 (rot02 s))) s

def trip (x : T15 F) : T15 F := pack (sweep (unpack x))

variable (arg0 : Memref sig .tc .vmem S16x80x128 .f32) (harg0 : arg0.IsWhole) (arg1 : Memref sig .tc .vmem S9x80x128 .f32) (harg1 : arg1.IsWhole) (arg2 : Memref sig .tc .vmem S1x80x128 .f32) (harg2 : arg2.IsWhole) (arg3 : Memref sig .tc .vmem S9x80x128 .f32) (harg3 : arg3.IsWhole)
  (v0 : Vec F S16x80x128 .f32) (v1 : Vec F S9x80x128 .f32) (v9 v16 v23 v30 v37 v44 : Ln F)

set_option maxHeartbeats 1000000 in
/-- The loop's region is one trip. -/
theorem body_eq : k0_t1_body arg0 harg0 arg1 harg1 arg2 harg2 arg3 harg3 v0 v1 v9 v16 v23 v30 v37 v44 = fun _ acc => pure (trip acc) := by
  funext k acc
  obtain ⟨a00, a01, a02, a11, a12, a22, v00, v01, v02, v10, v11, v12, v20, v21, v22⟩ := acc
  rfl

/-- Three values with a vector each: `cij` is entry `j` of vector `i`. -/
structure Cols (α : Type) where
  w0 : α
  w1 : α
  w2 : α
  c00 : α
  c01 : α
  c02 : α
  c10 : α
  c11 : α
  c12 : α
  c20 : α
  c21 : α
  c22 : α

def ofSt {α : Type} (s : St α) : Cols α :=
  ⟨s.a00, s.a11, s.a22, s.v00, s.v10, s.v20, s.v01, s.v11, s.v21, s.v02, s.v12, s.v22⟩

/-- The first two in ascending order. -/
def swap01 (s : Cols (Ln F)) : Cols (Ln F) where
  w0 := select (cmpf .olt s.w1 s.w0) s.w1 s.w0
  w1 := select (cmpf .olt s.w1 s.w0) s.w0 s.w1
  w2 := s.w2
  c00 := select (cmpf .olt s.w1 s.w0) s.c10 s.c00
  c01 := select (cmpf .olt s.w1 s.w0) s.c11 s.c01
  c02 := select (cmpf .olt s.w1 s.w0) s.c12 s.c02
  c10 := select (cmpf .olt s.w1 s.w0) s.c00 s.c10
  c11 := select (cmpf .olt s.w1 s.w0) s.c01 s.c11
  c12 := select (cmpf .olt s.w1 s.w0) s.c02 s.c12
  c20 := s.c20
  c21 := s.c21
  c22 := s.c22

/-- The last two in ascending order. -/
def swap12 (s : Cols (Ln F)) : Cols (Ln F) where
  w0 := s.w0
  w1 := select (cmpf .olt s.w2 s.w1) s.w2 s.w1
  w2 := select (cmpf .olt s.w2 s.w1) s.w1 s.w2
  c00 := s.c00
  c01 := s.c01
  c02 := s.c02
  c10 := select (cmpf .olt s.w2 s.w1) s.c20 s.c10
  c11 := select (cmpf .olt s.w2 s.w1) s.c21 s.c11
  c12 := select (cmpf .olt s.w2 s.w1) s.c22 s.c12
  c20 := select (cmpf .olt s.w2 s.w1) s.c10 s.c20
  c21 := select (cmpf .olt s.w2 s.w1) s.c11 s.c21
  c22 := select (cmpf .olt s.w2 s.w1) s.c12 s.c22

/-- The reflector that sends a vector onto the first axis: its scale and its vector's entries after the first. -/
def xn2 (x1 x2 : Ln F) : Ln F := addf (mulf x1 x1) (mulf x2 x2)
def hbeta (x0 x1 x2 : Ln F) : Ln F :=
  select (cmpf .ole x0 (kf 0x00000000#32)) (sqrt (addf (mulf x0 x0) (xn2 x1 x2))) (subf (kf 0x00000000#32) (sqrt (addf (mulf x0 x0) (xn2 x1 x2))))
def htau (x0 x1 x2 : Ln F) : Ln F :=
  select (isz (xn2 x1 x2)) (kf 0x00000000#32) (divf (subf (hbeta x0 x1 x2) x0) (hbeta x0 x1 x2))
def hvec (x0 x1 x2 x : Ln F) : Ln F :=
  select (isz (xn2 x1 x2)) (kf 0x00000000#32) (mulf x (divf (kf 0x3F800000#32) (subf x0 (hbeta x0 x1 x2))))

def h3s (v1 v2 t a0 a1 a2 : Ln F) : Ln F := mulf t (addf (addf a0 (mulf v1 a1)) (mulf v2 a2))
def h3a (v1 v2 t a0 a1 a2 : Ln F) : Ln F := subf a0 (h3s v1 v2 t a0 a1 a2)
def h3b (v a : Ln F) (s : Ln F) : Ln F := subf a (mulf v s)
def h2s (u t a1 a2 : Ln F) : Ln F := mulf t (addf a1 (mulf u a2))

/-- What the body reads off the sweeps' end, in the order it keeps it. -/
def p6 (v0 : Vec F S16x80x128 .f32) (v1 : Vec F S9x80x128 .f32) (x : T15 F) : (Σ' (v46 : Ln F) (v65 : Ln F) (v66 : Ln F) (v67 : Ln F) (v69 : Ln F) (v70 : Ln F) (v71 : Ln F) (v72 : Ln F) (v73 : Ln F) (v74 : Ln F) (v76 : Ln F) (v78 : Ln F) (v80 : Ln F) (v82 : Ln F) (v84 : Ln F) (v86 : Ln F) (v89 : Ln F), Ln F) :=
  match x with
  | (v50_0, v50_1, v50_2, v50_3, v50_4, v50_5, v50_6, v50_7, v50_8, v50_9, v50_10, v50_11, v50_12, v50_13, v50_14) =>
    ⟨k0_pay68 v0, k0_pay98 v50_0 v50_3 v50_5 v50_6 v50_7 v50_8, k0_pay99 v50_0 v50_3 v50_5 v50_9 v50_10 v50_11, k0_pay100 v50_0 v50_3 v50_5 v50_12 v50_13 v50_14, k0_pay102 v50_0 v50_3 v50_5 v50_6 v50_7 v50_8, k0_pay103 v50_0 v50_3 v50_5 v50_9 v50_10 v50_11, k0_pay104 v50_0 v50_3 v50_5 v50_12 v50_13 v50_14, k0_pay105 v50_0 v50_3 v50_5 v50_6 v50_7 v50_8, k0_pay106 v50_0 v50_3 v50_5 v50_9 v50_10 v50_11, k0_pay107 v50_0 v50_3 v50_5 v50_12 v50_13 v50_14, k0_pay108 v1, k0_pay109 v1, k0_pay110 v1, k0_pay111 v1, k0_pay112 v1, k0_pay113 v1, k0_pay114 v1, k0_pay115 v1⟩

/-- The sweeps' end, from the covariances. -/
def swp (v0 : Vec F S16x80x128 .f32) : T15 F :=
  Scf.fold (n := k0_t1_loop.trips) (fun _ => trip) (k0_pay62 v0, k0_pay63 v0, k0_pay64 v0, k0_pay65 v0, k0_pay66 v0, k0_pay67 v0,
    kf 0x3F800000#32, kf 0x00000000#32, kf 0x00000000#32, kf 0x00000000#32, kf 0x3F800000#32, kf 0x00000000#32, kf 0x00000000#32, kf 0x00000000#32, kf 0x3F800000#32)

def srt (v0 : Vec F S16x80x128 .f32) : Cols (Ln F) := swap01 (swap12 (swap01 (ofSt (unpack (swp v0)))))

/-- The first reflector, of the noise's first column, and the second, of what the first leaves of its second column. -/
def qt (v1 : Vec F S9x80x128 .f32) : Ln F := htau (k0_pay108 v1) (k0_pay110 v1) (k0_pay112 v1)
def qa (v1 : Vec F S9x80x128 .f32) : Ln F := hvec (k0_pay108 v1) (k0_pay110 v1) (k0_pay112 v1) (k0_pay110 v1)
def qb (v1 : Vec F S9x80x128 .f32) : Ln F := hvec (k0_pay108 v1) (k0_pay110 v1) (k0_pay112 v1) (k0_pay112 v1)
def qs (v1 : Vec F S9x80x128 .f32) : Ln F := h3s (qa v1) (qb v1) (qt v1) (k0_pay109 v1) (k0_pay111 v1) (k0_pay113 v1)
def r11 (v1 : Vec F S9x80x128 .f32) : Ln F := h3b (qa v1) (k0_pay111 v1) (qs v1)
def r21 (v1 : Vec F S9x80x128 .f32) : Ln F := h3b (qb v1) (k0_pay113 v1) (qs v1)
def qt' (v1 : Vec F S9x80x128 .f32) : Ln F := htau (r11 v1) (r21 v1) (kf 0x00000000#32)
def qu (v1 : Vec F S9x80x128 .f32) : Ln F := hvec (r11 v1) (r21 v1) (kf 0x00000000#32) (r21 v1)

/-- The second reflector on a column. -/
def m1 (v1 : Vec F S9x80x128 .f32) (e1 e2 : Ln F) : Ln F := subf e1 (h2s (qu v1) (qt' v1) e1 e2)
def m2 (v1 : Vec F S9x80x128 .f32) (e1 e2 : Ln F) : Ln F := h3b (qu v1) e2 (h2s (qu v1) (qt' v1) e1 e2)
/-- Both reflectors on a column. -/
def qcs (v1 : Vec F S9x80x128 .f32) (e0 e1 e2 : Ln F) : Ln F := h3s (qa v1) (qb v1) (qt v1) e0 (m1 v1 e1 e2) (m2 v1 e1 e2)
def qc0 (v1 : Vec F S9x80x128 .f32) (e0 e1 e2 : Ln F) : Ln F := subf e0 (qcs v1 e0 e1 e2)
def qc1 (v1 : Vec F S9x80x128 .f32) (e0 e1 e2 : Ln F) : Ln F := h3b (qa v1) (m1 v1 e1 e2) (qcs v1 e0 e1 e2)
def qc2 (v1 : Vec F S9x80x128 .f32) (e0 e1 e2 : Ln F) : Ln F := h3b (qb v1) (m2 v1 e1 e2) (qcs v1 e0 e1 e2)

def flipped (v2 : Vec F S1x80x128 .f32) (x : Ln F) : Ln F := select (k0_pay151 v2) (subf (kf 0x00000000#32) x) x
def alone (v0 : Vec F S16x80x128 .f32) : IVec S80x128 1 := cmpf .ole (k0_pay68 v0) (kf 0x3F800000#32)

def up1 (x : Ln F) : FVec F S1x80x128 .f32 := shapeCast S1x80x128 x shapeCasts_S80x128_S1x80x128

def O (F : FTy → Type) [FloatOps F] : Ln F := kf 0x00000000#32
def I (F : FTy → Type) [FloatOps F] : Ln F := kf 0x3F800000#32

/-- What the body stores. -/
def outv (v0 : Vec F S16x80x128 .f32) (v1 : Vec F S9x80x128 .f32) (v2 : Vec F S1x80x128 .f32) : FVec F S9x80x128 .f32 :=
  concatenate S9x80x128 0 [
    ⟨S1x80x128, up1 (select (alone v0) (flipped v2 (qc0 v1 (I F) (O F) (O F))) (srt v0).c00)⟩,
    ⟨S1x80x128, up1 (select (alone v0) (qc1 v1 (I F) (O F) (O F)) (srt v0).c01)⟩,
    ⟨S1x80x128, up1 (select (alone v0) (qc2 v1 (I F) (O F) (O F)) (srt v0).c02)⟩,
    ⟨S1x80x128, up1 (select (alone v0) (flipped v2 (qc0 v1 (O F) (I F) (O F))) (srt v0).c10)⟩,
    ⟨S1x80x128, up1 (select (alone v0) (qc1 v1 (O F) (I F) (O F)) (srt v0).c11)⟩,
    ⟨S1x80x128, up1 (select (alone v0) (qc2 v1 (O F) (I F) (O F)) (srt v0).c12)⟩,
    ⟨S1x80x128, up1 (select (alone v0) (flipped v2 (qc0 v1 (O F) (O F) (I F))) (srt v0).c20)⟩,
    ⟨S1x80x128, up1 (select (alone v0) (qc1 v1 (O F) (O F) (I F)) (srt v0).c21)⟩,
    ⟨S1x80x128, up1 (select (alone v0) (qc2 v1 (O F) (O F) (I F)) (srt v0).c22)⟩]
    concatenates_S1x80x128_S1x80x128_S1x80x128_S1x80x128_S1x80x128_S1x80x128_S1x80x128_S1x80x128_S1x80x128_S9x80x128_d0

set_option maxHeartbeats 2000000 in
/-- The body is three loads, the load that its store's first reads, and the store. -/
theorem kernel_eq : cc0__frames_kernel (F := F) arg0 harg0 arg1 harg1 arg2 harg2 arg3 harg3 = (do
    let v0 : Vec F S16x80x128 .f32 ← Prog.lift (.load arg0 (Rect.unit (s := S16x80x128) ![0, 0, 0] S16x80x128.size inb_S16x80x128_S16x80x128_0_0_0).toLoadRect (View.loadsAt_vmem h_S16x80x128))
    let v1 : Vec F S9x80x128 .f32 ← Prog.lift (.load arg1 (Rect.unit (s := S9x80x128) ![0, 0, 0] S9x80x128.size inb_S9x80x128_S9x80x128_0_0_0).toLoadRect (View.loadsAt_vmem h_S9x80x128))
    let v2 : Vec F S1x80x128 .f32 ← Prog.lift (.load arg2 (Rect.unit (s := S1x80x128) ![0, 0, 0] S1x80x128.size inb_S1x80x128_S1x80x128_0_0_0).toLoadRect (View.loadsAt_vmem h_S1x80x128))
    let v3 : Vec F S9x80x128 .f32 ← Prog.lift (.load arg3 (Rect.unit (s := S9x80x128) ![0, 0, 0] S9x80x128.size inb_S9x80x128_S9x80x128_0_0_0).toLoadRect (View.loadsAt_vmem h_S9x80x128))
    Prog.lift (.store arg3 (Rect.unit (s := S9x80x128) ![0, 0, 0] S9x80x128.size inb_S9x80x128_S9x80x128_0_0_0) (outv v0 v1 v2) Finset.univ (View.stores_vmem_bits_univ h_S9x80x128 rfl) (.inl rfl))
    pure ⟨⟩) := by
  rw [cc0__frames_kernel_eq_skeleton]
  unfold cc0__frames_kernel_skel
  rw [k0_part5_eq_skeleton, k0_part6_eq_skeleton, k0_part7_eq_skeleton, k0_part8_eq_skeleton]
  have e6 : ∀ v0 v1 v9 v16 v23 v30 v37 v44, k0_part6_skel arg0 harg0 arg1 harg1 arg2 harg2 arg3 harg3 v0 v1 v9 v16 v23 v30 v37 v44 = pure (p6 v0 v1 (Scf.fold (n := k0_t1_loop.trips) (fun _ => trip) (v9, v16, v23, v30, v37, v44, k0_pay69 (F := F), k0_pay70 (F := F), k0_pay70 (F := F), k0_pay70 (F := F), k0_pay69 (F := F), k0_pay70 (F := F), k0_pay70 (F := F), k0_pay70 (F := F), k0_pay69 (F := F)))) := by
    intro v0 v1 v9 v16 v23 v30 v37 v44
    unfold k0_part6_skel
    exact Scf.for_pure_bind _ _ _ _ _ _ (fun _ => trip) (fun k acc => congrFun (congrFun (body_eq arg0 harg0 arg1 harg1 arg2 harg2 arg3 harg3 v0 v1 v9 v16 v23 v30 v37 v44) k) acc) _
  simp only [e6]
  rfl

end Cert.Proof.Kernel2Ideal

end
-- ==== Proof.RF.lean ====
/-
  The frames kernel's body, run by the executor: from its three blocks it leaves one array in the output's staging
  buffer.
-/
module

public import proofs.«01_k».proof.Proof.Pure2
public import proofs.«01_k».proof.Proof.Gen.Kernel2Ideal.Loops
public import Idealize.ShloMosaic.Lib.Pipeline.FrameBody
public import Idealize.ShloMosaic.Lib.Pipeline.Frame
public import Idealize.ShloMosaic.Lib.Pipeline.Value
public import Idealize.ShloMosaic.Lib.Pipeline.ReadBack
public import Idealize.ShloMosaic.Lib.Claim
public import Idealize.ShloMosaic.Lib.WholeRead
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple, what it leaves in the output's staging buffer found by the run. -/
def run2 (c : Dev nD) (arg0 : Memref sig .tc .vmem S16x80x128 .f32) (harg0 : arg0.IsWhole) (arg1 : Memref sig .tc .vmem S9x80x128 .f32) (harg1 : arg1.IsWhole) (arg2 : Memref sig .tc .vmem S1x80x128 .f32) (harg2 : arg2.IsWhole) (arg3 : Memref sig .tc .vmem S9x80x128 .f32) (harg3 : arg3.IsWhole)
    (x0 : Vec F S16x80x128 .f32) (x1 : Vec F S9x80x128 .f32) (x2 : Vec F S1x80x128 .f32) :
    { L : List (View.Piece (Elt F) S9x80x128 .f32) // ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d)
            ∗ (iprop(owns (c : Thread nD τ) arg0 fullShare x0 ∗ owns (c : Thread nD τ) arg1 fullShare x1 ∗ owns (c : Thread nD τ) arg2 fullShare x2 ∗ (∃ f, (arg3.view.loc (c : Thread nD τ) ↦[arg3.view.set]{fullShare} (arg3.view.writes (Elt F) f L)))) -∗ K ⟨⟩))
          ⊢ wp frame (wpE (defs₀ (F := F)) Variants.none c none) E (cc0__frames_kernel arg0 harg0 arg1 harg1 arg2 harg2 arg3 harg3) K } := by
  refine ⟨?_, fun E K => ?run⟩
  case run =>
    rw [kernel_eq]
    unfold owns
    iintro ⟨⟨%f0, %hf0, H0⟩, ⟨%f1, %hf1, H1⟩, ⟨%f2, %hf2, H2⟩, ⟨%d3, %f3, -, H3⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    iexists _; iexact H3

theorem run2_cov (c : Dev nD) (arg0 : Memref sig .tc .vmem S16x80x128 .f32) (harg0 : arg0.IsWhole) (arg1 : Memref sig .tc .vmem S9x80x128 .f32) (harg1 : arg1.IsWhole) (arg2 : Memref sig .tc .vmem S1x80x128 .f32) (harg2 : arg2.IsWhole) (arg3 : Memref sig .tc .vmem S9x80x128 .f32) (harg3 : arg3.IsWhole)
    (x0 : Vec F S16x80x128 .f32) (x1 : Vec F S9x80x128 .f32) (x2 : Vec F S1x80x128 .f32) (y : S9x80x128.Idx) :
    ∃ p ∈ (run2 c arg0 harg0 arg1 harg1 arg2 harg2 arg3 harg3 x0 x1 x2).1, y ∈ p.1.set := by
  unfold run2
  exact ⟨_, List.mem_singleton.mpr rfl, View.mem_set_unit_zero (by funext a; fin_cases a <;> rfl) inb_S9x80x128_S9x80x128_0_0_0 y⟩

theorem run2_val (c : Dev nD) (arg0 : Memref sig .tc .vmem S16x80x128 .f32) (harg0 : arg0.IsWhole) (arg1 : Memref sig .tc .vmem S9x80x128 .f32) (harg1 : arg1.IsWhole) (arg2 : Memref sig .tc .vmem S1x80x128 .f32) (harg2 : arg2.IsWhole) (arg3 : Memref sig .tc .vmem S9x80x128 .f32) (harg3 : arg3.IsWhole)
    (x0 : Vec F S16x80x128 .f32) (x1 : Vec F S9x80x128 .f32) (x2 : Vec F S1x80x128 .f32) :
    View.canon (run2 c arg0 harg0 arg1 harg1 arg2 harg2 arg3 harg3 x0 x1 x2).1 = outv x0 x1 x2 := by
  have e0 : View.readAt (Elt F) arg0.view (Rect.unit (s := S16x80x128) ![0, 0, 0] S16x80x128.size inb_S16x80x128_S16x80x128_0_0_0).toLoadRect (harg0.unread x0) = x0 := by
    rw [View.readAt_eq_ld, harg0.read_unread]; exact View.ld_unit_zero (by funext a; fin_cases a <;> rfl) _ _
  have e1 : View.readAt (Elt F) arg1.view (Rect.unit (s := S9x80x128) ![0, 0, 0] S9x80x128.size inb_S9x80x128_S9x80x128_0_0_0).toLoadRect (harg1.unread x1) = x1 := by
    rw [View.readAt_eq_ld, harg1.read_unread]; exact View.ld_unit_zero (by funext a; fin_cases a <;> rfl) _ _
  have e2 : View.readAt (Elt F) arg2.view (Rect.unit (s := S1x80x128) ![0, 0, 0] S1x80x128.size inb_S1x80x128_S1x80x128_0_0_0).toLoadRect (harg2.unread x2) = x2 := by
    rw [View.readAt_eq_ld, harg2.read_unread]; exact View.ld_unit_zero (by funext a; fin_cases a <;> rfl) _ _
  unfold run2
  dsimp only
  rw [View.canon_unit_zero (by funext a; fin_cases a <;> rfl)]
  simp only [e0, e1, e2]

variable (m : (ℓ : Loc nD τ sig) → Buf (Elt F) ℓ) (ρ : Dev nD → PrngReg)

/-- The proof data: the one grid point leaves `outv` of its input blocks. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv (iblk m c 0 t) (iblk m c 1 t) (iblk m c 2 t)
  Φ _ := Pipeline.ΦA spec0 c
  q _ := fullShare
  owed _ := 0

theorem dat_A (c : Dev nD) (w : Fin cfg0.W) : (dat m 0 c).A w = V m c (Pipeline.arrRef spec0 w) := by
  dsimp only [dat]

theorem dat_after0 (c : Dev nD) (t : Fin cfg0.N) : (dat m 0 c).after 0 t = iblk m c 0 t := by dsimp only [dat]
theorem dat_after1 (c : Dev nD) (t : Fin cfg0.N) : (dat m 0 c).after 1 t = iblk m c 1 t := by dsimp only [dat]
theorem dat_after2 (c : Dev nD) (t : Fin cfg0.N) : (dat m 0 c).after 2 t = iblk m c 2 t := by dsimp only [dat]
theorem dat_after3 (c : Dev nD) (t : Fin cfg0.N) : (dat m 0 c).after 3 t = outv (iblk m c 0 t) (iblk m c 1 t) (iblk m c 2 t) := by dsimp only [dat]

theorem dat_before0 (c : Dev nD) (t : Fin cfg0.N) (d) : (dat m 0 c).before 0 t d = iblk m c 0 t :=
  before0_0_of m (dat m 0 c) (dat_A m c 0) (dat_after0 m c) t d
theorem dat_before1 (c : Dev nD) (t : Fin cfg0.N) (d) : (dat m 0 c).before 1 t d = iblk m c 1 t :=
  before0_1_of m (dat m 0 c) (dat_A m c 1) (dat_after1 m c) t d
theorem dat_before2 (c : Dev nD) (t : Fin cfg0.N) (d) : (dat m 0 c).before 2 t d = iblk m c 2 t :=
  before0_2_of m (dat m 0 c) (dat_A m c 2) (dat_after2 m c) t d

theorem body_ob (c : Dev nD) : BodyObligation (dat (F := F) m 0 c) (defs₀ (F := F)) Variants.none () Set.univ := fun t => by
  rw [bigSep_W0, bigSep_W0]
  rw [show (dat m 0 c).Φ t.castSucc = Pipeline.ΦA spec0 c from rfl, show (dat m 0 c).Φ t.succ = Pipeline.ΦA spec0 c from rfl,
    show (dat m 0 c).owesAt () t.succ = (dat m 0 c).owesAt () t.castSucc from rfl]
  rw [show defs₀ (F := F) .tc cfg0.body (cfg0.bodyArgs t (cfg0.slots t)) = bodyAt0 t by unfold defs₀; rw [Defs.onTc_tc]]
  iintro ⟨HΦ, Howes, ⟨%d0, H0⟩, ⟨%d1, H1⟩, ⟨%d2, H2⟩, H3⟩
  rw [dat_before0, dat_before1, dat_before2]
  unfold bodyAt0
  iapply ((run2 c _ _ _ _ _ _ _ _ (iblk m c 0 t) (iblk m c 1 t) (iblk m c 2 t)).2 Set.univ _)
  isplitl [H0]; · iexact H0
  isplitl [H1]; · iexact H1
  isplitl [H2]; · iexact H2
  isplitl [H3]; · icases H3 with ⟨%d3, H3⟩; iexists _; iexact H3
  iintro ⟨H0, H1, H2, ⟨%f, H3⟩⟩
  isplitl [HΦ]; · iexact HΦ
  isplitl [Howes]; · iexact Howes
  isplitl [H0]; · iexact H0
  isplitl [H1]; · iexact H1
  isplitl [H2]; · iexact H2
  unfold owns
  iexists _; isplitr; swap; (· iexact H3); ipureintro
  exact (View.read_writes_eq_canon _ _ _ (run2_cov c _ _ _ _ _ _ _ _ _ _ _)).trans (run2_val c _ _ _ _ _ _ _ _ _ _ _)

set_option backward.isDefEq.respectTransparency.types false in
/-- The launch. -/
theorem run_all : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (body_ob m c).loose) (hshare := fun c => (dat m 0 c).share_full fun _ => rfl)
    (howed := fun _ _ => rfl) (V := V m) (hmain := hmain m Variants.none) (hA := dat_A m) (hΦ := fun _ _ => rfl)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dat m) (dat_A m)) (run_all m ρ)

end Cert.Proof.Kernel2Ideal

end
-- ==== Proof.Whole.lean ====
/-
  From the run of the frames kernel to its result array: one grid point, whose blocks are the whole arrays.
-/
module

public import proofs.«01_k».proof.Proof.RF
public import Idealize.ShloMosaic.Lib.Pipeline.ValueKit

@[expose] public section

set_option maxRecDepth 16384

noncomputable section

namespace Cert.Proof.Kernel2Ideal

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, win0_0.index t = ![0, 0, 0] ∧ win0_1.index t = ![0, 0, 0] ∧ win0_2.index t = ![0, 0, 0] ∧ win0_3.index t = ![0, 0, 0])

/-- The three arguments. -/
def arg0 (c : Dev nD) : FVec Ideal S16x80x128 .f32 := m ((c.tc : Thread nD τ).loc main_arg0)
def arg1 (c : Dev nD) : FVec Ideal S9x80x128 .f32 := m ((c.tc : Thread nD τ).loc main_arg1)
def arg2 (c : Dev nD) : FVec Ideal S1x80x128 .f32 := m ((c.tc : Thread nD τ).loc main_arg2)

theorem blk0 (c : Dev nD) (t : Fin cfg0.N) : (show FVec Ideal S16x80x128 .f32 from iblk m c 0 t) = arg0 m c := by
  funext x
  idx_vars x
  unfold arg0
  rw [← V_main_arg0 m c]
  blk_ext [iblk, idx t]

theorem blk1 (c : Dev nD) (t : Fin cfg0.N) : (show FVec Ideal S9x80x128 .f32 from iblk m c 1 t) = arg1 m c := by
  funext x
  idx_vars x
  unfold arg1
  rw [← V_main_arg1 m c]
  blk_ext [iblk, idx t]

theorem blk2 (c : Dev nD) (t : Fin cfg0.N) : (show FVec Ideal S1x80x128 .f32 from iblk m c 2 t) = arg2 m c := by
  funext x
  idx_vars x
  unfold arg2
  rw [← V_main_arg2 m c]
  blk_ext [iblk, idx t]

theorem final (c : Dev nD) : (dat m 0 c).arrAt 3 (cfgs 0).N = outv (F := Ideal) (arg0 m c) (arg1 m c) (arg2 m c) := by
  refine (dat m 0 c).arrAt_eq_of_covers 3 _ (by decide +kernel) fun t _ y => ?_
  blk_simp
  rw [dat_after3]
  have e : outv (F := Ideal) (iblk m c 0 t) (iblk m c 1 t) (iblk m c 2 t) = outv (F := Ideal) (arg0 m c) (arg1 m c) (arg2 m c) :=
    congr (congr (congrArg (outv (F := Ideal)) (blk0 m c t)) (blk1 m c t)) (blk2 m c t)
  rw [e]
  generalize outv (F := Ideal) (arg0 m c) (arg1 m c) (arg2 m c) = G
  idx_vars y
  refine congrArg G ?_
  funext a
  fin_cases a <;> exact Fin.ext (by blk_simp [idx t])

end Cert.Proof.Kernel2Ideal

end
-- ==== Proof.Ref2.lean ====
/-
  The second reference as functions of planes and of 3x3 matrices of planes: the matrix product, the three plane
  rotations, one sweep, the order of the eigenvalues, the reflectors, and the result.
-/
module

public import proofs.«01_k».proof.Proof.Gen.Reference2Ideal.Step

@[expose] public section

set_option maxRecDepth 16384

noncomputable section

namespace Cert.Proof.Reference2Ideal

open Cert.Reference2Ideal Cert.Reference2Ideal.Gen
open Idealize.ShloMosaic

variable {F : FTy → Type} [FloatOps F]

abbrev Pl (F : FTy → Type) : Type := FVec F S80x128 .f32
abbrev M3 (F : FTy → Type) : Type := FVec F S3x3x80x128 .f32
abbrev V3 (F : FTy → Type) : Type := FVec F S3x80x128 .f32

/-- One value at every point. -/
def cst (x : BitVec 32) : Pl F := broadcastInDim S80x128 ![] bcast_S_S80x128 (constant S_ .f32 x)

def e00 (X : M3 F) : Pl F := shapeCast S80x128 (extractStridedSlice S1x1x80x128 ![0, 0, 0, 0] X slices_S3x3x80x128_S1x1x80x128_0_0_0_0) shapeCasts_S1x1x80x128_S80x128
def e01 (X : M3 F) : Pl F := shapeCast S80x128 (extractStridedSlice S1x1x80x128 ![0, 1, 0, 0] X slices_S3x3x80x128_S1x1x80x128_0_1_0_0) shapeCasts_S1x1x80x128_S80x128
def e02 (X : M3 F) : Pl F := shapeCast S80x128 (extractStridedSlice S1x1x80x128 ![0, 2, 0, 0] X slices_S3x3x80x128_S1x1x80x128_0_2_0_0) shapeCasts_S1x1x80x128_S80x128
def e10 (X : M3 F) : Pl F := shapeCast S80x128 (extractStridedSlice S1x1x80x128 ![1, 0, 0, 0] X slices_S3x3x80x128_S1x1x80x128_1_0_0_0) shapeCasts_S1x1x80x128_S80x128
def e11 (X : M3 F) : Pl F := shapeCast S80x128 (extractStridedSlice S1x1x80x128 ![1, 1, 0, 0] X slices_S3x3x80x128_S1x1x80x128_1_1_0_0) shapeCasts_S1x1x80x128_S80x128
def e12 (X : M3 F) : Pl F := shapeCast S80x128 (extractStridedSlice S1x1x80x128 ![1, 2, 0, 0] X slices_S3x3x80x128_S1x1x80x128_1_2_0_0) shapeCasts_S1x1x80x128_S80x128
def e20 (X : M3 F) : Pl F := shapeCast S80x128 (extractStridedSlice S1x1x80x128 ![2, 0, 0, 0] X slices_S3x3x80x128_S1x1x80x128_2_0_0_0) shapeCasts_S1x1x80x128_S80x128
def e21 (X : M3 F) : Pl F := shapeCast S80x128 (extractStridedSlice S1x1x80x128 ![2, 1, 0, 0] X slices_S3x3x80x128_S1x1x80x128_2_1_0_0) shapeCasts_S1x1x80x128_S80x128
def e22 (X : M3 F) : Pl F := shapeCast S80x128 (extractStridedSlice S1x1x80x128 ![2, 2, 0, 0] X slices_S3x3x80x128_S1x1x80x128_2_2_0_0) shapeCasts_S1x1x80x128_S80x128

/-- Three planes as one vector, and three vectors as the rows of a matrix. -/
def up3 (x : Pl F) : FVec F S1x80x128 .f32 := broadcastInDim S1x80x128 ![1, 2] bcast_S80x128_S1x80x128_1_2 x
def st (a b c : Pl F) : V3 F :=
  concatenate S3x80x128 0 [⟨S1x80x128, up3 a⟩, ⟨S1x80x128, up3 b⟩, ⟨S1x80x128, up3 c⟩] concatenates_S1x80x128_S1x80x128_S1x80x128_S3x80x128_d0
def up4 (x : V3 F) : FVec F S1x3x80x128 .f32 := broadcastInDim S1x3x80x128 ![1, 2, 3] bcast_S3x80x128_S1x3x80x128_1_2_3 x
def rows (a b c : V3 F) : M3 F :=
  concatenate S3x3x80x128 0 [⟨S1x3x80x128, up4 a⟩, ⟨S1x3x80x128, up4 b⟩, ⟨S1x3x80x128, up4 c⟩] concatenates_S1x3x80x128_S1x3x80x128_S1x3x80x128_S3x3x80x128_d0

def one : Pl F := cst 0x3F800000#32
def zero : Pl F := cst 0x00000000#32
def eye : M3 F := rows (st one zero zero) (st zero one zero) (st zero zero one)

def mm (X Y : M3 F) : M3 F :=
  Host.reduceAdd (mulf
    (broadcastInDim S3x3x3x80x128 ![0, 1, 2, 3, 4] bcast_S3x3x1x80x128_S3x3x3x80x128_0_1_2_3_4 (broadcastInDim S3x3x1x80x128 ![0, 1, 3, 4] bcast_S3x3x80x128_S3x3x1x80x128_0_1_3_4 X))
    (broadcastInDim S3x3x3x80x128 ![0, 1, 2, 3, 4] bcast_S1x3x3x80x128_S3x3x3x80x128_0_1_2_3_4 (broadcastInDim S1x3x3x80x128 ![1, 2, 3, 4] bcast_S3x3x80x128_S1x3x3x80x128_1_2_3_4 Y)))
    (constant S_ .f32 0x00000000#32) reducesTo_S3x3x3x80x128_S3x3x80x128_d1 h_S_

def tp (X : M3 F) : M3 F := transpose S3x3x80x128 [1, 0, 2, 3] X transposes_S3x3x80x128_S3x3x80x128_1_0_2_3

/-- The rotation's angle: half its cotangent, its tangent, its cosine and its sine. -/
def hcot (p q o : Pl F) : Pl F := Host.divf (subf q p) (mulf (cst 0x40000000#32) o)
def tan1 (x : Pl F) : Pl F :=
  Host.divf (select (cmpf .oge x (cst 0x00000000#32)) (cst 0x3F800000#32) (cst 0xBF800000#32)) (addf (Host.absf x) (Host.sqrt (addf (cst 0x3F800000#32) (mulf x x))))
def tanR (p q o : Pl F) : Pl F := select (cmpf .oeq o (cst 0x00000000#32)) (cst 0x00000000#32) (tan1 (hcot p q o))
def cosR (p q o : Pl F) : Pl F := Host.divf (cst 0x3F800000#32) (Host.sqrt (addf (cst 0x3F800000#32) (mulf (tanR p q o) (tanR p q o))))
def sinR (p q o : Pl F) : Pl F := mulf (tanR p q o) (cosR p q o)

def j02 (c s : Pl F) : M3 F := rows (st c zero s) (st zero one zero) (st (Host.negf s) zero c)
def j12 (c s : Pl F) : M3 F := rows (st one zero zero) (st zero c s) (st zero (Host.negf s) c)
def j01 (c s : Pl F) : M3 F := rows (st c s zero) (st (Host.negf s) c zero) (st zero zero one)

def J02 (A : M3 F) : M3 F := j02 (cosR (e00 A) (e22 A) (e02 A)) (sinR (e00 A) (e22 A) (e02 A))
def J12 (A : M3 F) : M3 F := j12 (cosR (e11 A) (e22 A) (e12 A)) (sinR (e11 A) (e22 A) (e12 A))
def J01 (A : M3 F) : M3 F := j01 (cosR (e00 A) (e11 A) (e01 A)) (sinR (e00 A) (e11 A) (e01 A))

def turn (A J : M3 F) : M3 F := mm (tp J) (mm A J)
def A1 (A : M3 F) : M3 F := turn A (J02 A)
def A2 (A : M3 F) : M3 F := turn (A1 A) (J12 (A1 A))
def A3 (A : M3 F) : M3 F := turn (A2 A) (J01 (A2 A))
def W3 (A V : M3 F) : M3 F := mm (mm (mm V (J02 A)) (J12 (A1 A))) (J01 (A2 A))

def total (A : M3 F) : Pl F :=
  Host.reduceAdd (Host.reduceAdd (mulf A A) (constant S_ .f32 0x00000000#32) reducesTo_S3x3x80x128_S3x80x128_d0 h_S_) (constant S_ .f32 0x00000000#32) reducesTo_S3x80x128_S80x128_d0 h_S_
def diagonal (A : M3 F) : Pl F := addf (addf (mulf (e00 A) (e00 A)) (mulf (e11 A) (e11 A))) (mulf (e22 A) (e22 A))
/-- The points whose matrix is not yet diagonal to the tolerance. -/
def active (A : M3 F) : IVec S80x128 1 := cmpf .ogt (subf (total A) (diagonal A)) (mulf (cst 0x2EDBE6FE#32) (total A))
def choose (b : IVec S80x128 1) (X Y : M3 F) : M3 F := select (broadcastInDim S3x3x80x128 ![2, 3] bcast_S80x128_S3x3x80x128_2_3 b) X Y

def cov9 (a : FVec F S16x80x128 .f32) : M3 F :=
  shapeCast S3x3x80x128 (extractStridedSlice S9x80x128 ![0, 0, 0] a slices_S16x80x128_S9x80x128_0_0_0) shapeCasts_S9x80x128_S3x3x80x128
def sym (C : M3 F) : M3 F := mulf (addf C (tp C)) (broadcastInDim S3x3x80x128 ![] bcast_S_S3x3x80x128 (constant S_ .f32 0x3F000000#32))
def alone (a : FVec F S16x80x128 .f32) : IVec S80x128 1 :=
  cmpf .ole (shapeCast S80x128 (extractStridedSlice S1x80x128 ![9, 0, 0] a slices_S16x80x128_S1x80x128_9_0_0) shapeCasts_S1x80x128_S80x128) (cst 0x3F800000#32)

/-! The reflector of a vector and what it makes of a matrix. -/

def rest (y z : Pl F) : Pl F := addf (mulf y y) (mulf z z)
def hb (x y z : Pl F) : Pl F :=
  mulf (select (cmpf .ole x (cst 0x00000000#32)) (cst 0x3F800000#32) (cst 0xBF800000#32)) (Host.sqrt (addf (mulf x x) (rest y z)))
def ht (x y z : Pl F) : Pl F :=
  select (cmpf .oeq (rest y z) (cst 0x00000000#32)) (cst 0x00000000#32) (Host.divf (subf (hb x y z) x) (hb x y z))
def hv (x y z w : Pl F) : Pl F :=
  select (cmpf .oeq (rest y z) (cst 0x00000000#32)) (cst 0x00000000#32) (Host.divf w (subf x (hb x y z)))

/-- The vector's entry of each row, and a row repeated. -/
def col (v : V3 F) : M3 F := broadcastInDim S3x3x80x128 ![0, 1, 2, 3] bcast_S3x1x80x128_S3x3x80x128_0_1_2_3 (broadcastInDim S3x1x80x128 ![0, 2, 3] bcast_S3x80x128_S3x1x80x128_0_2_3 v)
def row (v : V3 F) : M3 F := broadcastInDim S3x3x80x128 ![0, 1, 2, 3] bcast_S1x3x80x128_S3x3x80x128_0_1_2_3 (broadcastInDim S1x3x80x128 ![1, 2, 3] bcast_S3x80x128_S1x3x80x128_1_2_3 v)
def three (x : Pl F) : V3 F := broadcastInDim S3x80x128 ![0, 1, 2] bcast_S1x80x128_S3x80x128_0_1_2 (broadcastInDim S1x80x128 ![1, 2] bcast_S80x128_S1x80x128_1_2 x)
def sum0 (X : M3 F) : V3 F := Host.reduceAdd X (constant S_ .f32 0x00000000#32) reducesTo_S3x3x80x128_S3x80x128_d0 h_S_
def refl (t : Pl F) (v : V3 F) (X : M3 F) : M3 F := subf X (mulf (col v) (row (mulf (three t) (sum0 (mulf (col v) X)))))

def noise9 (b : FVec F S9x80x128 .f32) : M3 F := shapeCast S3x3x80x128 b shapeCasts_S9x80x128_S3x3x80x128
def t0 (N : M3 F) : Pl F := ht (e00 N) (e10 N) (e20 N)
def v0 (N : M3 F) : V3 F := st one (hv (e00 N) (e10 N) (e20 N) (e10 N)) (hv (e00 N) (e10 N) (e20 N) (e20 N))
def N1 (N : M3 F) : M3 F := refl (t0 N) (v0 N) N
def t1 (N : M3 F) : Pl F := ht (e11 (N1 N)) (e21 (N1 N)) zero
def v1 (N : M3 F) : V3 F := st zero one (hv (e11 (N1 N)) (e21 (N1 N)) zero (e21 (N1 N)))
def orth (N : M3 F) : M3 F := refl (t0 N) (v0 N) (refl (t1 N) (v1 N) eye)
def sign (f : FVec F S1x80x128 .f32) : Pl F :=
  select (cmpf .olt (shapeCast S80x128 f shapeCasts_S1x80x128_S80x128) (cst 0x3F000000#32)) (cst 0xBF800000#32) (cst 0x3F800000#32)
def diag1 (s : Pl F) : M3 F := rows (st s zero zero) (st zero one zero) (st zero zero one)
def Q (b : FVec F S9x80x128 .f32) (f : FVec F S1x80x128 .f32) : M3 F := mm (diag1 (sign f)) (orth (noise9 b))
def zero3 : M3 F := broadcastInDim S3x3x80x128 ![] bcast_S_S3x3x80x128 (constant S_ .f32 0x00000000#32)

set_option maxHeartbeats 1000000 in
theorem step_eq (j : ℕ) (s : Step.State F) : Step.step j s
    = ⟨choose (active s.main_v31_5) (A3 s.main_v31_5) s.main_v31_5,
      choose (alone s.main_v31_0) (Q s.main_v31_2 s.main_v31_1) (choose (active s.main_v31_5) (W3 s.main_v31_5 s.main_v31_6) s.main_v31_6),
      s.main_v31_0, s.main_v31_1, s.main_v31_2⟩ := rfl

set_option maxHeartbeats 1000000 in
theorem init_eq (a : FVec F S16x80x128 .f32) (b : FVec F S9x80x128 .f32) (f : FVec F S1x80x128 .f32) :
    Step.init a f b = ⟨choose (alone a) zero3 (sym (cov9 a)), eye, a, f, b⟩ := rfl

/-! The order of the eigenvalues. -/

def bit (x : IVec S80x128 1) : Pl F := uitofp .f32 x
def le (x y : Pl F) : Pl F := bit (cmpf .ole x y)
def lt (x y : Pl F) : Pl F := bit (cmpf .olt x y)
/-- Which value comes before which, how many come before each, and the values' places. -/
def before (a b c : Pl F) : M3 F := rows (st zero (le a b) (le a c)) (st (lt b a) zero (le b c)) (st (lt c a) (lt c b) zero)
def isk (x : BitVec 32) (r : V3 F) : V3 F := uitofp .f32 (cmpf .oeq r (broadcastInDim S3x80x128 ![] bcast_S_S3x80x128 (constant S_ .f32 x)))
def place (r : V3 F) : M3 F := rows (isk 0x00000000#32 r) (isk 0x3F800000#32 r) (isk 0x40000000#32 r)
def ranked (A : M3 F) : M3 F := place (sum0 (before (e00 A) (e11 A) (e22 A)))
def outR (A V : M3 F) : FVec F S9x80x128 .f32 := shapeCast S9x80x128 (tp (mm V (tp (ranked A)))) shapeCasts_S3x3x80x128_S9x80x128

set_option maxHeartbeats 1000000 in
theorem res_eq (s : Step.State F) : Step.R_main_v89 s = outR s.main_v31_5 s.main_v31_6 := rfl

end Cert.Proof.Reference2Ideal

end
-- ==== Proof.Read2.lean ====
/-
  The second reference's planes and matrices at a point, over the extended reals.
-/
module

public import proofs.«01_k».proof.Proof.Ref2
public import Idealize.ShloMosaic.Lib.Pointwise

@[expose] public section

set_option maxRecDepth 16384

noncomputable section

namespace Cert.Proof.Reference2Ideal

open Cert.Reference2Ideal Cert.Reference2Ideal.Gen
open Idealize.ShloMosaic

theorem u1 (P : Prop) [Decidable P] : (FloatOps.uitofp (F := Ideal) FTy.f32 (BitVec.ofBool (decide P)) : Ideal .f32) = if P then 1 else 0 := by
  show (((BitVec.ofBool (decide P)).toNat : ℝ) : EReal) = _
  split_ifs with h <;> simp [h]

variable (r : Fin 80) (c : Fin 128) (i j : Fin 3)

theorem e00_at (X : M3 Ideal) : e00 X (ix2 r c) = X (ix4 0 0 r c) := by pointwise [e00]
theorem e01_at (X : M3 Ideal) : e01 X (ix2 r c) = X (ix4 0 1 r c) := by pointwise [e01]
theorem e02_at (X : M3 Ideal) : e02 X (ix2 r c) = X (ix4 0 2 r c) := by pointwise [e02]
theorem e10_at (X : M3 Ideal) : e10 X (ix2 r c) = X (ix4 1 0 r c) := by pointwise [e10]
theorem e11_at (X : M3 Ideal) : e11 X (ix2 r c) = X (ix4 1 1 r c) := by pointwise [e11]
theorem e12_at (X : M3 Ideal) : e12 X (ix2 r c) = X (ix4 1 2 r c) := by pointwise [e12]
theorem e20_at (X : M3 Ideal) : e20 X (ix2 r c) = X (ix4 2 0 r c) := by pointwise [e20]
theorem e21_at (X : M3 Ideal) : e21 X (ix2 r c) = X (ix4 2 1 r c) := by pointwise [e21]
theorem e22_at (X : M3 Ideal) : e22 X (ix2 r c) = X (ix4 2 2 r c) := by pointwise [e22]

theorem st0_at (x y z : Pl Ideal) : st x y z (ix3 0 r c) = x (ix2 r c) := by pointwise [st, up3] <;> rfl
theorem st1_at (x y z : Pl Ideal) : st x y z (ix3 1 r c) = y (ix2 r c) := by pointwise [st, up3] <;> rfl
theorem st2_at (x y z : Pl Ideal) : st x y z (ix3 2 r c) = z (ix2 r c) := by pointwise [st, up3] <;> rfl
theorem rows0_at (x y z : V3 Ideal) : rows x y z (ix4 0 j r c) = x (ix3 j r c) := by pointwise [rows, up4] <;> rfl
theorem rows1_at (x y z : V3 Ideal) : rows x y z (ix4 1 j r c) = y (ix3 j r c) := by pointwise [rows, up4] <;> rfl
theorem rows2_at (x y z : V3 Ideal) : rows x y z (ix4 2 j r c) = z (ix3 j r c) := by pointwise [rows, up4] <;> rfl

theorem mm_at (X Y : M3 Ideal) : mm X Y (ix4 i j r c) = X (ix4 i 0 r c) * Y (ix4 0 j r c) + X (ix4 i 1 r c) * Y (ix4 1 j r c) + X (ix4 i 2 r c) * Y (ix4 2 j r c) := by
  pointwise [mm]
  rw [Fin.sum_univ_three]
theorem tp_at (X : M3 Ideal) : tp X (ix4 i j r c) = X (ix4 j i r c) := by pointwise [tp]
theorem sum0_at (X : M3 Ideal) : sum0 X (ix3 j r c) = X (ix4 0 j r c) + X (ix4 1 j r c) + X (ix4 2 j r c) := by
  pointwise [sum0]
  rw [Fin.sum_univ_three]
theorem total_at (X : M3 Ideal) : total X (ix2 r c) = (X (ix4 0 0 r c) * X (ix4 0 0 r c) + X (ix4 1 0 r c) * X (ix4 1 0 r c) + X (ix4 2 0 r c) * X (ix4 2 0 r c))
    + (X (ix4 0 1 r c) * X (ix4 0 1 r c) + X (ix4 1 1 r c) * X (ix4 1 1 r c) + X (ix4 2 1 r c) * X (ix4 2 1 r c))
    + (X (ix4 0 2 r c) * X (ix4 0 2 r c) + X (ix4 1 2 r c) * X (ix4 1 2 r c) + X (ix4 2 2 r c) * X (ix4 2 2 r c)) := by
  pointwise [total]
  simp only [Fin.sum_univ_three]
theorem col_at (v : V3 Ideal) : col v (ix4 i j r c) = v (ix3 i r c) := by pointwise [col]
theorem row_at (v : V3 Ideal) : row v (ix4 i j r c) = v (ix3 j r c) := by pointwise [row]
theorem three_at (x : Pl Ideal) : three x (ix3 i r c) = x (ix2 r c) := by pointwise [three]
theorem refl_at (t : Pl Ideal) (v : V3 Ideal) (X : M3 Ideal) : refl t v X (ix4 i j r c)
    = X (ix4 i j r c) - v (ix3 i r c) * (t (ix2 r c) * (v (ix3 0 r c) * X (ix4 0 j r c) + v (ix3 1 r c) * X (ix4 1 j r c) + v (ix3 2 r c) * X (ix4 2 j r c))) := by
  show X (ix4 i j r c) - col v (ix4 i j r c) * row _ (ix4 i j r c) = _
  rw [col_at, row_at]
  show _ - _ * (three t (ix3 j r c) * sum0 _ (ix3 j r c)) = _
  rw [three_at, sum0_at]
  show _ - _ * (_ * (col v _ * _ + col v _ * _ + col v _ * _)) = _
  simp only [col_at]
theorem choose_at (b : IVec S80x128 1) (X Y : M3 Ideal) : choose b X Y (ix4 i j r c) = if b (ix2 r c) = 1#1 then X (ix4 i j r c) else Y (ix4 i j r c) := by
  pointwise [choose]
  rfl
theorem cst_at (x : BitVec 32) : cst (F := Ideal) x (ix2 r c) = Ideal.ofBits .f32 x := by pointwise [cst]
theorem sym_at (X : M3 Ideal) : sym X (ix4 i j r c) = (X (ix4 i j r c) + X (ix4 j i r c)) * Ideal.ofBits .f32 0x3F000000#32 := by pointwise [sym, tp]
theorem zero3_at : zero3 (F := Ideal) (ix4 i j r c) = 0 := by pointwise [zero3]
theorem isk_at (x : BitVec 32) (v : V3 Ideal) : isk x v (ix3 i r c) = if v (ix3 i r c) = Ideal.ofBits .f32 x then 1 else 0 := by
  pointwise [isk]
  exact u1 _
theorem le_at (x y : Pl Ideal) : le x y (ix2 r c) = if x (ix2 r c) ≤ y (ix2 r c) then 1 else 0 := by
  pointwise [le, bit]
  exact u1 _
theorem lt_at (x y : Pl Ideal) : lt x y (ix2 r c) = if x (ix2 r c) < y (ix2 r c) then 1 else 0 := by
  pointwise [lt, bit]
  exact u1 _
theorem alone_at (a : FVec Ideal S16x80x128 .f32) : alone a (ix2 r c) = BitVec.ofBool (decide (a (ix3 9 r c) ≤ Ideal.ofBits .f32 0x3F800000#32)) := by pointwise [alone, cst]
theorem sign_at (a : FVec Ideal S1x80x128 .f32) : sign a (ix2 r c) = if a (ix3 0 r c) < Ideal.ofBits .f32 0x3F000000#32 then Ideal.ofBits .f32 0xBF800000#32 else Ideal.ofBits .f32 0x3F800000#32 := by pointwise [sign, cst]
theorem noise9_at (b : FVec Ideal S9x80x128 .f32) : noise9 b (ix4 i j r c) = b (ix3 ⟨i * 3 + j, by omega⟩ r c) := by
  pointwise [noise9]
theorem cov9_at (b : FVec Ideal S16x80x128 .f32) : cov9 b (ix4 i j r c) = b (ix3 ⟨i * 3 + j, by omega⟩ r c) := by
  pointwise [cov9]
theorem outR_at (A V : M3 Ideal) (k : Fin 9) : outR A V (ix3 k r c) = mm V (tp (ranked A)) (ix4 ⟨k % 3, by omega⟩ ⟨k / 3, by omega⟩ r c) := by
  pointwise [outR, tp]

end Cert.Proof.Reference2Ideal

end
-- ==== Proof.Jac.lean ====
/-
  One plane rotation of a symmetric 3x3 matrix over the reals: the entries the kernel computes are those of the product
  of the transposed rotation, the matrix and the rotation.
-/
module

public import Idealize.ShloMosaic.Lib.Pointwise

@[expose] public section

noncomputable section

namespace Cert.Proof.Jac

open Idealize.ShloMosaic

/-! ## The angle -/

/-- The tangent of the angle from its double's cotangent. -/
def tn (x : ℝ) : ℝ := if 0 ≤ x then 1 / (x + Real.sqrt (1 + x * x)) else 1 / (x - Real.sqrt (1 + x * x))
def tg (p q o : ℝ) : ℝ := if o = 0 then 0 else tn ((q - p) / (2 * o))
def cs (t : ℝ) : ℝ := 1 / Real.sqrt (1 + t * t)

theorem lt_hyp (x : ℝ) : |x| < Real.sqrt (1 + x * x) := by
  rw [← Real.sqrt_sq_eq_abs]
  exact Real.sqrt_lt_sqrt (sq_nonneg x) (by nlinarith)

theorem tn_eq (x : ℝ) : tn x * tn x + 2 * x * tn x = 1 := by
  have h := lt_hyp x
  have hs : Real.sqrt (1 + x * x) * Real.sqrt (1 + x * x) = 1 + x * x := Real.mul_self_sqrt (by nlinarith [mul_self_nonneg x])
  have key : ∀ d : ℝ, d ≠ 0 → 1 + 2 * x * d = d * d → 1 / d * (1 / d) + 2 * x * (1 / d) = 1 := by
    intro d hd e
    have hd2 : d * d ≠ 0 := mul_ne_zero hd hd
    have : 1 / d * (1 / d) + 2 * x * (1 / d) = (1 + 2 * x * d) / (d * d) := by field_simp
    rw [this, e, div_self hd2]
  unfold tn
  split_ifs with hx
  · exact key _ (by have := (abs_lt.mp h).1; linarith) (by linear_combination -hs)
  · exact key _ (by have := (abs_lt.mp h).2; linarith) (by linear_combination -hs)

theorem tg_eq (p q o : ℝ) : o * (1 - tg p q o * tg p q o) = tg p q o * (q - p) := by
  unfold tg
  split_ifs with h
  · simp [h]
  · have e := tn_eq ((q - p) / (2 * o))
    have e2 : 2 * o * ((q - p) / (2 * o)) = q - p := by field_simp
    linear_combination (-o) * e + tn ((q - p) / (2 * o)) * e2

theorem cs_eq (t : ℝ) : cs t * cs t * (1 + t * t) = 1 := by
  have h : 0 < 1 + t * t := by nlinarith [mul_self_nonneg t]
  have hs : Real.sqrt (1 + t * t) * Real.sqrt (1 + t * t) = 1 + t * t := Real.mul_self_sqrt h.le
  have : Real.sqrt (1 + t * t) ≠ 0 := (Real.sqrt_pos.mpr h).ne'
  unfold cs
  rw [div_mul_div_comm, hs, one_mul, div_mul_cancel₀ _ h.ne']

/-! ## Products of matrices -/

abbrev M := Fin 3 → Fin 3 → ℝ

def mul (x y : M) : M := fun i j => x i 0 * y 0 j + x i 1 * y 1 j + x i 2 * y 2 j
def tr (x : M) : M := fun i j => x j i
def sy (a00 a01 a02 a11 a12 a22 : ℝ) : M := ![![a00, a01, a02], ![a01, a11, a12], ![a02, a12, a22]]

def j02 (c s : ℝ) : M := ![![c, 0, s], ![0, 1, 0], ![-s, 0, c]]
def j12 (c s : ℝ) : M := ![![1, 0, 0], ![0, c, s], ![0, -s, c]]
def j01 (c s : ℝ) : M := ![![c, s, 0], ![-s, c, 0], ![0, 0, 1]]

variable (a00 a01 a02 a11 a12 a22 c t : ℝ)

theorem turn02 (h1 : c * c * (1 + t * t) = 1) (h2 : a02 * (1 - t * t) = t * (a22 - a00)) :
    mul (tr (j02 c (t * c))) (mul (sy a00 a01 a02 a11 a12 a22) (j02 c (t * c)))
      = sy (a00 - t * a02) (c * a01 - t * c * a12) 0 a11 (t * c * a01 + c * a12) (a22 + t * a02) := by
  funext i j
  fin_cases i <;> fin_cases j <;> simp [mul, tr, sy, j02] <;>
    first
    | ring1
    | linear_combination (a00 - t * a02) * h1 - c * c * t * h2
    | linear_combination (a22 + t * a02) * h1 + c * c * t * h2
    | linear_combination c * c * h2

theorem turn12 (h1 : c * c * (1 + t * t) = 1) (h2 : a12 * (1 - t * t) = t * (a22 - a11)) :
    mul (tr (j12 c (t * c))) (mul (sy a00 a01 a02 a11 a12 a22) (j12 c (t * c)))
      = sy a00 (c * a01 - t * c * a02) (t * c * a01 + c * a02) (a11 - t * a12) 0 (a22 + t * a12) := by
  funext i j
  fin_cases i <;> fin_cases j <;> simp [mul, tr, sy, j12] <;>
    first
    | ring1
    | linear_combination (a11 - t * a12) * h1 - c * c * t * h2
    | linear_combination (a22 + t * a12) * h1 + c * c * t * h2
    | linear_combination c * c * h2

theorem turn01 (h1 : c * c * (1 + t * t) = 1) (h2 : a01 * (1 - t * t) = t * (a11 - a00)) :
    mul (tr (j01 c (t * c))) (mul (sy a00 a01 a02 a11 a12 a22) (j01 c (t * c)))
      = sy (a00 - t * a01) 0 (c * a02 - t * c * a12) (a11 + t * a01) (t * c * a02 + c * a12) a22 := by
  funext i j
  fin_cases i <;> fin_cases j <;> simp [mul, tr, sy, j01] <;>
    first
    | ring1
    | linear_combination (a00 - t * a01) * h1 - c * c * t * h2
    | linear_combination (a11 + t * a01) * h1 + c * c * t * h2
    | linear_combination c * c * h2

/-! ## On extended reals that are real -/

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem sqrt_coe (a : ℝ) (ha : 0 ≤ a) : Ideal.sqrt (a : EReal) = (Real.sqrt a : EReal) := by
  show (if a < 0 then (⊥ : EReal) else (Real.sqrt a : EReal)) = _
  rw [if_neg (not_lt.mpr ha)]

theorem rsqrt_coe (a : ℝ) (ha : 0 < a) : Ideal.rsqrt (a : EReal) = ((Real.sqrt a)⁻¹ : ℝ) := by
  show (if a < 0 then (⊥ : EReal) else if a = 0 then ⊤ else (((Real.sqrt a)⁻¹ : ℝ) : EReal)) = _
  rw [if_neg (not_lt.mpr ha.le), if_neg ha.ne']

theorem hyp_pos (x : ℝ) : 0 < 1 + x * x := by nlinarith [mul_self_nonneg x]

theorem sq_hyp (x : ℝ) : Ideal.sqrt (1 + (x : EReal) * x) = (Real.sqrt (1 + x * x) : ℝ) := by
  rw [← EReal.coe_mul, ← EReal.coe_one, ← EReal.coe_add]
  exact sqrt_coe _ (hyp_pos x).le

/-- The kernel's tangent. -/
theorem tan_kernel (x : ℝ) : (if (0 : EReal) ≤ (x : EReal) then Ideal.div 1 ((x : EReal) + Ideal.sqrt (1 + (x : EReal) * x)) else Ideal.div 1 ((x : EReal) - Ideal.sqrt (1 + (x : EReal) * x)))
    = (tn x : EReal) := by
  have h := lt_hyp x
  rw [sq_hyp, ← EReal.coe_add, ← EReal.coe_sub, ← EReal.coe_one, div_coe _ _ (by have := (abs_lt.mp h).1; linarith),
    div_coe _ _ (by have := (abs_lt.mp h).2; linarith)]
  unfold tn
  by_cases hx : 0 ≤ x
  · rw [if_pos hx, if_pos (by exact_mod_cast hx)]
  · rw [if_neg hx, if_neg (by exact_mod_cast hx)]

/-- The reference's tangent. -/
theorem tan_ref (x : ℝ) : Ideal.div (if (0 : EReal) ≤ (x : EReal) then 1 else -1) (max (x : EReal) (-(x : EReal)) + Ideal.sqrt (1 + (x : EReal) * x))
    = (tn x : EReal) := by
  have h := lt_hyp x
  have hm : max (x : EReal) (-(x : EReal)) = ((|x| : ℝ) : EReal) := by
    rw [← EReal.coe_neg, ← EReal.coe_strictMono.monotone.map_max]; rfl
  rw [sq_hyp, hm, ← EReal.coe_add, ← EReal.coe_one]
  have hd : |x| + Real.sqrt (1 + x * x) ≠ 0 := by have := abs_nonneg x; linarith
  unfold tn
  by_cases hx : 0 ≤ x
  · rw [if_pos hx, if_pos (by exact_mod_cast hx), div_coe _ _ hd, abs_of_nonneg hx]
  · rw [if_neg hx, if_neg (by exact_mod_cast hx), ← EReal.coe_neg, div_coe _ _ hd]
    refine congrArg (fun y : ℝ => (y : EReal)) ?_
    have hx' := not_le.mp hx
    rw [abs_of_neg hx'] at hd ⊢
    have hd2 : x - Real.sqrt (1 + x * x) ≠ 0 := fun e => hd (by linarith)
    rw [div_eq_div_iff hd hd2]; ring

theorem cos_kernel (t : ℝ) : Ideal.rsqrt (1 + (t : EReal) * t) = (cs t : EReal) := by
  rw [← EReal.coe_mul, ← EReal.coe_one, ← EReal.coe_add, rsqrt_coe _ (hyp_pos t), cs, one_div]

theorem cos_ref (t : ℝ) : Ideal.div 1 (Ideal.sqrt (1 + (t : EReal) * t)) = (cs t : EReal) := by
  rw [sq_hyp, ← EReal.coe_one, div_coe _ _ (Real.sqrt_pos.mpr (hyp_pos t)).ne', cs]

theorem cot_coe (p q o : ℝ) (h : o ≠ 0) : Ideal.div ((q : EReal) - p) (((2 : ℝ) : EReal) * o) = (((q - p) / (2 * o) : ℝ) : EReal) := by
  rw [← EReal.coe_sub, ← EReal.coe_mul, div_coe _ _ (by simpa using h)]

/-! ## Squares -/

theorem sq_nonneg' (x : EReal) : 0 ≤ x * x := by
  induction x using EReal.rec with
  | bot => simp
  | top => simp
  | coe x => rw [← EReal.coe_mul]; exact_mod_cast mul_self_nonneg x

theorem real_of_sq (x : EReal) (h : x * x < ⊤) : ∃ r : ℝ, x = r := by
  induction x using EReal.rec with
  | bot => simp at h
  | top => simp at h
  | coe x => exact ⟨x, rfl⟩

theorem lt_left {a b : EReal} (hb : 0 ≤ b) (h : a + b < ⊤) : a < ⊤ := lt_of_le_of_lt (le_add_of_nonneg_right hb) h
theorem lt_right {a b : EReal} (ha : 0 ≤ a) (h : a + b < ⊤) : b < ⊤ := lt_of_le_of_lt (le_add_of_nonneg_left ha) h

end Cert.Proof.Jac

end
-- ==== Proof.Rot.lean ====
/-
  One sweep at a lane: where the matrix is real, the kernel's entries and the reference's matrix products are the same
  reals.
-/
module

public import proofs.«01_k».proof.Proof.Pure2
public import proofs.«01_k».proof.Proof.Read2
public import proofs.«01_k».proof.Proof.Jac

@[expose] public section

set_option maxRecDepth 16384

noncomputable section

namespace Cert.Proof.Kernel2Ideal

open Cert.Kernel2Ideal Cert.Kernel2Ideal.Gen
open Idealize.ShloMosaic
open Cert.Proof.Jac (tn tg cs M mul tr sy)

theorem bit_ne (P : Prop) [Decidable P] : (BitVec.ofBool (decide P) = 1#1) = P := by
  by_cases h : P <;> simp [h]

theorem b2 : Ideal.ofBits .f32 0x40000000#32 = ((2 : ℝ) : EReal) := by
  simp [Ideal.ofBits, Ideal.ieee, -EReal.coe_mul]
  norm_num

theorem b1 : Ideal.ofBits .f32 0x3F800000#32 = 1 := by
  simp [Ideal.ofBits, Ideal.ieee, -EReal.coe_mul]
  norm_num

theorem b0 : Ideal.ofBits .f32 0x00000000#32 = 0 := by
  simp [Ideal.ofBits, Ideal.ieee, -EReal.coe_mul]

theorem bm1 : Ideal.ofBits .f32 0xBF800000#32 = -1 := by
  simp [Ideal.ofBits, Ideal.ieee, -EReal.coe_mul]
  norm_num

def St.mp {α β : Type} (f : α → β) (s : St α) : St β :=
  ⟨f s.a00, f s.a01, f s.a02, f s.a11, f s.a12, f s.a22, f s.v00, f s.v01, f s.v02, f s.v10, f s.v11, f s.v12, f s.v20, f s.v21, f s.v22⟩

variable (r : Fin 80) (c : Fin 128)

/-- A state at a lane. -/
abbrev lane (s : St (Ln Ideal)) : St EReal := s.mp (fun p => p (ix2 r c))
def St.co (x : St ℝ) : St EReal := x.mp (fun p : ℝ => (p : EReal))

theorem kf_at (x : BitVec 32) : kf (F := Ideal) x (ix2 r c) = Ideal.ofBits .f32 x := rfl

theorem isz_at (o : Ln Ideal) : (isz o (ix2 r c) = 1#1) = (o (ix2 r c) = 0) := by
  show (BitVec.ofBool (decide (o (ix2 r c) = Ideal.ofBits .f32 0x00000000#32)) = 1#1) = _
  rw [bit_ne, b0]

theorem select_at (b : IVec S80x128 1) (x y : Ln Ideal) : select b x y (ix2 r c) = if b (ix2 r c) = 1#1 then x (ix2 r c) else y (ix2 r c) := rfl

theorem add_at (x y : Ln Ideal) : addf x y (ix2 r c) = x (ix2 r c) + y (ix2 r c) := rfl
theorem sub_at (x y : Ln Ideal) : subf x y (ix2 r c) = x (ix2 r c) - y (ix2 r c) := rfl
theorem mul_at (x y : Ln Ideal) : mulf x y (ix2 r c) = x (ix2 r c) * y (ix2 r c) := rfl
theorem div_at (x y : Ln Ideal) : divf x y (ix2 r c) = Ideal.div (x (ix2 r c)) (y (ix2 r c)) := rfl

theorem hyp_at (x : Ln Ideal) : hyp x (ix2 r c) = Ideal.sqrt (1 + x (ix2 r c) * x (ix2 r c)) := by
  show Ideal.sqrt (Ideal.ofBits .f32 0x3F800000#32 + _) = _
  rw [b1]; rfl

theorem tan0_at (x : Ln Ideal) : tan0 x (ix2 r c) = if 0 ≤ x (ix2 r c) then Ideal.div 1 (x (ix2 r c) + Ideal.sqrt (1 + x (ix2 r c) * x (ix2 r c)))
    else Ideal.div 1 (x (ix2 r c) - Ideal.sqrt (1 + x (ix2 r c) * x (ix2 r c))) := by
  unfold tan0
  rw [select_at, div_at, div_at, add_at, sub_at, hyp_at, kf_at, b1]
  show (if BitVec.ofBool (decide (Ideal.ofBits .f32 0x00000000#32 ≤ x (ix2 r c))) = 1#1 then _ else _) = _
  simp only [bit_ne, b0]

theorem cos0_at (t : Ln Ideal) : cos0 t (ix2 r c) = Ideal.rsqrt (1 + t (ix2 r c) * t (ix2 r c)) := by
  show Ideal.rsqrt (Ideal.ofBits .f32 0x3F800000#32 + _) = _
  rw [b1]; rfl

section
variable {p q o : Ln Ideal} {P Q O : ℝ} (hp : p (ix2 r c) = (P : EReal)) (hq : q (ix2 r c) = (Q : EReal)) (ho : o (ix2 r c) = (O : EReal))
include hp hq ho

theorem tan_tau (h : O ≠ 0) : tan0 (tau p q o) (ix2 r c) = (tn ((Q - P) / (2 * O)) : ℝ) := by
  have e : tau p q o (ix2 r c) = (((Q - P) / (2 * O) : ℝ) : EReal) := by
    unfold tau
    rw [div_at, sub_at, mul_at, kf_at, b2, hp, hq, ho]
    exact Jac.cot_coe P Q O h
  rw [tan0_at, e]
  exact Jac.tan_kernel _

theorem rt_at : rt p q o (ix2 r c) = (tg P Q O : ℝ) := by
  unfold rt tg
  rw [select_at]
  simp only [isz_at, ho, kf_at, b0]
  by_cases h : O = 0
  · rw [if_pos (by exact_mod_cast h), if_pos h]; rfl
  · rw [if_neg (by exact_mod_cast h), if_neg h, tan_tau r c hp hq ho h]

theorem rc_at : rc p q o (ix2 r c) = (cs (tg P Q O) : ℝ) := by
  unfold rc tg
  rw [select_at]
  simp only [isz_at, ho, kf_at, b1]
  by_cases h : O = 0
  · rw [if_pos (by exact_mod_cast h), if_pos h]
    simp [cs]
  · rw [if_neg (by exact_mod_cast h), if_neg h, cos0_at, tan_tau r c hp hq ho h, Jac.cos_kernel]

theorem rs_at : rs p q o (ix2 r c) = (tg P Q O * cs (tg P Q O) : ℝ) := by
  unfold rs tg
  rw [select_at]
  simp only [isz_at, ho, kf_at, b0]
  by_cases h : O = 0
  · rw [if_pos (by exact_mod_cast h), if_pos h]
    simp
  · rw [if_neg (by exact_mod_cast h), if_neg h, mul_at, cos0_at, tan_tau r c hp hq ho h, Jac.cos_kernel, EReal.coe_mul]
end

/-! The three rotations over the reals. -/

def x02 (s : St ℝ) : St ℝ :=
  let t := tg s.a00 s.a22 s.a02
  let k := cs t
  ⟨s.a00 - t * s.a02, k * s.a01 - t * k * s.a12, 0, s.a11, t * k * s.a01 + k * s.a12, s.a22 + t * s.a02,
    k * s.v00 - t * k * s.v02, s.v01, t * k * s.v00 + k * s.v02, k * s.v10 - t * k * s.v12, s.v11, t * k * s.v10 + k * s.v12, k * s.v20 - t * k * s.v22, s.v21, t * k * s.v20 + k * s.v22⟩
def x12 (s : St ℝ) : St ℝ :=
  let t := tg s.a11 s.a22 s.a12
  let k := cs t
  ⟨s.a00, k * s.a01 - t * k * s.a02, t * k * s.a01 + k * s.a02, s.a11 - t * s.a12, 0, s.a22 + t * s.a12,
    s.v00, k * s.v01 - t * k * s.v02, t * k * s.v01 + k * s.v02, s.v10, k * s.v11 - t * k * s.v12, t * k * s.v11 + k * s.v12, s.v20, k * s.v21 - t * k * s.v22, t * k * s.v21 + k * s.v22⟩
def x01 (s : St ℝ) : St ℝ :=
  let t := tg s.a00 s.a11 s.a01
  let k := cs t
  ⟨s.a00 - t * s.a01, 0, k * s.a02 - t * k * s.a12, s.a11 + t * s.a01, t * k * s.a02 + k * s.a12, s.a22,
    k * s.v00 - t * k * s.v01, t * k * s.v00 + k * s.v01, s.v02, k * s.v10 - t * k * s.v11, t * k * s.v10 + k * s.v11, s.v12, k * s.v20 - t * k * s.v21, t * k * s.v20 + k * s.v21, s.v22⟩

theorem rot02_lane {s : St (Ln Ideal)} {x : St ℝ} (h : lane r c s = x.co) : lane r c (rot02 s) = (x02 x).co := by
  simp only [St.mp, St.co, St.mk.injEq] at h
  obtain ⟨h1, h2, h3, h4, h5, h6, g1, g2, g3, g4, g5, g6, g7, g8, g9⟩ := h
  simp only [St.mp, St.co, St.mk.injEq, rot02, x02, mixm, mixp, add_at, sub_at, mul_at, kf_at, b0, rt_at r c h1 h6 h3, rc_at r c h1 h6 h3, rs_at r c h1 h6 h3,
    h1, h2, h3, h4, h5, h6, g1, g2, g3, g4, g5, g6, g7, g8, g9, EReal.coe_add, EReal.coe_sub, EReal.coe_mul, EReal.coe_zero, and_self]

theorem rot12_lane {s : St (Ln Ideal)} {x : St ℝ} (h : lane r c s = x.co) : lane r c (rot12 s) = (x12 x).co := by
  simp only [St.mp, St.co, St.mk.injEq] at h
  obtain ⟨h1, h2, h3, h4, h5, h6, g1, g2, g3, g4, g5, g6, g7, g8, g9⟩ := h
  simp only [St.mp, St.co, St.mk.injEq, rot12, x12, mixm, mixp, add_at, sub_at, mul_at, kf_at, b0, rt_at r c h4 h6 h5, rc_at r c h4 h6 h5, rs_at r c h4 h6 h5,
    h1, h2, h3, h4, h5, h6, g1, g2, g3, g4, g5, g6, g7, g8, g9, EReal.coe_add, EReal.coe_sub, EReal.coe_mul, EReal.coe_zero, and_self]

theorem rot01_lane {s : St (Ln Ideal)} {x : St ℝ} (h : lane r c s = x.co) : lane r c (rot01 s) = (x01 x).co := by
  simp only [St.mp, St.co, St.mk.injEq] at h
  obtain ⟨h1, h2, h3, h4, h5, h6, g1, g2, g3, g4, g5, g6, g7, g8, g9⟩ := h
  simp only [St.mp, St.co, St.mk.injEq, rot01, x01, mixm, mixp, add_at, sub_at, mul_at, kf_at, b0, rt_at r c h1 h4 h2, rc_at r c h1 h4 h2, rs_at r c h1 h4 h2,
    h1, h2, h3, h4, h5, h6, g1, g2, g3, g4, g5, g6, g7, g8, g9, EReal.coe_add, EReal.coe_sub, EReal.coe_mul, EReal.coe_zero, and_self]

/-! The same in matrices. -/

def St.A (x : St ℝ) : M := sy x.a00 x.a01 x.a02 x.a11 x.a12 x.a22
def St.V (x : St ℝ) : M := ![![x.v00, x.v01, x.v02], ![x.v10, x.v11, x.v12], ![x.v20, x.v21, x.v22]]

theorem x02_A (x : St ℝ) : mul (tr (Jac.j02 (cs (tg x.a00 x.a22 x.a02)) (tg x.a00 x.a22 x.a02 * cs (tg x.a00 x.a22 x.a02)))) (mul x.A (Jac.j02 (cs (tg x.a00 x.a22 x.a02)) (tg x.a00 x.a22 x.a02 * cs (tg x.a00 x.a22 x.a02)))) = (x02 x).A :=
  Jac.turn02 _ _ _ _ _ _ _ _ (Jac.cs_eq _) (Jac.tg_eq _ _ _)
theorem x12_A (x : St ℝ) : mul (tr (Jac.j12 (cs (tg x.a11 x.a22 x.a12)) (tg x.a11 x.a22 x.a12 * cs (tg x.a11 x.a22 x.a12)))) (mul x.A (Jac.j12 (cs (tg x.a11 x.a22 x.a12)) (tg x.a11 x.a22 x.a12 * cs (tg x.a11 x.a22 x.a12)))) = (x12 x).A :=
  Jac.turn12 _ _ _ _ _ _ _ _ (Jac.cs_eq _) (Jac.tg_eq _ _ _)
theorem x01_A (x : St ℝ) : mul (tr (Jac.j01 (cs (tg x.a00 x.a11 x.a01)) (tg x.a00 x.a11 x.a01 * cs (tg x.a00 x.a11 x.a01)))) (mul x.A (Jac.j01 (cs (tg x.a00 x.a11 x.a01)) (tg x.a00 x.a11 x.a01 * cs (tg x.a00 x.a11 x.a01)))) = (x01 x).A :=
  Jac.turn01 _ _ _ _ _ _ _ _ (Jac.cs_eq _) (Jac.tg_eq _ _ _)

theorem x02_V (x : St ℝ) : mul x.V (Jac.j02 (cs (tg x.a00 x.a22 x.a02)) (tg x.a00 x.a22 x.a02 * cs (tg x.a00 x.a22 x.a02))) = (x02 x).V := by
  funext i j
  fin_cases i <;> fin_cases j <;> simp [mul, St.V, x02, Jac.j02] <;> ring1
theorem x12_V (x : St ℝ) : mul x.V (Jac.j12 (cs (tg x.a11 x.a22 x.a12)) (tg x.a11 x.a22 x.a12 * cs (tg x.a11 x.a22 x.a12))) = (x12 x).V := by
  funext i j
  fin_cases i <;> fin_cases j <;> simp [mul, St.V, x12, Jac.j12] <;> ring1
theorem x01_V (x : St ℝ) : mul x.V (Jac.j01 (cs (tg x.a00 x.a11 x.a01)) (tg x.a00 x.a11 x.a01 * cs (tg x.a00 x.a11 x.a01))) = (x01 x).V := by
  funext i j
  fin_cases i <;> fin_cases j <;> simp [mul, St.V, x01, Jac.j01] <;> ring1

end Cert.Proof.Kernel2Ideal

namespace Cert.Proof.Reference2Ideal

open Cert.Reference2Ideal Cert.Reference2Ideal.Gen
open Idealize.ShloMosaic
open Cert.Proof.Jac (tn tg cs M mul tr sy)
open Cert.Proof.Kernel2Ideal (St x02 x12 x01 b0 b1 b2 bm1 bit_ne)

variable (r : Fin 80) (c : Fin 128)

/-- A matrix of planes at a point is real. -/
def Is (X : M3 Ideal) (x : M) : Prop := ∀ i j, X (ix4 i j r c) = (x i j : EReal)

theorem all3 {P : Fin 3 → Fin 3 → Prop} (h00 : P 0 0) (h01 : P 0 1) (h02 : P 0 2) (h10 : P 1 0) (h11 : P 1 1) (h12 : P 1 2) (h20 : P 2 0) (h21 : P 2 1) (h22 : P 2 2) : ∀ i j, P i j := by
  intro i j
  fin_cases i <;> fin_cases j <;> assumption

theorem mm_is {X Y : M3 Ideal} {x y : M} (hx : Is r c X x) (hy : Is r c Y y) : Is r c (mm X Y) (mul x y) := by
  intro i j
  rw [mm_at]
  simp only [hx _ _, hy _ _, mul, EReal.coe_add, EReal.coe_mul]

theorem tp_is {X : M3 Ideal} {x : M} (hx : Is r c X x) : Is r c (tp X) (tr x) := by
  intro i j
  rw [tp_at]; exact hx j i

theorem one_at : one (F := Ideal) (ix2 r c) = 1 := by rw [one, cst_at, b1]
theorem zero_at : zero (F := Ideal) (ix2 r c) = 0 := by rw [zero, cst_at, b0]

section
variable {p q o : Pl Ideal} {P Q O : ℝ} (hp : p (ix2 r c) = (P : EReal)) (hq : q (ix2 r c) = (Q : EReal)) (ho : o (ix2 r c) = (O : EReal))
include hp hq ho

theorem tanR_at : tanR p q o (ix2 r c) = (tg P Q O : ℝ) := by
  show (if BitVec.ofBool (decide (o (ix2 r c) = cst (F := Ideal) 0x00000000#32 (ix2 r c))) = 1#1 then cst (F := Ideal) 0x00000000#32 (ix2 r c) else tan1 (hcot p q o) (ix2 r c)) = _
  simp only [bit_ne, cst_at, b0, ho]
  unfold tg
  by_cases h : O = 0
  · rw [if_pos (by exact_mod_cast h), if_pos h]; rfl
  · rw [if_neg (by exact_mod_cast h), if_neg h]
    have e : hcot p q o (ix2 r c) = (((Q - P) / (2 * O) : ℝ) : EReal) := by
      show Ideal.div (q (ix2 r c) - p (ix2 r c)) (cst (F := Ideal) 0x40000000#32 (ix2 r c) * o (ix2 r c)) = _
      rw [cst_at, b2, hp, hq, ho]
      exact Jac.cot_coe P Q O h
    show Ideal.div (if BitVec.ofBool (decide (cst (F := Ideal) 0x00000000#32 (ix2 r c) ≤ hcot p q o (ix2 r c))) = 1#1 then cst (F := Ideal) 0x3F800000#32 (ix2 r c) else cst (F := Ideal) 0xBF800000#32 (ix2 r c))
      (max (hcot p q o (ix2 r c)) (-(hcot p q o (ix2 r c))) + Ideal.sqrt (cst (F := Ideal) 0x3F800000#32 (ix2 r c) + hcot p q o (ix2 r c) * hcot p q o (ix2 r c))) = _
    simp only [bit_ne, cst_at, b0, b1, bm1, e]
    exact Jac.tan_ref _

theorem cosR_at : cosR p q o (ix2 r c) = (cs (tg P Q O) : ℝ) := by
  show Ideal.div (cst (F := Ideal) 0x3F800000#32 (ix2 r c)) (Ideal.sqrt (cst (F := Ideal) 0x3F800000#32 (ix2 r c) + tanR p q o (ix2 r c) * tanR p q o (ix2 r c))) = _
  rw [cst_at, b1, tanR_at r c hp hq ho]
  exact Jac.cos_ref _

theorem sinR_at : sinR p q o (ix2 r c) = (tg P Q O * cs (tg P Q O) : ℝ) := by
  show tanR p q o (ix2 r c) * cosR p q o (ix2 r c) = _
  rw [tanR_at r c hp hq ho, cosR_at r c hp hq ho, EReal.coe_mul]
end

theorem neg_at (x : Pl Ideal) : Host.negf x (ix2 r c) = -(x (ix2 r c)) := rfl

section
variable {p q : Pl Ideal} {k s : ℝ} (hp : p (ix2 r c) = (k : EReal)) (hq : q (ix2 r c) = (s : EReal))
include hp hq
theorem j02_is : Is r c (j02 p q) (Jac.j02 k s) := by
  refine all3 ?_ ?_ ?_ ?_ ?_ ?_ ?_ ?_ ?_ <;>
    simp [j02, rows0_at, rows1_at, rows2_at, st0_at, st1_at, st2_at, one_at, zero_at, neg_at, hp, hq, Jac.j02]
theorem j12_is : Is r c (j12 p q) (Jac.j12 k s) := by
  refine all3 ?_ ?_ ?_ ?_ ?_ ?_ ?_ ?_ ?_ <;>
    simp [j12, rows0_at, rows1_at, rows2_at, st0_at, st1_at, st2_at, one_at, zero_at, neg_at, hp, hq, Jac.j12]
theorem j01_is : Is r c (j01 p q) (Jac.j01 k s) := by
  refine all3 ?_ ?_ ?_ ?_ ?_ ?_ ?_ ?_ ?_ <;>
    simp [j01, rows0_at, rows1_at, rows2_at, st0_at, st1_at, st2_at, one_at, zero_at, neg_at, hp, hq, Jac.j01]
end

variable {A V : M3 Ideal} {x : St ℝ}

theorem J02_is (h : Is r c A x.A) : Is r c (J02 A) (Jac.j02 (cs (tg x.a00 x.a22 x.a02)) (tg x.a00 x.a22 x.a02 * cs (tg x.a00 x.a22 x.a02))) := by
  have hp : e00 A (ix2 r c) = (x.a00 : EReal) := (e00_at r c A).trans (h 0 0)
  have hq : e22 A (ix2 r c) = (x.a22 : EReal) := (e22_at r c A).trans (h 2 2)
  have ho : e02 A (ix2 r c) = (x.a02 : EReal) := (e02_at r c A).trans (h 0 2)
  exact j02_is r c (cosR_at r c hp hq ho) (sinR_at r c hp hq ho)
theorem J12_is (h : Is r c A x.A) : Is r c (J12 A) (Jac.j12 (cs (tg x.a11 x.a22 x.a12)) (tg x.a11 x.a22 x.a12 * cs (tg x.a11 x.a22 x.a12))) := by
  have hp : e11 A (ix2 r c) = (x.a11 : EReal) := (e11_at r c A).trans (h 1 1)
  have hq : e22 A (ix2 r c) = (x.a22 : EReal) := (e22_at r c A).trans (h 2 2)
  have ho : e12 A (ix2 r c) = (x.a12 : EReal) := (e12_at r c A).trans (h 1 2)
  exact j12_is r c (cosR_at r c hp hq ho) (sinR_at r c hp hq ho)
theorem J01_is (h : Is r c A x.A) : Is r c (J01 A) (Jac.j01 (cs (tg x.a00 x.a11 x.a01)) (tg x.a00 x.a11 x.a01 * cs (tg x.a00 x.a11 x.a01))) := by
  have hp : e00 A (ix2 r c) = (x.a00 : EReal) := (e00_at r c A).trans (h 0 0)
  have hq : e11 A (ix2 r c) = (x.a11 : EReal) := (e11_at r c A).trans (h 1 1)
  have ho : e01 A (ix2 r c) = (x.a01 : EReal) := (e01_at r c A).trans (h 0 1)
  exact j01_is r c (cosR_at r c hp hq ho) (sinR_at r c hp hq ho)

theorem A1_is (h : Is r c A x.A) : Is r c (A1 A) (x02 x).A := by
  have := mm_is r c (tp_is r c (J02_is r c h)) (mm_is r c h (J02_is r c h))
  rw [Kernel2Ideal.x02_A] at this
  exact this
theorem A2_is (h : Is r c A x.A) : Is r c (A2 A) (x12 (x02 x)).A := by
  have h1 := A1_is r c h
  have := mm_is r c (tp_is r c (J12_is r c h1)) (mm_is r c h1 (J12_is r c h1))
  rw [Kernel2Ideal.x12_A] at this
  exact this
theorem A3_is (h : Is r c A x.A) : Is r c (A3 A) (x01 (x12 (x02 x))).A := by
  have h1 := A2_is r c h
  have := mm_is r c (tp_is r c (J01_is r c h1)) (mm_is r c h1 (J01_is r c h1))
  rw [Kernel2Ideal.x01_A] at this
  exact this
theorem W3_is (h : Is r c A x.A) (hv : Is r c V x.V) : Is r c (W3 A V) (x01 (x12 (x02 x))).V := by
  have := mm_is r c (mm_is r c (mm_is r c hv (J02_is r c h)) (J12_is r c (A1_is r c h))) (J01_is r c (A2_is r c h))
  rw [Kernel2Ideal.x02_V, Kernel2Ideal.x12_V, Kernel2Ideal.x01_V] at this
  exact this

end Cert.Proof.Reference2Ideal

end
-- ==== Proof.Sweep.lean ====
/-
  The kernel's twelve trips and the reference's twelve steps keep the same matrix and the same vectors at a lane, and
  leave a lane that has no neighbours alone.
-/
module

public import proofs.«01_k».proof.Proof.Rot

@[expose] public section

set_option maxRecDepth 16384

noncomputable section

namespace Cert.Proof.Two

open Idealize.ShloMosaic
open Cert.Proof.Jac (M lt_left lt_right sq_nonneg' real_of_sq)
open Cert.Proof.Kernel2Ideal (St Ln lane act sweep rot01 rot12 rot02 x01 x12 x02 b0 b1 b2 bit_ne)
open Cert.Proof.Reference2Ideal (M3 Pl Is all3 active choose A3 W3 total diagonal)

/-- The tolerance. -/
def tol : ℝ := 14411518 / 144115188075855872

theorem tol_pos : 0 < tol := by unfold tol; norm_num

theorem btol : Ideal.ofBits .f32 0x2EDBE6FE#32 = (tol : EReal) := by
  unfold tol
  simp [Ideal.ofBits, Ideal.ieee, -EReal.coe_mul]
  norm_num

def eA (s : St EReal) : Fin 3 → Fin 3 → EReal := ![![s.a00, s.a01, s.a02], ![s.a01, s.a11, s.a12], ![s.a02, s.a12, s.a22]]
def eV (s : St EReal) : Fin 3 → Fin 3 → EReal := ![![s.v00, s.v01, s.v02], ![s.v10, s.v11, s.v12], ![s.v20, s.v21, s.v22]]

theorem eA_co (x : St ℝ) (i j : Fin 3) : eA x.co i j = (x.A i j : EReal) := by
  fin_cases i <;> fin_cases j <;> rfl
theorem eV_co (x : St ℝ) (i j : Fin 3) : eV x.co i j = (x.V i j : EReal) := by
  fin_cases i <;> fin_cases j <;> rfl

variable (r : Fin 80) (c : Fin 128)

/-- The kernel's state and the reference's at a lane. -/
structure Rel (s : St (Ln Ideal)) (A V : M3 Ideal) : Prop where
  a : ∀ i j, A (ix4 i j r c) = eA (lane r c s) i j
  v : ∀ i j, V (ix4 i j r c) = eV (lane r c s) i j
  re : ∃ v : M, ∀ i j, eV (lane r c s) i j = (v i j : EReal)

theorem act_at (s : St (Ln Ideal)) : act s (ix2 r c) = BitVec.ofBool (decide ((tol : EReal) * ((lane r c s).a00 * (lane r c s).a00 + (lane r c s).a01 * (lane r c s).a01 * (2 : ℝ) + (lane r c s).a02 * (lane r c s).a02 * (2 : ℝ)
      + (lane r c s).a11 * (lane r c s).a11 + (lane r c s).a12 * (lane r c s).a12 * (2 : ℝ) + (lane r c s).a22 * (lane r c s).a22)
    < ((lane r c s).a01 * (lane r c s).a01 + (lane r c s).a02 * (lane r c s).a02 + (lane r c s).a12 * (lane r c s).a12) * (2 : ℝ))) := by
  rw [← btol, ← b2]
  rfl

theorem active_at (A : M3 Ideal) : active A (ix2 r c) = BitVec.ofBool (decide ((tol : EReal) * total A (ix2 r c)
    < total A (ix2 r c) - (A (ix4 0 0 r c) * A (ix4 0 0 r c) + A (ix4 1 1 r c) * A (ix4 1 1 r c) + A (ix4 2 2 r c) * A (ix4 2 2 r c)))) := by
  rw [← btol, ← Reference2Ideal.e00_at r c A, ← Reference2Ideal.e11_at r c A, ← Reference2Ideal.e22_at r c A, ← Reference2Ideal.cst_at r c]
  rfl

/-! ## Where the matrix is real -/

theorem act_real {s : St (Ln Ideal)} {x : St ℝ} (h : lane r c s = x.co) : (act s (ix2 r c) = 1#1) = (tol * (x.a00 * x.a00 + x.a01 * x.a01 * 2 + x.a02 * x.a02 * 2 + x.a11 * x.a11 + x.a12 * x.a12 * 2 + x.a22 * x.a22)
    < (x.a01 * x.a01 + x.a02 * x.a02 + x.a12 * x.a12) * 2) := by
  rw [act_at, bit_ne, h]
  simp only [St.co, St.mp, ← EReal.coe_mul, ← EReal.coe_add, EReal.coe_lt_coe_iff]

theorem active_real {A : M3 Ideal} {x : St ℝ} (h : Is r c A x.A) : (active A (ix2 r c) = 1#1) = (tol * (x.a00 * x.a00 + x.a01 * x.a01 * 2 + x.a02 * x.a02 * 2 + x.a11 * x.a11 + x.a12 * x.a12 * 2 + x.a22 * x.a22)
    < (x.a01 * x.a01 + x.a02 * x.a02 + x.a12 * x.a12) * 2) := by
  rw [active_at, bit_ne, Reference2Ideal.total_at]
  have e00 : A (ix4 0 0 r c) = (x.a00 : EReal) := h 0 0
  have e01 : A (ix4 0 1 r c) = (x.a01 : EReal) := h 0 1
  have e02 : A (ix4 0 2 r c) = (x.a02 : EReal) := h 0 2
  have e10 : A (ix4 1 0 r c) = (x.a01 : EReal) := h 1 0
  have e11 : A (ix4 1 1 r c) = (x.a11 : EReal) := h 1 1
  have e12 : A (ix4 1 2 r c) = (x.a12 : EReal) := h 1 2
  have e20 : A (ix4 2 0 r c) = (x.a02 : EReal) := h 2 0
  have e21 : A (ix4 2 1 r c) = (x.a12 : EReal) := h 2 1
  have e22 : A (ix4 2 2 r c) = (x.a22 : EReal) := h 2 2
  simp only [e00, e01, e02, e10, e11, e12, e20, e21, e22, ← EReal.coe_mul, ← EReal.coe_add, ← EReal.coe_sub, EReal.coe_lt_coe_iff]
  apply propext
  constructor <;> intro h <;> linarith

/-! ## Where it is not -/

theorem two_nonneg : (0 : EReal) ≤ ((2 : ℝ) : EReal) := by exact_mod_cast (by norm_num : (0 : ℝ) ≤ 2)

theorem twice_nonneg (x : EReal) : 0 ≤ x * x * (2 : ℝ) := mul_nonneg (sq_nonneg' x) two_nonneg

theorem of_twice {x : EReal} (h : x * x * (2 : ℝ) < ⊤) : x * x < ⊤ := by
  by_contra hn
  rw [not_lt_top_iff] at hn
  rw [hn, EReal.top_mul_coe_of_pos (by norm_num)] at h
  exact lt_irrefl _ h

theorem not_lt_tol (y : EReal) : ¬ (tol : EReal) * ⊤ < y := by
  rw [EReal.coe_mul_top_of_pos tol_pos]
  exact not_top_lt

theorem act_inf {s : St (Ln Ideal)} (h : ∀ x : St ℝ, (lane r c s).a00 = x.a00 → (lane r c s).a01 = x.a01 → (lane r c s).a02 = x.a02 → (lane r c s).a11 = x.a11 → (lane r c s).a12 = x.a12 → (lane r c s).a22 = x.a22 → False) :
    ¬ act s (ix2 r c) = 1#1 := by
  rw [act_at, bit_ne]
  generalize lane r c s = a at h
  suffices e : a.a00 * a.a00 + a.a01 * a.a01 * (2 : ℝ) + a.a02 * a.a02 * (2 : ℝ) + a.a11 * a.a11 + a.a12 * a.a12 * (2 : ℝ) + a.a22 * a.a22 = ⊤ by
    rw [e]; exact not_lt_tol _
  by_contra hn
  have l6 := lt_top_iff_ne_top.mpr hn
  have n1 := sq_nonneg' a.a00
  have n2 := add_nonneg n1 (twice_nonneg a.a01)
  have n3 := add_nonneg n2 (twice_nonneg a.a02)
  have n4 := add_nonneg n3 (sq_nonneg' a.a11)
  have n5 := add_nonneg n4 (twice_nonneg a.a12)
  have l5 := lt_left (sq_nonneg' a.a22) l6
  have l4 := lt_left (twice_nonneg a.a12) l5
  have l3 := lt_left (sq_nonneg' a.a11) l4
  have l2 := lt_left (twice_nonneg a.a02) l3
  have l1 := lt_left (twice_nonneg a.a01) l2
  obtain ⟨x1, e1⟩ := real_of_sq _ l1
  obtain ⟨x2, e2⟩ := real_of_sq _ (of_twice (lt_right n1 l2))
  obtain ⟨x3, e3⟩ := real_of_sq _ (of_twice (lt_right n2 l3))
  obtain ⟨x4, e4⟩ := real_of_sq _ (lt_right n3 l4)
  obtain ⟨x5, e5⟩ := real_of_sq _ (of_twice (lt_right n4 l5))
  obtain ⟨x6, e6⟩ := real_of_sq _ (lt_right n5 l6)
  exact h ⟨x1, x2, x3, x4, x5, x6, 0, 0, 0, 0, 0, 0, 0, 0, 0⟩ e1 e2 e3 e4 e5 e6

theorem active_inf {s : St (Ln Ideal)} {A : M3 Ideal} (ha : ∀ i j, A (ix4 i j r c) = eA (lane r c s) i j)
    (h : ∀ x : St ℝ, (lane r c s).a00 = x.a00 → (lane r c s).a01 = x.a01 → (lane r c s).a02 = x.a02 → (lane r c s).a11 = x.a11 → (lane r c s).a12 = x.a12 → (lane r c s).a22 = x.a22 → False) :
    ¬ active A (ix2 r c) = 1#1 := by
  rw [active_at, bit_ne]
  suffices e : total A (ix2 r c) = ⊤ by rw [e]; exact not_lt_tol _
  rw [Reference2Ideal.total_at]
  have e00 : A (ix4 0 0 r c) = (lane r c s).a00 := ha 0 0
  have e01 : A (ix4 0 1 r c) = (lane r c s).a01 := ha 0 1
  have e02 : A (ix4 0 2 r c) = (lane r c s).a02 := ha 0 2
  have e11 : A (ix4 1 1 r c) = (lane r c s).a11 := ha 1 1
  have e12 : A (ix4 1 2 r c) = (lane r c s).a12 := ha 1 2
  have e22 : A (ix4 2 2 r c) = (lane r c s).a22 := ha 2 2
  rw [e00, e01, e02, e11, e12, e22]
  generalize lane r c s = a at h
  by_contra hn
  have l := lt_top_iff_ne_top.mpr hn
  have q := sq_nonneg'
  have c0 := add_nonneg (add_nonneg (q a.a00) (q (A (ix4 1 0 r c)))) (q (A (ix4 2 0 r c)))
  have c1 := add_nonneg (add_nonneg (q a.a01) (q a.a11)) (q (A (ix4 2 1 r c)))
  have c2 := add_nonneg (add_nonneg (q a.a02) (q a.a12)) (q a.a22)
  have l2 := lt_right (add_nonneg c0 c1) l
  have l01 := lt_left c2 l
  have l0 := lt_left c1 l01
  have l1 := lt_right c0 l01
  obtain ⟨x1, e1⟩ := real_of_sq _ (lt_left (q _) (lt_left (q _) l0))
  obtain ⟨x2, e2⟩ := real_of_sq _ (lt_left (q _) (lt_left (q _) l1))
  obtain ⟨x4, e4⟩ := real_of_sq _ (lt_right (q _) (lt_left (q _) l1))
  obtain ⟨x3, e3⟩ := real_of_sq _ (lt_left (q _) (lt_left (q _) l2))
  obtain ⟨x5, e5⟩ := real_of_sq _ (lt_right (q _) (lt_left (q _) l2))
  obtain ⟨x6, e6⟩ := real_of_sq _ (lt_right (add_nonneg (q _) (q _)) l2)
  exact h ⟨x1, x2, x3, x4, x5, x6, 0, 0, 0, 0, 0, 0, 0, 0, 0⟩ e1 e2 e3 e4 e5 e6

/-! ## One step -/

theorem pick_lane (b : IVec Cert.Kernel2Ideal.S80x128 1) (x y : St (Ln Ideal)) : lane r c (Kernel2Ideal.pick b x y) = if b (ix2 r c) = 1#1 then lane r c x else lane r c y := by
  by_cases h : b (ix2 r c) = 1#1
  · rw [if_pos h]
    simp only [St.mp, Kernel2Ideal.pick, Kernel2Ideal.select_at, h, if_true]
  · rw [if_neg h]
    simp only [St.mp, Kernel2Ideal.pick, Kernel2Ideal.select_at, h, if_false]

theorem rel_step {s : St (Ln Ideal)} {A V : M3 Ideal} (h : Rel r c s A V) :
    Rel r c (sweep s) (choose (active A) (A3 A) A) (choose (active A) (W3 A V) V) := by
  obtain ⟨ha, hv, v, hr⟩ := h
  by_cases hx : ∃ x : St ℝ, (lane r c s).a00 = x.a00 ∧ (lane r c s).a01 = x.a01 ∧ (lane r c s).a02 = x.a02 ∧ (lane r c s).a11 = x.a11 ∧ (lane r c s).a12 = x.a12 ∧ (lane r c s).a22 = x.a22
  · obtain ⟨y, h1, h2, h3, h4, h5, h6⟩ := hx
    obtain ⟨x, hx⟩ : ∃ x : St ℝ, lane r c s = x.co := by
      refine ⟨⟨y.a00, y.a01, y.a02, y.a11, y.a12, y.a22, v 0 0, v 0 1, v 0 2, v 1 0, v 1 1, v 1 2, v 2 0, v 2 1, v 2 2⟩, ?_⟩
      have g := hr
      simp only [St.co, St.mp, St.mk.injEq]
      exact ⟨h1, h2, h3, h4, h5, h6, hr 0 0, hr 0 1, hr 0 2, hr 1 0, hr 1 1, hr 1 2, hr 2 0, hr 2 1, hr 2 2⟩
    have iA : Is r c A x.A := fun i j => by rw [ha, hx, eA_co]
    have iV : Is r c V x.V := fun i j => by rw [hv, hx, eV_co]
    have e : (active A (ix2 r c) = 1#1) = (act s (ix2 r c) = 1#1) := by rw [active_real r c iA, act_real r c hx]
    have l : lane r c (sweep s) = if act s (ix2 r c) = 1#1 then (x01 (x12 (x02 x))).co else x.co := by
      rw [sweep, pick_lane, hx, Kernel2Ideal.rot01_lane r c (Kernel2Ideal.rot12_lane r c (Kernel2Ideal.rot02_lane r c hx))]
    by_cases hb : act s (ix2 r c) = 1#1
    · rw [if_pos hb] at l
      have hb' : active A (ix2 r c) = 1#1 := by rw [e]; exact hb
      refine ⟨fun i j => ?_, fun i j => ?_, (x01 (x12 (x02 x))).V, fun i j => by rw [l, eV_co]⟩
      · rw [Reference2Ideal.choose_at, if_pos hb', l, eA_co]; exact Reference2Ideal.A3_is r c iA i j
      · rw [Reference2Ideal.choose_at, if_pos hb', l, eV_co]; exact Reference2Ideal.W3_is r c iA iV i j
    · rw [if_neg hb] at l
      have hb' : ¬ active A (ix2 r c) = 1#1 := by rw [e]; exact hb
      refine ⟨fun i j => ?_, fun i j => ?_, x.V, fun i j => by rw [l, eV_co]⟩
      · rw [Reference2Ideal.choose_at, if_neg hb', l, eA_co]; exact iA i j
      · rw [Reference2Ideal.choose_at, if_neg hb', l, eV_co]; exact iV i j
  · have hn : ∀ x : St ℝ, (lane r c s).a00 = x.a00 → (lane r c s).a01 = x.a01 → (lane r c s).a02 = x.a02 → (lane r c s).a11 = x.a11 → (lane r c s).a12 = x.a12 → (lane r c s).a22 = x.a22 → False :=
      fun x h1 h2 h3 h4 h5 h6 => hx ⟨x, h1, h2, h3, h4, h5, h6⟩
    have hb := act_inf r c hn
    have hb' := active_inf r c ha hn
    have l : lane r c (sweep s) = lane r c s := by rw [sweep, pick_lane, if_neg hb]
    refine ⟨fun i j => ?_, fun i j => ?_, v, fun i j => by rw [l, hr]⟩
    · rw [Reference2Ideal.choose_at, if_neg hb', l, ha]
    · rw [Reference2Ideal.choose_at, if_neg hb', l, hv]

/-- A zero matrix stays, and so do its vectors. -/
theorem zero_step {A V : M3 Ideal} (h : ∀ i j, A (ix4 i j r c) = 0) (i j : Fin 3) :
    choose (active A) (A3 A) A (ix4 i j r c) = 0 ∧ choose (active A) (W3 A V) V (ix4 i j r c) = V (ix4 i j r c) := by
  have hb : ¬ active A (ix2 r c) = 1#1 := by
    rw [active_at, bit_ne, Reference2Ideal.total_at]
    simp [h]
  rw [Reference2Ideal.choose_at, if_neg hb, Reference2Ideal.choose_at, if_neg hb]
  exact ⟨h i j, rfl⟩

end Cert.Proof.Two

end
-- ==== Proof.Sort.lean ====
/-
  The kernel's three exchanges and the reference's ranks put the vectors in the same order.
-/
module

public import proofs.«01_k».proof.Proof.Sweep

@[expose] public section

set_option maxRecDepth 16384

noncomputable section

namespace Cert.Proof.Two

open Idealize.ShloMosaic
open Cert.Proof.Kernel2Ideal (St Ln lane Cols ofSt swap01 swap12 b0 b1 b2 bit_ne)
open Cert.Proof.Reference2Ideal (M3 Pl all3 mm tp ranked)

variable (r : Fin 80) (c : Fin 128)

def laneC (s : Cols (Ln Ideal)) : Cols EReal :=
  ⟨s.w0 (ix2 r c), s.w1 (ix2 r c), s.w2 (ix2 r c), s.c00 (ix2 r c), s.c01 (ix2 r c), s.c02 (ix2 r c), s.c10 (ix2 r c), s.c11 (ix2 r c), s.c12 (ix2 r c), s.c20 (ix2 r c), s.c21 (ix2 r c), s.c22 (ix2 r c)⟩

def sw01 (s : Cols EReal) : Cols EReal :=
  if s.w1 < s.w0 then ⟨s.w1, s.w0, s.w2, s.c10, s.c11, s.c12, s.c00, s.c01, s.c02, s.c20, s.c21, s.c22⟩ else s
def sw12 (s : Cols EReal) : Cols EReal :=
  if s.w2 < s.w1 then ⟨s.w0, s.w2, s.w1, s.c00, s.c01, s.c02, s.c20, s.c21, s.c22, s.c10, s.c11, s.c12⟩ else s
def order (s : Cols EReal) : Cols EReal := sw01 (sw12 (sw01 s))

theorem olt_at (x y : Ln Ideal) : (cmpf .olt x y (ix2 r c) = 1#1) = (x (ix2 r c) < y (ix2 r c)) := by
  show (BitVec.ofBool (decide (x (ix2 r c) < y (ix2 r c))) = 1#1) = _
  rw [bit_ne]

theorem swap01_lane (s : Cols (Ln Ideal)) : laneC r c (swap01 s) = sw01 (laneC r c s) := by
  unfold sw01
  by_cases h : s.w1 (ix2 r c) < s.w0 (ix2 r c)
  · rw [if_pos (show (laneC r c s).w1 < (laneC r c s).w0 from h)]
    simp only [laneC, swap01, Kernel2Ideal.select_at, olt_at, h, if_true]
  · rw [if_neg (show ¬ (laneC r c s).w1 < (laneC r c s).w0 from h)]
    simp only [laneC, swap01, Kernel2Ideal.select_at, olt_at, h, if_false]

theorem swap12_lane (s : Cols (Ln Ideal)) : laneC r c (swap12 s) = sw12 (laneC r c s) := by
  unfold sw12
  by_cases h : s.w2 (ix2 r c) < s.w1 (ix2 r c)
  · rw [if_pos (show (laneC r c s).w2 < (laneC r c s).w1 from h)]
    simp only [laneC, swap12, Kernel2Ideal.select_at, olt_at, h, if_true]
  · rw [if_neg (show ¬ (laneC r c s).w2 < (laneC r c s).w1 from h)]
    simp only [laneC, swap12, Kernel2Ideal.select_at, olt_at, h, if_false]

/-- Entry `i` of vector `k`. -/
def cE (s : Cols EReal) : Fin 3 → Fin 3 → EReal := ![![s.c00, s.c01, s.c02], ![s.c10, s.c11, s.c12], ![s.c20, s.c21, s.c22]]

/-- How many of the three values come before each. -/
def rk (x y z : EReal) : Fin 3 → EReal :=
  ![0 + (if y < x then 1 else 0) + (if z < x then 1 else 0), (if x ≤ y then 1 else 0) + 0 + (if z < y then 1 else 0), (if x ≤ z then 1 else 0) + (if y ≤ z then 1 else 0) + 0]
def kv : Fin 3 → EReal := ![0, 1, ((2 : ℝ) : EReal)]

theorem before_at (x y z : Pl Ideal) (j : Fin 3) : Reference2Ideal.sum0 (Reference2Ideal.before x y z) (ix3 j r c) = rk (x (ix2 r c)) (y (ix2 r c)) (z (ix2 r c)) j := by
  rw [Reference2Ideal.sum0_at]
  unfold Reference2Ideal.before
  rw [Reference2Ideal.rows0_at, Reference2Ideal.rows1_at, Reference2Ideal.rows2_at]
  match j with
  | 0 => rw [Reference2Ideal.st0_at, Reference2Ideal.st0_at, Reference2Ideal.st0_at, Reference2Ideal.zero_at, Reference2Ideal.lt_at, Reference2Ideal.lt_at]; rfl
  | 1 => rw [Reference2Ideal.st1_at, Reference2Ideal.st1_at, Reference2Ideal.st1_at, Reference2Ideal.zero_at, Reference2Ideal.lt_at, Reference2Ideal.le_at]; rfl
  | 2 => rw [Reference2Ideal.st2_at, Reference2Ideal.st2_at, Reference2Ideal.st2_at, Reference2Ideal.zero_at, Reference2Ideal.le_at, Reference2Ideal.le_at]; rfl

theorem ranked_at (A : M3 Ideal) (k l : Fin 3) : ranked A (ix4 k l r c) = if rk (A (ix4 0 0 r c)) (A (ix4 1 1 r c)) (A (ix4 2 2 r c)) l = kv k then 1 else 0 := by
  unfold ranked Reference2Ideal.place
  match k with
  | 0 => rw [Reference2Ideal.rows0_at, Reference2Ideal.isk_at, before_at, b0, Reference2Ideal.e00_at, Reference2Ideal.e11_at, Reference2Ideal.e22_at]; rfl
  | 1 => rw [Reference2Ideal.rows1_at, Reference2Ideal.isk_at, before_at, b1, Reference2Ideal.e00_at, Reference2Ideal.e11_at, Reference2Ideal.e22_at]; rfl
  | 2 => rw [Reference2Ideal.rows2_at, Reference2Ideal.isk_at, before_at, b2, Reference2Ideal.e00_at, Reference2Ideal.e11_at, Reference2Ideal.e22_at]; rfl

theorem two_eq : (1 : EReal) + 1 = ((2 : ℝ) : EReal) := by
  rw [← EReal.coe_one, ← EReal.coe_add]; norm_num
theorem two_ne_one : ((2 : ℝ) : EReal) ≠ 1 := by
  rw [← EReal.coe_one]; exact fun h => by have := EReal.coe_eq_coe_iff.mp h; norm_num at this
theorem two_ne_zero' : ((2 : ℝ) : EReal) ≠ 0 := by
  rw [← EReal.coe_zero]; exact fun h => by have := EReal.coe_eq_coe_iff.mp h; norm_num at this

theorem order_eq (x y z : EReal) (v : Fin 3 → Fin 3 → EReal) (k i : Fin 3) :
    v i 0 * (if rk x y z 0 = kv k then 1 else 0) + v i 1 * (if rk x y z 1 = kv k then 1 else 0) + v i 2 * (if rk x y z 2 = kv k then 1 else 0)
      = cE (order ⟨x, y, z, v 0 0, v 1 0, v 2 0, v 0 1, v 1 1, v 2 1, v 0 2, v 1 2, v 2 2⟩) k i := by
  have n1 := two_ne_one
  have n0 := two_ne_zero'
  have n1' := n1.symm
  have n0' := n0.symm
  rcases lt_or_ge y x with h1 | h1 <;> rcases lt_or_ge z x with h2 | h2 <;> rcases lt_or_ge z y with h3 | h3
  · revert k i
    refine all3 ?_ ?_ ?_ ?_ ?_ ?_ ?_ ?_ ?_ <;>
    simp [rk, kv, order, sw01, sw12, cE, h1, h2, h3, h1.not_ge, h1.not_gt, h2.not_ge, h2.not_gt, h3.not_ge, h3.not_gt, two_eq, n1, n0, n1', n0']
  · revert k i
    refine all3 ?_ ?_ ?_ ?_ ?_ ?_ ?_ ?_ ?_ <;>
    simp [rk, kv, order, sw01, sw12, cE, h1, h2, h3, h1.not_ge, h1.not_gt, h2.not_ge, h2.not_gt, h3.not_gt, two_eq, n1, n0, n1', n0']
  · exact absurd (lt_of_lt_of_le (lt_trans h3 h1) h2) (lt_irrefl _)
  · revert k i
    refine all3 ?_ ?_ ?_ ?_ ?_ ?_ ?_ ?_ ?_ <;>
    simp [rk, kv, order, sw01, sw12, cE, h1, h2, h3, h1.not_ge, h1.not_gt, h2.not_gt, h3.not_gt, two_eq, n1, n0, n1', n0']
  · revert k i
    refine all3 ?_ ?_ ?_ ?_ ?_ ?_ ?_ ?_ ?_ <;>
    simp [rk, kv, order, sw01, sw12, cE, h1, h2, h3, h1.not_gt, h2.not_ge, h2.not_gt, h3.not_ge, h3.not_gt, two_eq, n1, n0, n1', n0']
  · exact absurd (lt_of_lt_of_le h2 (le_trans h1 h3)) (lt_irrefl _)
  · revert k i
    refine all3 ?_ ?_ ?_ ?_ ?_ ?_ ?_ ?_ ?_ <;>
    simp [rk, kv, order, sw01, sw12, cE, h1, h2, h3, h1.not_gt, h2.not_gt, h3.not_ge, h3.not_gt, two_eq, n1, n0, n1', n0']
  · revert k i
    refine all3 ?_ ?_ ?_ ?_ ?_ ?_ ?_ ?_ ?_ <;>
    simp [rk, kv, order, sw01, sw12, cE, h1, h2, h3, h1.not_gt, h2.not_gt, h3.not_gt, two_eq, n1, n0, n1', n0']

/-- The reference's ordered vectors. -/
theorem placed (A V : M3 Ideal) (k i : Fin 3) : mm V (tp (ranked A)) (ix4 i k r c)
    = cE (order ⟨A (ix4 0 0 r c), A (ix4 1 1 r c), A (ix4 2 2 r c), V (ix4 0 0 r c), V (ix4 1 0 r c), V (ix4 2 0 r c), V (ix4 0 1 r c), V (ix4 1 1 r c), V (ix4 2 1 r c), V (ix4 0 2 r c), V (ix4 1 2 r c), V (ix4 2 2 r c)⟩) k i := by
  rw [Reference2Ideal.mm_at, Reference2Ideal.tp_at, Reference2Ideal.tp_at, Reference2Ideal.tp_at, ranked_at, ranked_at, ranked_at]
  exact order_eq _ _ _ (fun i j => V (ix4 i j r c)) k i

/-- At equal values the order stays. -/
theorem order_same (x : EReal) (v00 v10 v20 v01 v11 v21 v02 v12 v22 : EReal) : order ⟨x, x, x, v00, v10, v20, v01, v11, v21, v02, v12, v22⟩ = ⟨x, x, x, v00, v10, v20, v01, v11, v21, v02, v12, v22⟩ := by
  simp [order, sw01, sw12]

end Cert.Proof.Two

end
-- ==== Proof.Qr.lean ====
/-
  The rotation of a lane without neighbours: the kernel's two reflectors on the columns of the identity are the
  reference's orthogonal matrix, the first row with the coin's sign.
-/
module

public import proofs.«01_k».proof.Proof.Sort
public import Idealize.ShloMosaic.Lib.IdealHost

@[expose] public section

set_option maxRecDepth 16384

noncomputable section

namespace Cert.Proof.Two

open Idealize.ShloMosaic
open Cert.Proof.Kernel2Ideal (Ln b0 b1 b2 bm1 bit_ne htau hvec hbeta xn2 isz h3s h3a h3b h2s kf kf_at select_at isz_at add_at sub_at mul_at div_at)
open Cert.Proof.Reference2Ideal (M3 V3 Pl all3 cst cst_at rest hb ht hv)

/-- The reflector's length, scale and entries. -/
def eb (x y z : EReal) : EReal := if x ≤ 0 then Ideal.sqrt (x * x + (y * y + z * z)) else 0 - Ideal.sqrt (x * x + (y * y + z * z))
def et (x y z : EReal) : EReal := if y * y + z * z = 0 then 0 else Ideal.div (eb x y z - x) (eb x y z)
def ev (x y z w : EReal) : EReal := if y * y + z * z = 0 then 0 else Ideal.div w (x - eb x y z)

theorem sqrt_nonneg' (x : EReal) (h : 0 ≤ x) : 0 ≤ Ideal.sqrt x := by
  induction x using EReal.rec with
  | bot => simp at h
  | top => exact le_top
  | coe x => rw [Jac.sqrt_coe x (by exact_mod_cast h)]; exact_mod_cast Real.sqrt_nonneg x

/-- The reflector's divisor is not zero. -/
theorem gap_ne (x y z : EReal) (h : y * y + z * z ≠ 0) : x - eb x y z ≠ 0 := by
  have hr : 0 < y * y + z * z := lt_of_le_of_ne (add_nonneg (Jac.sq_nonneg' y) (Jac.sq_nonneg' z)) h.symm
  have hq : 0 < Ideal.sqrt (x * x + (y * y + z * z)) := by
    have hs : 0 < x * x + (y * y + z * z) := lt_of_lt_of_le hr (le_add_of_nonneg_left (Jac.sq_nonneg' x))
    generalize x * x + (y * y + z * z) = s at hs
    induction s using EReal.rec with
    | bot => simp at hs
    | top => exact EReal.zero_lt_top
    | coe s =>
      have hs' : 0 < s := by exact_mod_cast hs
      rw [Jac.sqrt_coe s hs'.le]; exact_mod_cast Real.sqrt_pos.mpr hs'
  unfold eb
  generalize Ideal.sqrt (x * x + (y * y + z * z)) = m at hq
  split_ifs with hx
  · refine ne_of_lt ?_
    induction m using EReal.rec with
    | bot => simp at hq
    | top =>
      induction x using EReal.rec with
      | bot => exact EReal.bot_lt_zero
      | top => simp at hx
      | coe x => simp [EReal.bot_lt_zero]
    | coe m =>
      induction x using EReal.rec with
      | bot => rw [EReal.bot_sub]; exact EReal.bot_lt_zero
      | top => simp at hx
      | coe x =>
        rw [← EReal.coe_sub]
        have h1 : x ≤ 0 := by exact_mod_cast hx
        have h2 : 0 < m := by exact_mod_cast hq
        exact_mod_cast (by linarith : x - m < 0)
  · have hx' := not_le.mp hx
    refine ne_of_gt ?_
    induction m using EReal.rec with
    | bot => simp at hq
    | top =>
      induction x using EReal.rec with
      | bot => simp at hx'
      | top => simp
      | coe x => simp
    | coe m =>
      induction x using EReal.rec with
      | bot => simp at hx'
      | top =>
        rw [← EReal.coe_zero, ← EReal.coe_sub, EReal.top_sub_coe]; exact EReal.coe_lt_top 0
      | coe x =>
        rw [← EReal.coe_zero, ← EReal.coe_sub, ← EReal.coe_sub]
        have h1 : 0 < x := by exact_mod_cast hx'
        have h2 : 0 < m := by exact_mod_cast hq
        exact_mod_cast (by linarith : 0 < x - (0 - m))

variable (r : Fin 80) (c : Fin 128)

theorem xn2_at (y z : Ln Ideal) : xn2 y z (ix2 r c) = y (ix2 r c) * y (ix2 r c) + z (ix2 r c) * z (ix2 r c) := rfl

theorem hbeta_at (x y z : Ln Ideal) : hbeta x y z (ix2 r c) = eb (x (ix2 r c)) (y (ix2 r c)) (z (ix2 r c)) := by
  show (if BitVec.ofBool (decide (x (ix2 r c) ≤ Ideal.ofBits .f32 0x00000000#32)) = 1#1 then Ideal.sqrt _ else Ideal.ofBits .f32 0x00000000#32 - Ideal.sqrt _) = _
  simp only [bit_ne, b0]
  rfl

theorem htau_at (x y z : Ln Ideal) : htau x y z (ix2 r c) = et (x (ix2 r c)) (y (ix2 r c)) (z (ix2 r c)) := by
  unfold htau et
  rw [select_at]
  simp only [isz_at, xn2_at, kf_at, b0, div_at, sub_at, hbeta_at]

theorem hvec_at (x y z w : Ln Ideal) : hvec x y z w (ix2 r c) = ev (x (ix2 r c)) (y (ix2 r c)) (z (ix2 r c)) (w (ix2 r c)) := by
  unfold hvec ev
  rw [select_at]
  simp only [isz_at, xn2_at, kf_at, b0, b1, mul_at, div_at, sub_at, hbeta_at]
  by_cases h : y (ix2 r c) * y (ix2 r c) + z (ix2 r c) * z (ix2 r c) = 0
  · rw [if_pos h, if_pos h]
  · rw [if_neg h, if_neg h, Ideal.mul_one_div (gap_ne _ _ _ h)]

theorem hb_at (x y z : Pl Ideal) : hb x y z (ix2 r c) = eb (x (ix2 r c)) (y (ix2 r c)) (z (ix2 r c)) := by
  show (if BitVec.ofBool (decide (x (ix2 r c) ≤ cst (F := Ideal) 0x00000000#32 (ix2 r c))) = 1#1 then cst (F := Ideal) 0x3F800000#32 (ix2 r c) else cst (F := Ideal) 0xBF800000#32 (ix2 r c))
    * Ideal.sqrt (x (ix2 r c) * x (ix2 r c) + (y (ix2 r c) * y (ix2 r c) + z (ix2 r c) * z (ix2 r c))) = _
  simp only [bit_ne, cst_at, b0, b1, bm1]
  unfold eb
  by_cases h : x (ix2 r c) ≤ 0
  · rw [if_pos h, if_pos h, one_mul]
  · rw [if_neg h, if_neg h, neg_one_mul, zero_sub]

theorem ht_at (x y z : Pl Ideal) : ht x y z (ix2 r c) = et (x (ix2 r c)) (y (ix2 r c)) (z (ix2 r c)) := by
  show (if BitVec.ofBool (decide (y (ix2 r c) * y (ix2 r c) + z (ix2 r c) * z (ix2 r c) = cst (F := Ideal) 0x00000000#32 (ix2 r c))) = 1#1 then cst (F := Ideal) 0x00000000#32 (ix2 r c)
    else Ideal.div (hb x y z (ix2 r c) - x (ix2 r c)) (hb x y z (ix2 r c))) = _
  simp only [bit_ne, cst_at, b0, hb_at]
  rfl

theorem hv_at (x y z w : Pl Ideal) : hv x y z w (ix2 r c) = ev (x (ix2 r c)) (y (ix2 r c)) (z (ix2 r c)) (w (ix2 r c)) := by
  show (if BitVec.ofBool (decide (y (ix2 r c) * y (ix2 r c) + z (ix2 r c) * z (ix2 r c) = cst (F := Ideal) 0x00000000#32 (ix2 r c))) = 1#1 then cst (F := Ideal) 0x00000000#32 (ix2 r c)
    else Ideal.div (w (ix2 r c)) (x (ix2 r c) - hb x y z (ix2 r c))) = _
  simp only [bit_ne, cst_at, b0, hb_at]
  rfl

/-! ## The noise -/

section
variable (f : FVec Ideal Cert.Kernel2Ideal.S9x80x128 .f32)
theorem n0_at : Cert.Kernel2Ideal.Gen.k0_pay108 (F := Ideal) f (ix2 r c) = f (ix3 0 r c) := by pointwise [Cert.Kernel2Ideal.Gen.k0_pay108]
theorem n1_at : Cert.Kernel2Ideal.Gen.k0_pay109 (F := Ideal) f (ix2 r c) = f (ix3 1 r c) := by pointwise [Cert.Kernel2Ideal.Gen.k0_pay109]
theorem n3_at : Cert.Kernel2Ideal.Gen.k0_pay110 (F := Ideal) f (ix2 r c) = f (ix3 3 r c) := by pointwise [Cert.Kernel2Ideal.Gen.k0_pay110]
theorem n4_at : Cert.Kernel2Ideal.Gen.k0_pay111 (F := Ideal) f (ix2 r c) = f (ix3 4 r c) := by pointwise [Cert.Kernel2Ideal.Gen.k0_pay111]
theorem n6_at : Cert.Kernel2Ideal.Gen.k0_pay112 (F := Ideal) f (ix2 r c) = f (ix3 6 r c) := by pointwise [Cert.Kernel2Ideal.Gen.k0_pay112]
theorem n7_at : Cert.Kernel2Ideal.Gen.k0_pay113 (F := Ideal) f (ix2 r c) = f (ix3 7 r c) := by pointwise [Cert.Kernel2Ideal.Gen.k0_pay113]
end

theorem g00_at (f : FVec Ideal Cert.Reference2Ideal.S9x80x128 .f32) : Reference2Ideal.noise9 f (ix4 0 0 r c) = f (ix3 0 r c) := Reference2Ideal.noise9_at r c 0 0 f
theorem g01_at (f : FVec Ideal Cert.Reference2Ideal.S9x80x128 .f32) : Reference2Ideal.noise9 f (ix4 0 1 r c) = f (ix3 1 r c) := Reference2Ideal.noise9_at r c 0 1 f
theorem g10_at (f : FVec Ideal Cert.Reference2Ideal.S9x80x128 .f32) : Reference2Ideal.noise9 f (ix4 1 0 r c) = f (ix3 3 r c) := Reference2Ideal.noise9_at r c 1 0 f
theorem g11_at (f : FVec Ideal Cert.Reference2Ideal.S9x80x128 .f32) : Reference2Ideal.noise9 f (ix4 1 1 r c) = f (ix3 4 r c) := Reference2Ideal.noise9_at r c 1 1 f
theorem g20_at (f : FVec Ideal Cert.Reference2Ideal.S9x80x128 .f32) : Reference2Ideal.noise9 f (ix4 2 0 r c) = f (ix3 6 r c) := Reference2Ideal.noise9_at r c 2 0 f
theorem g21_at (f : FVec Ideal Cert.Reference2Ideal.S9x80x128 .f32) : Reference2Ideal.noise9 f (ix4 2 1 r c) = f (ix3 7 r c) := Reference2Ideal.noise9_at r c 2 1 f

/-! ## The reflectors at a lane -/

open Cert.Proof.Reference2Ideal (noise9 t0 v0 N1 t1 v1 refl_at st0_at st1_at st2_at one_at zero_at orth Q eye)

variable (f : FVec Ideal Cert.Kernel2Ideal.S9x80x128 .f32)

abbrev zt : EReal := et (f (ix3 0 r c)) (f (ix3 3 r c)) (f (ix3 6 r c))
abbrev za : EReal := ev (f (ix3 0 r c)) (f (ix3 3 r c)) (f (ix3 6 r c)) (f (ix3 3 r c))
abbrev zb : EReal := ev (f (ix3 0 r c)) (f (ix3 3 r c)) (f (ix3 6 r c)) (f (ix3 6 r c))
abbrev zs : EReal := zt r c f * (f (ix3 1 r c) + za r c f * f (ix3 4 r c) + zb r c f * f (ix3 7 r c))
abbrev z11 : EReal := f (ix3 4 r c) - za r c f * zs r c f
abbrev z21 : EReal := f (ix3 7 r c) - zb r c f * zs r c f
abbrev zt' : EReal := et (z11 r c f) (z21 r c f) 0
abbrev zu : EReal := ev (z11 r c f) (z21 r c f) 0 (z21 r c f)

theorem qt_at : Kernel2Ideal.qt (F := Ideal) f (ix2 r c) = zt r c f := by
  rw [Kernel2Ideal.qt, htau_at, n0_at, n3_at, n6_at]
theorem qa_at : Kernel2Ideal.qa (F := Ideal) f (ix2 r c) = za r c f := by
  rw [Kernel2Ideal.qa, hvec_at, n0_at, n3_at, n6_at]
theorem qb_at : Kernel2Ideal.qb (F := Ideal) f (ix2 r c) = zb r c f := by
  rw [Kernel2Ideal.qb, hvec_at, n0_at, n3_at, n6_at]
theorem qs_at : Kernel2Ideal.qs (F := Ideal) f (ix2 r c) = zs r c f := by
  rw [Kernel2Ideal.qs, h3s, mul_at, add_at, add_at, mul_at, mul_at, qt_at, qa_at, qb_at, n1_at, n4_at, n7_at]
theorem r11_at : Kernel2Ideal.r11 (F := Ideal) f (ix2 r c) = z11 r c f := by
  rw [Kernel2Ideal.r11, h3b, sub_at, mul_at, qa_at, n4_at, qs_at]
theorem r21_at : Kernel2Ideal.r21 (F := Ideal) f (ix2 r c) = z21 r c f := by
  rw [Kernel2Ideal.r21, h3b, sub_at, mul_at, qb_at, n7_at, qs_at]
theorem qt'_at : Kernel2Ideal.qt' (F := Ideal) f (ix2 r c) = zt' r c f := by
  rw [Kernel2Ideal.qt', htau_at, r11_at, r21_at, kf_at, b0]
theorem qu_at : Kernel2Ideal.qu (F := Ideal) f (ix2 r c) = zu r c f := by
  rw [Kernel2Ideal.qu, hvec_at, r11_at, r21_at, kf_at, b0]

/-- The two reflectors on a column. -/
abbrev w1 (e1 e2 : EReal) : EReal := e1 - zt' r c f * (e1 + zu r c f * e2)
abbrev w2 (e1 e2 : EReal) : EReal := e2 - zu r c f * (zt' r c f * (e1 + zu r c f * e2))
abbrev wS (e0 e1 e2 : EReal) : EReal := zt r c f * (e0 + za r c f * w1 r c f e1 e2 + zb r c f * w2 r c f e1 e2)
/-- Both reflectors on a column, by entry. -/
def zq (e0 e1 e2 : EReal) : Fin 3 → EReal :=
  ![e0 - wS r c f e0 e1 e2, w1 r c f e1 e2 - za r c f * wS r c f e0 e1 e2, w2 r c f e1 e2 - zb r c f * wS r c f e0 e1 e2]

variable (p0 p1 p2 : Ln Ideal)

theorem m1_at : Kernel2Ideal.m1 (F := Ideal) f p1 p2 (ix2 r c) = w1 r c f (p1 (ix2 r c)) (p2 (ix2 r c)) := by
  rw [Kernel2Ideal.m1, h2s, sub_at, mul_at, add_at, mul_at, qt'_at, qu_at]
theorem m2_at : Kernel2Ideal.m2 (F := Ideal) f p1 p2 (ix2 r c) = w2 r c f (p1 (ix2 r c)) (p2 (ix2 r c)) := by
  rw [Kernel2Ideal.m2, h2s, h3b, sub_at, mul_at, mul_at, add_at, mul_at, qt'_at, qu_at]
theorem qcs_at : Kernel2Ideal.qcs (F := Ideal) f p0 p1 p2 (ix2 r c) = wS r c f (p0 (ix2 r c)) (p1 (ix2 r c)) (p2 (ix2 r c)) := by
  rw [Kernel2Ideal.qcs, h3s, mul_at, add_at, add_at, mul_at, mul_at, qt_at, qa_at, qb_at, m1_at, m2_at]
theorem qc0_at : Kernel2Ideal.qc0 (F := Ideal) f p0 p1 p2 (ix2 r c) = zq r c f (p0 (ix2 r c)) (p1 (ix2 r c)) (p2 (ix2 r c)) 0 := by
  rw [Kernel2Ideal.qc0, sub_at, qcs_at]; rfl
theorem qc1_at : Kernel2Ideal.qc1 (F := Ideal) f p0 p1 p2 (ix2 r c) = zq r c f (p0 (ix2 r c)) (p1 (ix2 r c)) (p2 (ix2 r c)) 1 := by
  rw [Kernel2Ideal.qc1, h3b, sub_at, mul_at, qcs_at, m1_at, qa_at]; rfl
theorem qc2_at : Kernel2Ideal.qc2 (F := Ideal) f p0 p1 p2 (ix2 r c) = zq r c f (p0 (ix2 r c)) (p1 (ix2 r c)) (p2 (ix2 r c)) 2 := by
  rw [Kernel2Ideal.qc2, h3b, sub_at, mul_at, qcs_at, m2_at, qb_at]; rfl

/-! ## The reference's -/

theorem t0_at : t0 (noise9 f) (ix2 r c) = zt r c f := by
  rw [t0, ht_at, Reference2Ideal.e00_at, Reference2Ideal.e10_at, Reference2Ideal.e20_at, g00_at, g10_at, g20_at]
theorem v0_0 : v0 (noise9 f) (ix3 0 r c) = 1 := by rw [v0, st0_at, one_at]
theorem v0_1 : v0 (noise9 f) (ix3 1 r c) = za r c f := by
  rw [v0, st1_at, hv_at, Reference2Ideal.e00_at, Reference2Ideal.e10_at, Reference2Ideal.e20_at, g00_at, g10_at, g20_at]
theorem v0_2 : v0 (noise9 f) (ix3 2 r c) = zb r c f := by
  rw [v0, st2_at, hv_at, Reference2Ideal.e00_at, Reference2Ideal.e10_at, Reference2Ideal.e20_at, g00_at, g10_at, g20_at]

theorem N1_11 : N1 (noise9 f) (ix4 1 1 r c) = z11 r c f := by
  rw [N1, refl_at, t0_at, v0_0, v0_1, v0_2, g01_at, g11_at, g21_at, one_mul]
theorem N1_21 : N1 (noise9 f) (ix4 2 1 r c) = z21 r c f := by
  rw [N1, refl_at, t0_at, v0_0, v0_1, v0_2, g01_at, g11_at, g21_at, one_mul]

theorem t1_at : t1 (noise9 f) (ix2 r c) = zt' r c f := by
  rw [t1, ht_at, Reference2Ideal.e11_at, Reference2Ideal.e21_at, N1_11, N1_21, zero_at]
theorem v1_0 : v1 (noise9 f) (ix3 0 r c) = 0 := by rw [v1, st0_at, zero_at]
theorem v1_1 : v1 (noise9 f) (ix3 1 r c) = 1 := by rw [v1, st1_at, one_at]
theorem v1_2 : v1 (noise9 f) (ix3 2 r c) = zu r c f := by
  rw [v1, st2_at, hv_at, Reference2Ideal.e11_at, Reference2Ideal.e21_at, N1_11, N1_21, zero_at]

theorem inner_0 (X : M3 Ideal) (j : Fin 3) : Reference2Ideal.refl (t1 (noise9 f)) (v1 (noise9 f)) X (ix4 0 j r c) = X (ix4 0 j r c) := by
  rw [refl_at, v1_0, zero_mul, sub_zero]
theorem inner_1 (X : M3 Ideal) (j : Fin 3) : Reference2Ideal.refl (t1 (noise9 f)) (v1 (noise9 f)) X (ix4 1 j r c) = w1 r c f (X (ix4 1 j r c)) (X (ix4 2 j r c)) := by
  rw [refl_at, v1_0, v1_1, v1_2, t1_at, zero_mul, zero_add, one_mul, one_mul]
theorem inner_2 (X : M3 Ideal) (j : Fin 3) : Reference2Ideal.refl (t1 (noise9 f)) (v1 (noise9 f)) X (ix4 2 j r c) = w2 r c f (X (ix4 1 j r c)) (X (ix4 2 j r c)) := by
  rw [refl_at, v1_0, v1_1, v1_2, t1_at, zero_mul, zero_add, one_mul]

theorem orth_at (i j : Fin 3) : orth (noise9 f) (ix4 i j r c) = zq r c f (eye (F := Ideal) (ix4 0 j r c)) (eye (F := Ideal) (ix4 1 j r c)) (eye (F := Ideal) (ix4 2 j r c)) i := by
  rw [orth, refl_at, t0_at, v0_0, v0_1, v0_2, inner_0, inner_1, inner_2]
  match i with
  | 0 => rw [v0_0, inner_0, one_mul, one_mul]; rfl
  | 1 => rw [v0_1, inner_1, one_mul]; rfl
  | 2 => rw [v0_2, inner_2, one_mul]; rfl

/-- The identity's entries. -/
def id3 : Fin 3 → Fin 3 → EReal := ![![1, 0, 0], ![0, 1, 0], ![0, 0, 1]]
theorem eye_at : ∀ i j : Fin 3, eye (F := Ideal) (ix4 i j r c) = id3 i j := by
  refine all3 ?_ ?_ ?_ ?_ ?_ ?_ ?_ ?_ ?_ <;>
    simp [eye, Reference2Ideal.rows0_at, Reference2Ideal.rows1_at, Reference2Ideal.rows2_at, st0_at, st1_at, st2_at, one_at, zero_at, id3]

/-- The coin's sign on an entry of row `i`. -/
def coin (g : EReal) (i : Fin 3) (x : EReal) : EReal := if i = 0 then (if g < Ideal.ofBits .f32 0x3F000000#32 then 0 - x else x) else x

theorem Q_at (g : FVec Ideal Cert.Kernel2Ideal.S1x80x128 .f32) (i j : Fin 3) : Q f g (ix4 i j r c) = coin (g (ix3 0 r c)) i (zq r c f (id3 0 j) (id3 1 j) (id3 2 j) i) := by
  rw [Q, Reference2Ideal.mm_at, orth_at, orth_at, orth_at, eye_at, eye_at, eye_at]
  unfold Reference2Ideal.diag1
  match i with
  | 0 =>
    rw [Reference2Ideal.rows0_at, Reference2Ideal.rows0_at, Reference2Ideal.rows0_at, st0_at, st1_at, st2_at, zero_at, Reference2Ideal.sign_at, bm1, b1, zero_mul, zero_mul, add_zero, add_zero]
    unfold coin
    rw [if_pos rfl]
    split_ifs
    · rw [neg_one_mul, zero_sub]
    · rw [one_mul]
  | 1 =>
    rw [Reference2Ideal.rows1_at, Reference2Ideal.rows1_at, Reference2Ideal.rows1_at, st0_at, st1_at, st2_at, zero_at, one_at, zero_mul, zero_mul, zero_add, add_zero, one_mul]
    rfl
  | 2 =>
    rw [Reference2Ideal.rows2_at, Reference2Ideal.rows2_at, Reference2Ideal.rows2_at, st0_at, st1_at, st2_at, zero_at, one_at, zero_mul, zero_mul, zero_add, zero_add, one_mul]
    rfl

end Cert.Proof.Two

end
-- ==== Proof.Twelve.lean ====
/-
  Twelve sweeps of the kernel and of the reference, side by side.
-/
module

public import proofs.«01_k».proof.Proof.Qr

@[expose] public section

set_option maxRecDepth 16384

noncomputable section

namespace Cert.Proof.Two

open Idealize.ShloMosaic
open Cert.Proof.Kernel2Ideal (St Ln lane Cols ofSt swp srt trip sweep pack unpack outv up1 flipped b0 b1 b2 bit_ne kf kf_at select_at sub_at)
open Cert.Proof.Reference2Ideal (M3 Pl all3 choose choose_at active A3 W3 Q eye zero3 sym cov9 outR)
open Cert.Reference2Ideal.Step (State step init)

variable (a : FVec Ideal Cert.Kernel2Ideal.S16x80x128 .f32) (b : FVec Ideal Cert.Kernel2Ideal.S9x80x128 .f32) (f : FVec Ideal Cert.Kernel2Ideal.S1x80x128 .f32)

/-- The reference's states. -/
def seq : ℕ → State Ideal
  | 0 => init a f b
  | n + 1 => step n (seq n)

/-- The kernel's first state. -/
def st0 : St (Ln Ideal) := unpack (Cert.Kernel2Ideal.Gen.k0_pay62 a, Cert.Kernel2Ideal.Gen.k0_pay63 a, Cert.Kernel2Ideal.Gen.k0_pay64 a, Cert.Kernel2Ideal.Gen.k0_pay65 a, Cert.Kernel2Ideal.Gen.k0_pay66 a, Cert.Kernel2Ideal.Gen.k0_pay67 a,
    kf 0x3F800000#32, kf 0x00000000#32, kf 0x00000000#32, kf 0x00000000#32, kf 0x3F800000#32, kf 0x00000000#32, kf 0x00000000#32, kf 0x00000000#32, kf 0x3F800000#32)

theorem foldl_trip {γ : Type} (l : List γ) : ∀ x : Kernel2Ideal.T15 Ideal, unpack (l.foldl (fun acc _ => trip acc) x) = sweep^[l.length] (unpack x) := by
  induction l with
  | nil => intro x; rfl
  | cons y l ih => intro x; rw [List.foldl_cons, ih, List.length_cons, Function.iterate_succ_apply]; rfl

theorem swp_eq : unpack (swp a) = sweep^[12] (st0 a) := by
  unfold swp
  rw [Scf.fold_eq, foldl_trip, List.length_finRange]
  rfl

theorem seq_const (n : ℕ) : (seq a b f n).main_v31_0 = a ∧ (seq a b f n).main_v31_1 = f ∧ (seq a b f n).main_v31_2 = b := by
  induction n with
  | zero => exact ⟨rfl, rfl, rfl⟩
  | succ n ih => exact ih

theorem seq_A (n : ℕ) : (seq a b f (n + 1)).main_v31_5 = choose (F := Ideal) (active (F := Ideal) (seq a b f n).main_v31_5) (A3 (F := Ideal) (seq a b f n).main_v31_5) (seq a b f n).main_v31_5 := by
  rw [seq, Reference2Ideal.step_eq]
theorem seq_V (n : ℕ) : (seq a b f (n + 1)).main_v31_6 = choose (F := Ideal) (Reference2Ideal.alone a) (Q b f) (choose (F := Ideal) (active (F := Ideal) (seq a b f n).main_v31_5) (W3 (F := Ideal) (seq a b f n).main_v31_5 (seq a b f n).main_v31_6) (seq a b f n).main_v31_6) := by
  obtain ⟨h0, h1, h2⟩ := seq_const a b f n
  rw [seq, Reference2Ideal.step_eq, h0, h1, h2]
theorem seq_A0 : (seq a b f 0).main_v31_5 = choose (F := Ideal) (Reference2Ideal.alone a) zero3 (sym (cov9 a)) := by
  rw [seq, Reference2Ideal.init_eq]
theorem seq_V0 : (seq a b f 0).main_v31_6 = eye (F := Ideal) := by
  rw [seq, Reference2Ideal.init_eq]

variable (r : Fin 80) (c : Fin 128)

/-! ## A lane without neighbours -/

theorem lone_A (h : Reference2Ideal.alone a (ix2 r c) = 1#1) (n : ℕ) : ∀ i j, (seq a b f n).main_v31_5 (ix4 i j r c) = 0 := by
  induction n with
  | zero => intro i j; rw [seq_A0, choose_at, if_pos h, Reference2Ideal.zero3_at]
  | succ n ih => intro i j; rw [seq_A]; exact (zero_step r c (V := (seq a b f n).main_v31_6) ih i j).1

theorem lone_V (h : Reference2Ideal.alone a (ix2 r c) = 1#1) (n : ℕ) (i j : Fin 3) : (seq a b f (n + 1)).main_v31_6 (ix4 i j r c) = Q b f (ix4 i j r c) := by
  rw [seq_V, choose_at, if_pos h]

/-! ## A lane with neighbours -/

theorem rel_congr {s : St (Ln Ideal)} {A V V' : M3 Ideal} (h : Rel r c s A V) (e : ∀ i j, V' (ix4 i j r c) = V (ix4 i j r c)) : Rel r c s A V' :=
  ⟨h.a, fun i j => (e i j).trans (h.v i j), h.re⟩

theorem half_at (i j : Fin 3) : sym (cov9 a) (ix4 i j r c) = (a (ix3 ⟨i * 3 + j, by omega⟩ r c) + a (ix3 ⟨j * 3 + i, by omega⟩ r c)) * Ideal.ofBits .f32 0x3F000000#32 := by
  rw [Reference2Ideal.sym_at, Reference2Ideal.cov9_at, Reference2Ideal.cov9_at]

theorem p0_at : Cert.Kernel2Ideal.Gen.k0_pay62 (F := Ideal) a (ix2 r c) = (a (ix3 0 r c) + a (ix3 0 r c)) * Ideal.ofBits .f32 0x3F000000#32 := by pointwise [Cert.Kernel2Ideal.Gen.k0_pay62]
theorem p1_at : Cert.Kernel2Ideal.Gen.k0_pay63 (F := Ideal) a (ix2 r c) = (a (ix3 1 r c) + a (ix3 3 r c)) * Ideal.ofBits .f32 0x3F000000#32 := by pointwise [Cert.Kernel2Ideal.Gen.k0_pay63]
theorem p2_at : Cert.Kernel2Ideal.Gen.k0_pay64 (F := Ideal) a (ix2 r c) = (a (ix3 2 r c) + a (ix3 6 r c)) * Ideal.ofBits .f32 0x3F000000#32 := by pointwise [Cert.Kernel2Ideal.Gen.k0_pay64]
theorem p4_at : Cert.Kernel2Ideal.Gen.k0_pay65 (F := Ideal) a (ix2 r c) = (a (ix3 4 r c) + a (ix3 4 r c)) * Ideal.ofBits .f32 0x3F000000#32 := by pointwise [Cert.Kernel2Ideal.Gen.k0_pay65]
theorem p5_at : Cert.Kernel2Ideal.Gen.k0_pay66 (F := Ideal) a (ix2 r c) = (a (ix3 5 r c) + a (ix3 7 r c)) * Ideal.ofBits .f32 0x3F000000#32 := by pointwise [Cert.Kernel2Ideal.Gen.k0_pay66]
theorem p8_at : Cert.Kernel2Ideal.Gen.k0_pay67 (F := Ideal) a (ix2 r c) = (a (ix3 8 r c) + a (ix3 8 r c)) * Ideal.ofBits .f32 0x3F000000#32 := by pointwise [Cert.Kernel2Ideal.Gen.k0_pay67]

theorem lane0 : lane r c (st0 a) = ⟨Cert.Kernel2Ideal.Gen.k0_pay62 (F := Ideal) a (ix2 r c), Cert.Kernel2Ideal.Gen.k0_pay63 (F := Ideal) a (ix2 r c), Cert.Kernel2Ideal.Gen.k0_pay64 (F := Ideal) a (ix2 r c), Cert.Kernel2Ideal.Gen.k0_pay65 (F := Ideal) a (ix2 r c),
    Cert.Kernel2Ideal.Gen.k0_pay66 (F := Ideal) a (ix2 r c), Cert.Kernel2Ideal.Gen.k0_pay67 (F := Ideal) a (ix2 r c), 1, 0, 0, 0, 1, 0, 0, 0, 1⟩ := by
  simp only [St.mp, st0, unpack, kf_at, b0, b1]

theorem rel0 (h : ¬ Reference2Ideal.alone a (ix2 r c) = 1#1) : Rel r c (st0 a) (seq a b f 0).main_v31_5 (seq a b f 0).main_v31_6 := by
  refine ⟨fun i j => ?_, fun i j => ?_, ![![1, 0, 0], ![0, 1, 0], ![0, 0, 1]], ?_⟩
  · rw [seq_A0, choose_at, if_neg h, half_at, lane0, p0_at, p1_at, p2_at, p4_at, p5_at, p8_at]
    revert i j
    refine all3 rfl rfl rfl ?_ rfl rfl ?_ ?_ rfl
    · exact congrArg (· * _) (add_comm _ _)
    · exact congrArg (· * _) (add_comm _ _)
    · exact congrArg (· * _) (add_comm _ _)
  · rw [seq_V0, eye_at, lane0]
    revert i j
    exact all3 rfl rfl rfl rfl rfl rfl rfl rfl rfl
  · rw [lane0]
    refine all3 ?_ ?_ ?_ ?_ ?_ ?_ ?_ ?_ ?_ <;> simp [eV]

theorem rel_n (h : ¬ Reference2Ideal.alone a (ix2 r c) = 1#1) (n : ℕ) : Rel r c (sweep^[n] (st0 a)) (seq a b f n).main_v31_5 (seq a b f n).main_v31_6 := by
  induction n with
  | zero => exact rel0 a b f r c h
  | succ n ih =>
    rw [Function.iterate_succ_apply', seq_A, seq_V]
    refine rel_congr r c (rel_step r c ih) fun i j => ?_
    rw [choose_at, if_neg h]

end Cert.Proof.Two

end
-- ==== Proof.Planes.lean ====
/-
  The kernel's array of frames, plane by plane.
-/
module

public import proofs.«01_k».proof.Proof.Twelve

@[expose] public section

set_option maxRecDepth 16384

noncomputable section

namespace Cert.Proof.Two

open Idealize.ShloMosaic
open Cert.Proof.Kernel2Ideal (St Ln lane Cols ofSt swp srt trip sweep pack unpack outv up1 flipped b0 b1 b2 bit_ne kf kf_at select_at sub_at)
open Cert.Proof.Reference2Ideal (M3 Pl all3 choose choose_at active A3 W3 Q eye zero3 sym cov9 outR)
open Cert.Reference2Ideal.Step (State step init)

variable (a : FVec Ideal Cert.Kernel2Ideal.S16x80x128 .f32) (b : FVec Ideal Cert.Kernel2Ideal.S9x80x128 .f32) (f : FVec Ideal Cert.Kernel2Ideal.S1x80x128 .f32)

variable (r : Fin 80) (c : Fin 128)

/-! ## The arrays -/

theorem alone_eq : (Kernel2Ideal.alone (F := Ideal) a (ix2 r c) = 1#1) = (Reference2Ideal.alone a (ix2 r c) = 1#1) := by
  have e : Cert.Kernel2Ideal.Gen.k0_pay68 (F := Ideal) a (ix2 r c) = a (ix3 9 r c) := by pointwise [Cert.Kernel2Ideal.Gen.k0_pay68]
  rw [Reference2Ideal.alone_at, ← e]
  rfl

theorem flipped_at (x : Ln Ideal) : flipped (F := Ideal) f x (ix2 r c) = coin (f (ix3 0 r c)) 0 (x (ix2 r c)) := by
  have e : (Cert.Kernel2Ideal.Gen.k0_pay151 (F := Ideal) f (ix2 r c) = 1#1) = (f (ix3 0 r c) < Ideal.ofBits .f32 0x3F000000#32) := by
    have : Cert.Kernel2Ideal.Gen.k0_pay151 (F := Ideal) f (ix2 r c) = BitVec.ofBool (decide (f (ix3 0 r c) < Ideal.ofBits .f32 0x3F000000#32)) := by pointwise [Cert.Kernel2Ideal.Gen.k0_pay151]
    rw [this, bit_ne]
  unfold flipped coin
  rw [select_at, if_pos rfl]
  simp only [e, sub_at, kf_at, b0]

theorem O_at : Kernel2Ideal.O Ideal (ix2 r c) = 0 := by rw [Kernel2Ideal.O, kf_at, b0]
theorem I_at : Kernel2Ideal.I Ideal (ix2 r c) = 1 := by rw [Kernel2Ideal.I, kf_at, b1]

/-- The kernel's result, plane by plane. -/
theorem outv_at (k : Fin 9) : outv (F := Ideal) a b f (ix3 k r c) = if Reference2Ideal.alone a (ix2 r c) = 1#1
    then coin (f (ix3 0 r c)) ⟨k % 3, by omega⟩ (zq r c b (id3 0 ⟨k / 3, by omega⟩) (id3 1 ⟨k / 3, by omega⟩) (id3 2 ⟨k / 3, by omega⟩) ⟨k % 3, by omega⟩)
    else cE (laneC r c (srt a)) ⟨k / 3, by omega⟩ ⟨k % 3, by omega⟩ := by
  match k with
  | 0 =>
    have e : outv (F := Ideal) a b f (ix3 0 r c) = select (Kernel2Ideal.alone (F := Ideal) a) (flipped f (Kernel2Ideal.qc0 b (Kernel2Ideal.I Ideal) (Kernel2Ideal.O Ideal) (Kernel2Ideal.O Ideal))) (srt a).c00 (ix2 r c) := by pointwise [outv, up1] <;> rfl
    rw [e, select_at]; simp only [alone_eq, flipped_at, qc0_at, I_at, O_at]; rfl
  | 1 =>
    have e : outv (F := Ideal) a b f (ix3 1 r c) = select (Kernel2Ideal.alone (F := Ideal) a) (Kernel2Ideal.qc1 b (Kernel2Ideal.I Ideal) (Kernel2Ideal.O Ideal) (Kernel2Ideal.O Ideal)) (srt a).c01 (ix2 r c) := by pointwise [outv, up1] <;> rfl
    rw [e, select_at]; simp only [alone_eq, qc1_at, I_at, O_at]; rfl
  | 2 =>
    have e : outv (F := Ideal) a b f (ix3 2 r c) = select (Kernel2Ideal.alone (F := Ideal) a) (Kernel2Ideal.qc2 b (Kernel2Ideal.I Ideal) (Kernel2Ideal.O Ideal) (Kernel2Ideal.O Ideal)) (srt a).c02 (ix2 r c) := by pointwise [outv, up1] <;> rfl
    rw [e, select_at]; simp only [alone_eq, qc2_at, I_at, O_at]; rfl
  | 3 =>
    have e : outv (F := Ideal) a b f (ix3 3 r c) = select (Kernel2Ideal.alone (F := Ideal) a) (flipped f (Kernel2Ideal.qc0 b (Kernel2Ideal.O Ideal) (Kernel2Ideal.I Ideal) (Kernel2Ideal.O Ideal))) (srt a).c10 (ix2 r c) := by pointwise [outv, up1] <;> rfl
    rw [e, select_at]; simp only [alone_eq, flipped_at, qc0_at, I_at, O_at]; rfl
  | 4 =>
    have e : outv (F := Ideal) a b f (ix3 4 r c) = select (Kernel2Ideal.alone (F := Ideal) a) (Kernel2Ideal.qc1 b (Kernel2Ideal.O Ideal) (Kernel2Ideal.I Ideal) (Kernel2Ideal.O Ideal)) (srt a).c11 (ix2 r c) := by pointwise [outv, up1] <;> rfl
    rw [e, select_at]; simp only [alone_eq, qc1_at, I_at, O_at]; rfl
  | 5 =>
    have e : outv (F := Ideal) a b f (ix3 5 r c) = select (Kernel2Ideal.alone (F := Ideal) a) (Kernel2Ideal.qc2 b (Kernel2Ideal.O Ideal) (Kernel2Ideal.I Ideal) (Kernel2Ideal.O Ideal)) (srt a).c12 (ix2 r c) := by pointwise [outv, up1] <;> rfl
    rw [e, select_at]; simp only [alone_eq, qc2_at, I_at, O_at]; rfl
  | 6 =>
    have e : outv (F := Ideal) a b f (ix3 6 r c) = select (Kernel2Ideal.alone (F := Ideal) a) (flipped f (Kernel2Ideal.qc0 b (Kernel2Ideal.O Ideal) (Kernel2Ideal.O Ideal) (Kernel2Ideal.I Ideal))) (srt a).c20 (ix2 r c) := by pointwise [outv, up1] <;> rfl
    rw [e, select_at]; simp only [alone_eq, flipped_at, qc0_at, I_at, O_at]; rfl
  | 7 =>
    have e : outv (F := Ideal) a b f (ix3 7 r c) = select (Kernel2Ideal.alone (F := Ideal) a) (Kernel2Ideal.qc1 b (Kernel2Ideal.O Ideal) (Kernel2Ideal.O Ideal) (Kernel2Ideal.I Ideal)) (srt a).c21 (ix2 r c) := by pointwise [outv, up1] <;> rfl
    rw [e, select_at]; simp only [alone_eq, qc1_at, I_at, O_at]; rfl
  | 8 =>
    have e : outv (F := Ideal) a b f (ix3 8 r c) = select (Kernel2Ideal.alone (F := Ideal) a) (Kernel2Ideal.qc2 b (Kernel2Ideal.O Ideal) (Kernel2Ideal.O Ideal) (Kernel2Ideal.I Ideal)) (srt a).c22 (ix2 r c) := by pointwise [outv, up1] <;> rfl
    rw [e, select_at]; simp only [alone_eq, qc2_at, I_at, O_at]; rfl

end Cert.Proof.Two

end
-- ==== Proof.Last.lean ====
/-
  The kernel's array of frames and the reference's are the same.
-/
module

public import proofs.«01_k».proof.Proof.Planes

@[expose] public section

set_option maxRecDepth 16384

noncomputable section

namespace Cert.Proof.Two

open Idealize.ShloMosaic
open Cert.Proof.Kernel2Ideal (St Ln lane Cols ofSt swp srt trip sweep pack unpack outv up1 flipped b0 b1 b2 bit_ne kf kf_at select_at sub_at)
open Cert.Proof.Reference2Ideal (M3 Pl all3 choose choose_at active A3 W3 Q eye zero3 sym cov9 outR)
open Cert.Reference2Ideal.Step (State step init)

variable (a : FVec Ideal Cert.Kernel2Ideal.S16x80x128 .f32) (b : FVec Ideal Cert.Kernel2Ideal.S9x80x128 .f32) (f : FVec Ideal Cert.Kernel2Ideal.S1x80x128 .f32)

variable (r : Fin 80) (c : Fin 128)

theorem laneC_st (s : St (Ln Ideal)) : laneC r c (ofSt s) = ⟨eA (lane r c s) 0 0, eA (lane r c s) 1 1, eA (lane r c s) 2 2, eV (lane r c s) 0 0, eV (lane r c s) 1 0, eV (lane r c s) 2 0,
    eV (lane r c s) 0 1, eV (lane r c s) 1 1, eV (lane r c s) 2 1, eV (lane r c s) 0 2, eV (lane r c s) 1 2, eV (lane r c s) 2 2⟩ := rfl

theorem V_cE (h : Fin 3 → Fin 3 → EReal) (x : EReal) (y i : Fin 3) : cE ⟨x, x, x, h 0 0, h 1 0, h 2 0, h 0 1, h 1 1, h 2 1, h 0 2, h 1 2, h 2 2⟩ y i = h i y := by
  revert y i
  exact all3 rfl rfl rfl rfl rfl rfl rfl rfl rfl

theorem same_at (k : Fin 9) : outv (F := Ideal) a b f (ix3 k r c) = outR (seq a b f 12).main_v31_5 (seq a b f 12).main_v31_6 (ix3 k r c) := by
  rw [outv_at, Reference2Ideal.outR_at, placed]
  by_cases h : Reference2Ideal.alone a (ix2 r c) = 1#1
  · rw [if_pos h]
    have hA := lone_A a b f r c h 12
    have hV := lone_V a b f r c h 11
    simp only [hA, hV, order_same]
    rw [← Q_at]
    exact (V_cE (fun i j => Q b f (ix4 i j r c)) 0 _ _).symm
  · rw [if_neg h]
    have R := rel_n a b f r c h 12
    have e : laneC r c (srt a) = order (laneC r c (ofSt (unpack (swp a)))) := by
      unfold srt order
      rw [swap01_lane, swap12_lane, swap01_lane]
    rw [e, swp_eq, R.a 0 0, R.a 1 1, R.a 2 2, R.v 0 0, R.v 1 0, R.v 2 0, R.v 0 1, R.v 1 1, R.v 2 1, R.v 0 2, R.v 1 2, R.v 2 2, laneC_st]

theorem same : outv (F := Ideal) a b f = outR (seq a b f 12).main_v31_5 (seq a b f 12).main_v31_6 := by
  funext x
  rw [show x = ix3 (x 0) (x 1) (x 2) from eq_ix3 x]
  exact same_at a b f _ _ _

end Cert.Proof.Two

end
-- ==== Proof.lean ====
/-
  The certificate of the two kernels: squared distances, the 64-neighbour threshold, covariances and counts; and the
  frames made of the covariances.
-/
module

public import proofs.«01_k».proof.Defs
public import proofs.«01_k».proof.Proof.K.Regs
public import proofs.«01_k».proof.Proof.Value
public import proofs.«01_k».proof.Proof.Gen.ReferenceIdeal.Run
public import proofs.«01_k».proof.Proof.Gen.Pre_separated
public import proofs.«01_k».proof.Proof.Whole
public import proofs.«01_k».proof.Proof.Last
public import proofs.«01_k».proof.Proof.Gen.Reference2Ideal.StepRun
public import proofs.«01_k».proof.Proof.K.RF
public import Idealize.ShloMosaic.Adequacy
public import Idealize.ShloMosaic.Init

@[expose] public section

noncomputable section

namespace Cert.Proof

open Idealize.ShloMosaic Idealize.SL.Sem

/-- The reference has no semaphore, so every counter reads zero at its end. -/
theorem frame_r : Cert.quiescent_ReferenceIdeal := fun m ρ _ =>
  (θ_run Cert.ReferenceIdeal.defs _ _).mono
    (fun r h => ⟨fun c => (h c).2, by
      funext s
      exact (Finset.notMem_empty s.2 ((by decide : (Finset.univ : Finset (SemLoc Cert.ReferenceIdeal.sig)) = ∅) ▸ Finset.mem_univ s.2)).elim⟩)
    (Cert.ReferenceIdeal.Value.run (F := Ideal) m ρ)

/-- The frames reference's run: its twelve sweeps, the result read from the last. -/
theorem run_r2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v89)
        = Cert.Reference2Ideal.Step.R_main_v89 (F := Ideal) (Two.seq (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))
            (m ((c.tc : Thread Cert.Reference2Ideal.nD Cert.Reference2Ideal.τ).loc Cert.Reference2Ideal.main_arg2)) 12)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) :=
  Cert.Reference2Ideal.StepRun.run_iter (F := Ideal) m ρ
    (fun c => Two.seq (m ((c.tc : Thread Cert.Reference2Ideal.nD Cert.Reference2Ideal.τ).loc Cert.Reference2Ideal.main_arg0))
      (m ((c.tc : Thread Cert.Reference2Ideal.nD Cert.Reference2Ideal.τ).loc Cert.Reference2Ideal.main_arg1))
      (m ((c.tc : Thread Cert.Reference2Ideal.nD Cert.Reference2Ideal.τ).loc Cert.Reference2Ideal.main_arg2)))
    (fun _ => rfl) (fun _ _ => rfl)

/-- The frames reference has no semaphore either. -/
theorem frame_r2 : Cert.quiescent_Reference2Ideal := fun m ρ _ =>
  (θ_run Cert.Reference2Ideal.defs _ _).mono
    (fun r h => ⟨fun c => (h c).2, by
      funext s
      exact (Finset.notMem_empty s.2 ((by decide : (Finset.univ : Finset (SemLoc Cert.Reference2Ideal.sig)) = ∅) ▸ Finset.mem_univ s.2)).elim⟩)
    (run_r2 m ρ)

/-- The last state's result is the frames kernel's array. -/
theorem res_r2 (a : FVec Ideal Cert.Kernel2Ideal.S16x80x128 .f32) (b : FVec Ideal Cert.Kernel2Ideal.S9x80x128 .f32) (f : FVec Ideal Cert.Kernel2Ideal.S1x80x128 .f32) :
    Cert.Reference2Ideal.Step.R_main_v89 (F := Ideal) (Two.seq a b f 12) = Cert.Proof.Kernel2Ideal.outv (F := Ideal) a b f :=
  (Cert.Proof.Reference2Ideal.res_eq _).trans (Two.same a b f).symm

/-- The frames kernel's result is the frames reference's. -/
theorem algebraic2 : Cert.algebraic_Kernel2Ideal_Reference2Ideal := fun m g m' g' _ hag =>
  ⟨fun c => Cert.Proof.Kernel2Ideal.outv (F := Ideal) (Cert.Proof.Kernel2Ideal.arg0 m c) (Cert.Proof.Kernel2Ideal.arg1 m c) (Cert.Proof.Kernel2Ideal.arg2 m c),
    (θ_run _ _ _).mono (fun r h c =>
      ⟨((h.1 c).1 3).trans (Cert.Proof.Kernel2Ideal.final m c),
        ((h.1 c).1 0).trans (((Cert.Proof.Kernel2Ideal.dat m 0 c).arrAt_in 0 rfl _).trans ((Cert.Proof.Kernel2Ideal.dat_A m c 0).trans (Cert.Kernel2Ideal.Gen.V_main_arg0 m c))),
        ((h.1 c).1 1).trans (((Cert.Proof.Kernel2Ideal.dat m 0 c).arrAt_in 1 rfl _).trans ((Cert.Proof.Kernel2Ideal.dat_A m c 1).trans (Cert.Kernel2Ideal.Gen.V_main_arg1 m c))),
        ((h.1 c).1 2).trans (((Cert.Proof.Kernel2Ideal.dat m 0 c).arrAt_in 2 rfl _).trans ((Cert.Proof.Kernel2Ideal.dat_A m c 2).trans (Cert.Kernel2Ideal.Gen.V_main_arg2 m c)))⟩)
      (Cert.Proof.Kernel2Ideal.run_all (F := Ideal) m g),
    (θ_run _ _ _).mono (fun r h c =>
      ⟨(h c).1.trans ((res_r2 _ _ _).trans (congr (congr (congrArg (Cert.Proof.Kernel2Ideal.outv (F := Ideal)) (hag c).1) (hag c).2.1) (hag c).2.2)), (h c).2⟩)
      (run_r2 m' g')⟩

/-- The kernel's result is the reference's. -/
theorem algebraic : Cert.algebraic_KernelIdeal_ReferenceIdeal_pre_separated := fun m g m' g' hpre hag =>
  ⟨fun c => Cert.Proof.ReferenceIdeal.refOut (F := Ideal) (Cert.Proof.KernelIdeal.argA m c),
    (θ_run _ _ _).mono (fun r h c =>
      ⟨((h.1 c).2 Cert.KernelIdeal.main_v4 (Pipeline.mem_restRefs_of Cert.KernelIdeal.main_v4 (by decide) (by decide))).trans
          (Cert.Proof.KernelIdeal.out_eq m c (hpre c).1 (hpre c).2),
        ((h.1 c).2 Cert.KernelIdeal.main_arg0 (Pipeline.mem_restRefs_of Cert.KernelIdeal.main_arg0 (by decide) (by decide))).trans
          (Cert.KernelIdeal.Gen.W_main_arg0 m (Cert.Proof.KernelIdeal.dat m) c)⟩) (Cert.Proof.KernelIdeal.run_all m g),
    (θ_run _ _ _).mono (fun r h c =>
      ⟨(h c).1.trans ((Cert.Proof.ReferenceIdeal.res_eq m' c).trans (congrArg (Cert.Proof.ReferenceIdeal.refOut (F := Ideal)) (hag c))), (h c).2⟩)
      (Cert.ReferenceIdeal.Value.run (F := Ideal) m' g')⟩

theorem claim : Cert.Claim := ⟨Cert.Kernel2.Gen.facts, Cert.Kernel2Ideal.Gen.facts, Cert.Kernel.Gen.facts, Cert.KernelIdeal.Gen.facts, Cert.ReferenceIdeal.Gen.facts, Cert.Reference2Ideal.Gen.facts, Cert.Pre_separated.Gen.facts,
  fun m ρ _ => Cert.Proof.Kernel2.frame (F := Bits) m ρ, fun m ρ _ => Cert.Proof.Kernel2Ideal.frame (F := Ideal) m ρ,
  fun m ρ _ => Cert.Proof.Kernel.frame (F := Bits) m ρ, fun m ρ _ => Cert.Proof.KernelIdeal.frame (F := Ideal) m ρ, fun m ρ _ => Cert.Proof.KernelIdeal.frame (F := Ideal) m ρ,
  frame_r, fun m ρ h => frame_r m ρ trivial, frame_r2, trivial, trivial, algebraic, algebraic2⟩

end Cert.Proof

end
